-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_context [hPre_finite_context : Cert.Pre_finite_context.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_context.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_context [hPre_finite_context : Cert.Pre_finite_context.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_context.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_context [hKernel11Ideal : Cert.Kernel11Ideal.Facts] [hPre_finite_context : Cert.Pre_finite_context.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_context m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_context [hReference11Ideal : Cert.Reference11Ideal.Facts] [hPre_finite_context : Cert.Pre_finite_context.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_context m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v32_0)) (v1 : (c : Dev Cert.Kernel10Ideal.nD) → Buf (Elt Ideal) ((c.tc : Thread Cert.Kernel10Ideal.nD Cert.Kernel10Ideal.τ).loc Cert.Kernel10Ideal.main_v32_1)) (v2 : (c : Dev Cert.Kernel10Ideal.nD) → Buf (Elt Ideal) ((c.tc : Thread Cert.Kernel10Ideal.nD Cert.Kernel10Ideal.τ).loc Cert.Kernel10Ideal.main_v32_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v32_0) = v0 c
          ∧ r.2.mem ((c.tc : Thread Cert.Kernel10Ideal.nD Cert.Kernel10Ideal.τ).loc Cert.Kernel10Ideal.main_v32_1) = v1 c
          ∧ r.2.mem ((c.tc : Thread Cert.Kernel10Ideal.nD Cert.Kernel10Ideal.τ).loc Cert.Kernel10Ideal.main_v32_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v67) = v0 c
          ∧ r.2.mem ((c.tc : Thread Cert.Reference10Ideal.nD Cert.Reference10Ideal.τ).loc Cert.Reference10Ideal.main_v69) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal_pre_finite_context [hKernel11Ideal : Cert.Kernel11Ideal.Facts] [hReference11Ideal : Cert.Reference11Ideal.Facts] [hPre_finite_context : Cert.Pre_finite_context.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_context m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_context : Cert.Pre_finite_context.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_context (hKernel11Ideal := hKernel11Ideal) (hPre_finite_context := hPre_finite_context)
    ∧ quiescent_Reference11Ideal (hReference11Ideal := hReference11Ideal)
    ∧ quiescent_Reference11Ideal_pre_finite_context (hReference11Ideal := hReference11Ideal) (hPre_finite_context := hPre_finite_context)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_context (hKernel11Ideal := hKernel11Ideal) (hReference11Ideal := hReference11Ideal) (hPre_finite_context := hPre_finite_context)
-- ==== Pre_finite.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_
  bcast_S_S4x256x2x64 : S_.BroadcastsInDim S4x256x2x64 (![] : Fin 0 → Fin S4x256x2x64.rank)
  reducesTo_S4x256x2x64_S_d0_1_2_3 : S4x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4x4096x8x64 .f32) (main_arg1 : FVec F S4x4096x2x64 .f32) (main_arg2 : FVec F S4x4096x2x64 .f32) (main_arg3 : FVec F S4x256x2x64 .f32) (main_arg4 : FVec F S4x256x2x64 .f32) (main_arg5 : FVec F S8 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x2x64 .f32 := Host.absf main_arg1
  let main_cst_0 : FVec F S_ .f32 := constant S_ .f32 0x7F800000#32
  let main_v5 : FVec F S4x4096x2x64 .f32 := broadcastInDim S4x4096x2x64 ![] bcast_S_S4x4096x2x64 main_cst_0
  let main_v6 : IVec S4x4096x2x64 1 := cmpf .olt main_v4 main_v5
  let main_c_1 : IVec S_ 1 := constantI S_ 1 1#1
  let main_v7 : IVec S_ 1 := (fun x v => Host.reduce IntOp.andi x v reducesTo_S4x4096x2x64_S_d0_1_2_3 h_S_) main_v6 main_c_1
  let main_v8 : IVec S_ 1 := andi main_v3 main_v7
  let main_v9 : FVec F S4x256x2x64 .f32 := Host.absf main_arg3
  let main_cst_2 : FVec F S_ .f32 := constant S_ .f32 0x7F800000#32
  let main_v10 : FVec F S4x256x2x64 .f32 := broadcastInDim S4x256x2x64 ![] bcast_S_S4x256x2x64 main_cst_2
  let main_v11 : IVec S4x256x2x64 1 := cmpf .olt main_v9 main_v10
  let main_c_3 : IVec S_ 1 := constantI S_ 1 1#1
  let main_v12 : IVec S_ 1 := (fun x v => Host.reduce IntOp.andi x v reducesTo_S4x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_finite_context.lean ====
abbrev S4x256x8x64 : Shape := ⟨4, ![4, 256, 8, 64]⟩
abbrev S4x256x2x64 : Shape := ⟨4, ![4, 256, 2, 64]⟩
abbrev S8 : Shape := ⟨1, ![8]⟩
abbrev S_ : Shape := ⟨0, ![]⟩

class Facts : Prop where
  bcast_S_S4x256x8x64 : S_.BroadcastsInDim S4x256x8x64 (![] : Fin 0 → Fin S4x256x8x64.rank)
  reducesTo_S4x256x8x64_S_d0_1_2_3 : S4x256x8x64.ReducesTo [0, 1, 2, 3] S_
  h_S_ : 0 < S_.numel
  bcast_S_S4x256x2x64 : S_.BroadcastsInDim S4x256x2x64 (![] : Fin 0 → Fin S4x256x2x64.rank)
  reducesTo_S4x256x2x64_S_d0_1_2_3 : S4x256x2x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x256x8x64 .f32) (main_arg1 : FVec F S4x256x2x64 .f32) (main_arg2 : FVec F S4x256x2x64 .f32) (main_arg3 : FVec F S8 .f32) : IVec S_ 1 :=
  let main_v0 : FVec F S4x256x8x64 .f32 := Host.absf main_arg0
  let main_cst : FVec F S_ .f32 := constant S_ .f32 0x7F800000#32
  let main_v1 : FVec F S4x256x8x64 .f32 := broadcastInDim S4x256x8x64 ![] bcast_S_S4x256x8x64 main_cst
  let main_v2 : IVec S4x256x8x64 1 := cmpf .olt main_v0 main_v1
  let main_c : IVec S_ 1 := constantI S_ 1 1#1
  let main_v3 : IVec S_ 1 := (fun x v => Host.reduce IntOp.andi x v reducesTo_S4x256x8x64_S_d0_1_2_3 h_S_) main_v2 main_c
  let main_v4 : FVec F S4x256x2x64 .f32 := Host.absf main_arg1
  let main_cst_0 : FVec F S_ .f32 := constant S_ .f32 0x7F800000#32
  let main_v5 : FVec F S4x256x2x64 .f32 := broadcastInDim S4x256x2x64 ![] bcast_S_S4x256x2x64 main_cst_0
  let main_v6 : IVec S4x256x2x64 1 := cmpf .olt main_v4 main_v5
  let main_c_1 : IVec S_ 1 := constantI S_ 1 1#1
  let main_v7 : IVec S_ 1 := (fun x v => Host.reduce IntOp.andi x v reducesTo_S4x256x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S_ : Shape := ⟨0, ![]⟩
abbrev S4x8x4096x64 : Shape := ⟨4, ![4, 8, 4096, 64]⟩
abbrev S4x2x4096x64 : Shape := ⟨4, ![4, 2, 4096, 64]⟩
abbrev S4x2x256x64 : Shape := ⟨4, ![4, 2, 256, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x256 : Shape := ⟨2, ![128, 256]⟩
abbrev S128x640 : Shape := ⟨2, ![128, 640]⟩
abbrev S1x128x640 : Shape := ⟨3, ![1, 128, 640]⟩
abbrev S4x128x640 : Shape := ⟨3, ![4, 128, 640]⟩
abbrev S4x4096x512 : Shape := ⟨3, ![4, 4096, 512]⟩
abbrev S1x8x128x64 : Shape := ⟨4, ![1, 8, 128, 64]⟩
abbrev S1x2x256x64 : Shape := ⟨4, ![1, 2, 256, 64]⟩
abbrev S1x2x128x64 : Shape := ⟨4, ![1, 2, 128, 64]⟩
abbrev S1x128x512 : Shape := ⟨3, ![1, 128, 512]⟩
abbrev S1x4x128x64 : Shape := ⟨4, ![1, 4, 128, 64]⟩
abbrev S4x128x64 : Shape := ⟨3, ![4, 128, 64]⟩
abbrev S512x64 : Shape := ⟨2, ![512, 64]⟩
abbrev S1x1x256x64 : Shape := ⟨4, ![1, 1, 256, 64]⟩
abbrev S256x64 : Shape := ⟨2, ![256, 64]⟩
abbrev S1x1x128x64 : Shape := ⟨4, ![1, 1, 128, 64]⟩
abbrev S128x64 : Shape := ⟨2, ![128, 64]⟩
abbrev S640x64 : Shape := ⟨2, ![640, 64]⟩
abbrev S512x640 : Shape := ⟨2, ![512, 640]⟩
abbrev S512x1 : Shape := ⟨2, ![512, 1]⟩
abbrev S1 : Shape := ⟨1, ![1]⟩
abbrev S512 : Shape := ⟨1, ![512]⟩
abbrev S128x512 : Shape := ⟨2, ![128, 512]⟩

abbrev nBuf : Space → Nat
  | .hbm => 95
  | .vmem => 22
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S_, .f32⟩
  | .hbm, ⟨7, _⟩ => ⟨S4x4096x8x64, .f32⟩
  | .hbm, ⟨8, _⟩ => ⟨S4x4096x8x64, .f32⟩
  | .hbm, ⟨9, _⟩ => ⟨S4x8x4096x64, .f32⟩
  | .hbm, ⟨10, _⟩ => ⟨S4x8x4096x64, .bf16⟩
  | .hbm, ⟨11, _⟩ => ⟨S4x2x4096x64, .f32⟩
  | .hbm, ⟨12, _⟩ => ⟨S4x2x4096x64, .bf16⟩
  | .hbm, ⟨13, _⟩ => ⟨S4x2x4096x64, .f32⟩
  | .hbm, ⟨14, _⟩ => ⟨S4x2x4096x64, .bf16⟩
  | .hbm, ⟨15, _⟩ => ⟨S4x2x256x64, .f32⟩
  | .hbm, ⟨16, _⟩ => ⟨S4x2x256x64, .bf16⟩
  | .hbm, ⟨17, _⟩ => ⟨S4x2x256x64, .f32⟩
  | .hbm, ⟨18, _⟩ => ⟨S4x2x256x64, .bf16⟩
  | .hbm, ⟨19, _⟩ => ⟨S128, .i32⟩
  | .hbm, ⟨20, _⟩ => ⟨S128x1, .i32⟩
  | .hbm, ⟨21, _⟩ => ⟨S384, .i32⟩
  | .hbm, ⟨22, _⟩ => ⟨S_, .i32⟩
  | .hbm, ⟨23, _⟩ => ⟨S384, .i32⟩
  | .hbm, ⟨24, _⟩ => ⟨S384, .i32⟩
  | .hbm, ⟨25, _⟩ => ⟨S1x384, .i32⟩
  | .hbm, ⟨26, _⟩ => ⟨S128x384, .i32⟩
  | .hbm, ⟨27, _⟩ => ⟨S128x384, .i32⟩
  | .hbm, ⟨28, _⟩ => ⟨S128x384, .i32⟩
  | .hbm, ⟨29, _⟩ => ⟨S128x384, .i32⟩
  | .hbm, ⟨30, _⟩ => ⟨S_, .i32⟩
  | .hbm, ⟨31, _⟩ => ⟨S128x384, .i32⟩
  | .hbm, ⟨32, _⟩ => ⟨S128x384, .i1⟩
  | .hbm, ⟨33, _⟩ => ⟨S_, .i32⟩
  | .hbm, ⟨34, _⟩ => ⟨S1x384, .i32⟩
  | .hbm, ⟨35, _⟩ => ⟨S1x384, .i1⟩
  | .hbm, ⟨36, _⟩ => ⟨S128x384, .i1⟩
  | .hbm, ⟨37, _⟩ => ⟨S128x384, .i1⟩
  | .hbm, ⟨38, _⟩ => ⟨S_, .i32⟩
  | .hbm, ⟨39, _⟩ => ⟨S1x384, .i32⟩
  | .hbm, ⟨40, _⟩ => ⟨S1x384, .i1⟩
  | .hbm, ⟨41, _⟩ => ⟨S128x384, .i1⟩
  | .hbm, ⟨42, _⟩ => ⟨S128x384, .i1⟩
  | .hbm, ⟨43, _⟩ => ⟨S_, .i32⟩
  | .hbm, ⟨44, _⟩ => ⟨S1x384, .i32⟩
  | .hbm, ⟨45, _⟩ => ⟨S1x384, .i1⟩
  | .hbm, ⟨46, _⟩ => ⟨S128x384, .i1⟩
  | .hbm, ⟨47, _⟩ => ⟨S128x384, .i1⟩
  | .hbm, ⟨48, _⟩ => ⟨S_, .i32⟩
  | .hbm, ⟨49, _⟩ => ⟨S1x384, .i32⟩
  | .hbm, ⟨50, _⟩ => ⟨S1x384, .i1⟩
  | .hbm, ⟨51, _⟩ => ⟨S128x384, .i1⟩
  | .hbm, ⟨52, _⟩ => ⟨S128x384, .i1⟩
  | .hbm, ⟨53, _⟩ => ⟨S_, .f32⟩
  | .hbm, ⟨54, _⟩ => ⟨S128x256, .f32⟩
  | .hbm, ⟨55, _⟩ => ⟨S_, .f32⟩
  | .hbm, ⟨56, _⟩ => ⟨S_, .f32⟩
  | .hbm, ⟨57, _⟩ => ⟨S128x384, .f32⟩
  | .hbm, ⟨58, _⟩ => ⟨S128x384, .f32⟩
  | .hbm, ⟨59, _⟩ => ⟨S128x384, .f32⟩
  | .hbm, ⟨60, _⟩ => ⟨S128x384, .f32⟩
  | .hbm, ⟨61, _⟩ => ⟨S128x640, .f32⟩
  | .hbm, ⟨62, _⟩ => ⟨S_, .f32⟩
  | .hbm, ⟨63, _⟩ => ⟨S128x256, .f32⟩
  | .hbm, ⟨64, _⟩ => ⟨S_, .f32⟩
  | .hbm, ⟨65, _⟩ => ⟨S_, .f32⟩
  | .hbm, ⟨66, _⟩ => ⟨S128x384, .f32⟩
  | .hbm, ⟨67, _⟩ => ⟨S128x384, .f32⟩
  | .hbm, ⟨68, _⟩ => ⟨S128x384, .f32⟩
  | .hbm, ⟨69, _⟩ => ⟨S128x384, .f32⟩
  | .hbm, ⟨70, _⟩ => ⟨S128x640, .f32⟩
  | .hbm, ⟨71, _⟩ => ⟨S_, .f32⟩
  | .hbm, ⟨72, _⟩ => ⟨S128x256, .f32⟩
  | .hbm, ⟨73, _⟩ => ⟨S_, .f32⟩
  | .hbm, ⟨74, _⟩ => ⟨S_, .f32⟩
  | .hbm, ⟨75, _⟩ => ⟨S128x384, .f32⟩
  | .hbm, ⟨76, _⟩ => ⟨S128x384, .f32⟩
  | .hbm, ⟨77, _⟩ => ⟨S128x384, .f32⟩
  | .hbm, ⟨78, _⟩ => ⟨S128x384, .f32⟩
  | .hbm, ⟨79, _⟩ => ⟨S128x640, .f32⟩
  | .hbm, ⟨80, _⟩ => ⟨S_, .f32⟩
  | .hbm, ⟨81, _⟩ => ⟨S128x256, .f32⟩
  | .hbm, ⟨82, _⟩ => ⟨S_, .f32⟩
  | .hbm, ⟨83, _⟩ => ⟨S_, .f32⟩
  | .hbm, ⟨84, _⟩ => ⟨S128x384, .f32⟩
  | .hbm, ⟨85, _⟩ => ⟨S128x384, .f32⟩
  | .hbm, ⟨86, _⟩ => ⟨S128x384, .f32⟩
  | .hbm, ⟨87, _⟩ => ⟨S128x384, .f32⟩
  | .hbm, ⟨88, _⟩ => ⟨S128x640, .f32⟩
  | .hbm, ⟨89, _⟩ => ⟨S1x128x640, .f32⟩
  | .hbm, ⟨90, _⟩ => ⟨S1x128x640, .f32⟩
  | .hbm, ⟨91, _⟩ => ⟨S1x128x640, .f32⟩
  | .hbm, ⟨92, _⟩ => ⟨S1x128x640, .f32⟩
  | .hbm, ⟨93, _⟩ => ⟨S4x128x640, .f32⟩
  | .hbm, ⟨94, _⟩ => ⟨S4x4096x512, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x2x256x64, .bf16⟩
  | .local _ .vmem, ⟨3, _⟩ => ⟨S1x2x256x64, .bf16⟩
  | .local _ .vmem, ⟨4, _⟩ => ⟨S1x2x256x64, .bf16⟩
  | .local _ .vmem, ⟨5, _⟩ => ⟨S1x2x256x64, .bf16⟩
  | .local _ .vmem, ⟨6, _⟩ => ⟨S1x2x128x64, .bf16⟩
  | .local _ .vmem, ⟨7, _⟩ => ⟨S1x2x128x64, .bf16⟩
  | .local _ .vmem, ⟨8, _⟩ => ⟨S1x2x128x64, .bf16⟩
  | .local _ .vmem, ⟨9, _⟩ => ⟨S1x2x128x64, .bf16⟩
  | .local _ .vmem, ⟨10, _⟩ => ⟨S1x2x128x64, .bf16⟩
  | .local _ .vmem, ⟨11, _⟩ => ⟨S1x2x128x64, .bf16⟩
  | .local _ .vmem, ⟨12, _⟩ => ⟨S1x2x128x64, .bf16⟩
  | .local _ .vmem, ⟨13, _⟩ => ⟨S1x2x128x64, .bf16⟩
  | .local _ .vmem, ⟨14, _⟩ => ⟨S1x2x128x64, .bf16⟩
  | .local _ .vmem, ⟨15, _⟩ => ⟨S1x2x128x64, .bf16⟩
  | .local _ .vmem, ⟨16, _⟩ => ⟨S1x2x128x64, .bf16⟩
  | .local _ .vmem, ⟨17, _⟩ => ⟨S1x2x128x64, .bf16⟩
  | .local _ .vmem, ⟨18, _⟩ => ⟨S1x128x640, .f32⟩
  | .local _ .vmem, ⟨19, _⟩ => ⟨S1x128x640, .f32⟩
  | .local _ .vmem, ⟨20, _⟩ => ⟨S1x128x512, .bf16⟩
  | .local _ .vmem, ⟨21, _⟩ => ⟨S1x128x512, .bf16⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_cst_9 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_cst_12 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_cst_15 : Ref sig .tc := ⟨.hbm, 82, rfl⟩
abbrev main_cst_16 : Ref sig .tc := ⟨.hbm, 83, rfl⟩
abbrev main_call3_v0 : Ref sig .tc := ⟨.hbm, 84, rfl⟩
abbrev main_call3_v1 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![arg0.toNat, c0_i32.toNat, v1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![arg0.toNat, c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c31_i32 : BitVec 32 := 31#32
  let v1 : BitVec 1 := Scalar.cmpi .eq arg1 c31_i32
  let v2 : BitVec 32 := Scalar.extui v1
  let c2_i32 : BitVec 32 := 2#32
  let v3 : BitVec 32 := Scalar.muli c2_i32 v2
  let v4 : BitVec 32 := Scalar.extui v0
  let v5 : BitVec 32 := Scalar.addi v4 v3
  let c0_i32_0 : BitVec 32 := 0#32
  let c0_i32_1 : BitVec 32 := 0#32
  let c0_i32_2 : BitVec 32 := 0#32
  ![v5.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S4x32x128x2x4x64 : Shape := ⟨6, ![4, 32, 128, 2, 4, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S4x2x256x32x128x4 : Shape := ⟨6, ![4, 2, 256, 32, 128, 4]⟩
abbrev S4x32x2x4x128x256 : Shape := ⟨6, ![4, 32, 2, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x2x64x32x4x128 : Shape := ⟨6, ![4, 2, 64, 32, 4, 128]⟩
abbrev S4x32x2x64x4x128 : Shape := ⟨6, ![4, 32, 2, 64, 4, 128]⟩
abbrev S4x4096x512 : Shape := ⟨3, ![4, 4096, 512]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S4x32x128x2x4x64, .f32⟩
  | .hbm, ⟨7, _⟩ => ⟨S_, .i32⟩
  | .hbm, ⟨8, _⟩ => ⟨S_, .f32⟩
  | .hbm, ⟨9, _⟩ => ⟨S4x4352x2x64, .f32⟩
  | .hbm, ⟨10, _⟩ => ⟨S4x34x128x2x64, .f32⟩
  | .hbm, ⟨11, _⟩ => ⟨S4x32x128x2x64, .f32⟩
  | .hbm, ⟨12, _⟩ => ⟨S4x32x128x2x64, .f32⟩
  | .hbm, ⟨13, _⟩ => ⟨S4x32x128x2x64, .f32⟩
  | .hbm, ⟨14, _⟩ => ⟨S4x32x384x2x64, .f32⟩
  | .hbm, ⟨15, _⟩ => ⟨S_, .i32⟩
  | .hbm, ⟨16, _⟩ => ⟨S_, .f32⟩
  | .hbm, ⟨17, _⟩ => ⟨S4x4352x2x64, .f32⟩
  | .hbm, ⟨18, _⟩ => ⟨S4x34x128x2x64, .f32⟩
  | .hbm, ⟨19, _⟩ => ⟨S4x32x128x2x64, .f32⟩
  | .hbm, ⟨20, _⟩ => ⟨S4x32x128x2x64, .f32⟩
  | .hbm, ⟨21, _⟩ => ⟨S4x32x128x2x64, .f32⟩
  | .hbm, ⟨22, _⟩ => ⟨S4x32x384x2x64, .f32⟩
  | .hbm, ⟨23, _⟩ => ⟨S4x32x2x384x128x4, .f32⟩
  | .hbm, ⟨24, _⟩ => ⟨S4x32x2x4x128x384, .f32⟩
  | .hbm, ⟨25, _⟩ => ⟨S_, .f32⟩
  | .hbm, ⟨26, _⟩ => ⟨S4x32x2x4x128x384, .f32⟩
  | .hbm, ⟨27, _⟩ => ⟨S4x32x2x4x128x384, .f32⟩
  | .hbm, ⟨28, _⟩ => ⟨S4x2x256x32x128x4, .f32⟩
  | .hbm, ⟨29, _⟩ => ⟨S4x32x2x4x128x256, .f32⟩
  | .hbm, ⟨30, _⟩ => ⟨S_, .f32⟩
  | .hbm, ⟨31, _⟩ => ⟨S4x32x2x4x128x256, .f32⟩
  | .hbm, ⟨32, _⟩ => ⟨S4x32x2x4x128x256, .f32⟩
  | .hbm, ⟨33, _⟩ => ⟨S32, .i32⟩
  | .hbm, ⟨34, _⟩ => ⟨S32x1x1, .i32⟩
  | .hbm, ⟨35, _⟩ => ⟨S_, .i32⟩
  | .hbm, ⟨36, _⟩ => ⟨S32x1x1, .i32⟩
  | .hbm, ⟨37, _⟩ => ⟨S32x1x1, .i32⟩
  | .hbm, ⟨38, _⟩ => ⟨S128, .i32⟩
  | .hbm, ⟨39, _⟩ => ⟨S1x128x1, .i32⟩
  | .hbm, ⟨40, _⟩ => ⟨S32x128x1, .i32⟩
  | .hbm, ⟨41, _⟩ => ⟨S32x128x1, .i32⟩
  | .hbm, ⟨42, _⟩ => ⟨S32x128x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S384, .i32⟩
  | .hbm, ⟨47, _⟩ => ⟨S1x1x384, .i32⟩
  | .hbm, ⟨48, _⟩ => ⟨S32x1x384, .i32⟩
  | .hbm, ⟨49, _⟩ => ⟨S32x1x384, .i32⟩
  | .hbm, ⟨50, _⟩ => ⟨S32x1x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S_, .i32⟩
  | .hbm, ⟨59, _⟩ => ⟨S32x1x384, .i32⟩
  | .hbm, ⟨60, _⟩ => ⟨S32x1x384, .i1⟩
  | .hbm, ⟨61, _⟩ => ⟨S32x128x384, .i1⟩
  | .hbm, ⟨62, _⟩ => ⟨S32x128x384, .i1⟩
  | .hbm, ⟨63, _⟩ => ⟨S_, .i32⟩
  | .hbm, ⟨64, _⟩ => ⟨S32x1x384, .i32⟩
  | .hbm, ⟨65, _⟩ => ⟨S32x1x384, .i1⟩
  | .hbm, ⟨66, _⟩ => ⟨S32x128x384, .i1⟩
  | .hbm, ⟨67, _⟩ => ⟨S32x128x384, .i1⟩
  | .hbm, ⟨68, _⟩ => ⟨S1x32x1x1x128x384, .i1⟩
  | .hbm, ⟨69, _⟩ => ⟨S_, .f32⟩
  | .hbm, ⟨70, _⟩ => ⟨S_, .f32⟩
  | .hbm, ⟨71, _⟩ => ⟨S4x32x2x4x128x384, .i1⟩
  | .hbm, ⟨72, _⟩ => ⟨S4x32x2x4x128x384, .f32⟩
  | .hbm, ⟨73, _⟩ => ⟨S4x32x2x4x128x384, .f32⟩
  | .hbm, ⟨74, _⟩ => ⟨S1x1x2x4x1x1, .f32⟩
  | .hbm, ⟨75, _⟩ => ⟨S4x32x2x4x128x1, .f32⟩
  | .hbm, ⟨76, _⟩ => ⟨S4x32x2x4x128x641, .f32⟩
  | .hbm, ⟨77, _⟩ => ⟨S_, .f32⟩
  | .hbm, ⟨78, _⟩ => ⟨S4x32x2x4x128, .f32⟩
  | .hbm, ⟨79, _⟩ => ⟨S_, .f32⟩
  | .hbm, ⟨80, _⟩ => ⟨S4x32x2x4x128, .f32⟩
  | .hbm, ⟨81, _⟩ => ⟨S4x32x2x4x128, .f32⟩
  | .hbm, ⟨82, _⟩ => ⟨S4x32x2x4x128x1, .f32⟩
  | .hbm, ⟨83, _⟩ => ⟨S4x32x2x4x128x641, .f32⟩
  | .hbm, ⟨84, _⟩ => ⟨S4x32x2x4x128x641, .f32⟩
  | .hbm, ⟨85, _⟩ => ⟨S4x32x2x4x128x641, .f32⟩
  | .hbm, ⟨86, _⟩ => ⟨S_, .f32⟩
  | .hbm, ⟨87, _⟩ => ⟨S4x32x2x4x128, .f32⟩
  | .hbm, ⟨88, _⟩ => ⟨S4x32x2x4x128x1, .f32⟩
  | .hbm, ⟨89, _⟩ => ⟨S4x32x2x4x128x641, .f32⟩
  | .hbm, ⟨90, _⟩ => ⟨S4x32x2x4x128x641, .f32⟩
  | .hbm, ⟨91, _⟩ => ⟨S4x32x2x4x128x256, .f32⟩
  | .hbm, ⟨92, _⟩ => ⟨S4x32x2x4x128x384, .f32⟩
  | .hbm, ⟨93, _⟩ => ⟨S4x2x64x32x4x128, .f32⟩
  | .hbm, ⟨94, _⟩ => ⟨S4x32x128x2x4x64, .f32⟩
  | .hbm, ⟨95, _⟩ => ⟨S4x32x2x64x4x128, .f32⟩
  | .hbm, ⟨96, _⟩ => ⟨S4x32x128x2x4x64, .f32⟩
  | .hbm, ⟨97, _⟩ => ⟨S4x32x128x2x4x64, .f32⟩
  | .hbm, ⟨98, _⟩ => ⟨S4x4096x512, .f32⟩
  | .hbm, ⟨99, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x5888 : Shape := ⟨2, ![1024, 5888]⟩
abbrev S3072 : Shape := ⟨1, ![3072]⟩
abbrev S1024x768 : Shape := ⟨2, ![1024, 768]⟩
abbrev S1024x512 : Shape := ⟨2, ![1024, 512]⟩
abbrev S1024x1536 : Shape := ⟨2, ![1024, 1536]⟩
abbrev S1024x3072 : Shape := ⟨2, ![1024, 3072]⟩
abbrev S16384x1024 : Shape := ⟨2, ![16384, 1024]⟩
abbrev S1x3072 : Shape := ⟨2, ![1, 3072]⟩
abbrev S16384x768 : Shape := ⟨2, ![16384, 768]⟩
abbrev S16384x512 : Shape := ⟨2, ![16384, 512]⟩
abbrev S16384x1536 : Shape := ⟨2, ![16384, 1536]⟩
abbrev S16384x3072 : Shape := ⟨2, ![16384, 3072]⟩
abbrev S256x1024 : Shape := ⟨2, ![256, 1024]⟩
abbrev S256x768 : Shape := ⟨2, ![256, 768]⟩
abbrev S256x512 : Shape := ⟨2, ![256, 512]⟩
abbrev S256x1536 : Shape := ⟨2, ![256, 1536]⟩
abbrev S256x3072 : Shape := ⟨2, ![256, 3072]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x5888, .f32⟩
  | .hbm, ⟨2, _⟩ => ⟨S3072, .f32⟩
  | .hbm, ⟨3, _⟩ => ⟨S1024x5888, .bf16⟩
  | .hbm, ⟨4, _⟩ => ⟨S1024x768, .bf16⟩
  | .hbm, ⟨5, _⟩ => ⟨S1024x512, .bf16⟩
  | .hbm, ⟨6, _⟩ => ⟨S1024x1536, .bf16⟩
  | .hbm, ⟨7, _⟩ => ⟨S1024x3072, .bf16⟩
  | .hbm, ⟨8, _⟩ => ⟨S16384x1024, .f32⟩
  | .hbm, ⟨9, _⟩ => ⟨S16384x1024, .bf16⟩
  | .hbm, ⟨10, _⟩ => ⟨S1x3072, .f32⟩
  | .hbm, ⟨11, _⟩ => ⟨S16384x768, .f32⟩
  | .hbm, ⟨12, _⟩ => ⟨S16384x512, .f32⟩
  | .hbm, ⟨13, _⟩ => ⟨S16384x1536, .f32⟩
  | .hbm, ⟨14, _⟩ => ⟨S16384x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x768, .bf16⟩
  | .local _ .vmem, ⟨3, _⟩ => ⟨S1024x512, .bf16⟩
  | .local _ .vmem, ⟨4, _⟩ => ⟨S1024x1536, .bf16⟩
  | .local _ .vmem, ⟨5, _⟩ => ⟨S1024x3072, .bf16⟩
  | .local _ .vmem, ⟨6, _⟩ => ⟨S1x3072, .f32⟩
  | .local _ .vmem, ⟨7, _⟩ => ⟨S256x768, .f32⟩
  | .local _ .vmem, ⟨8, _⟩ => ⟨S256x768, .f32⟩
  | .local _ .vmem, ⟨9, _⟩ => ⟨S256x512, .f32⟩
  | .local _ .vmem, ⟨10, _⟩ => ⟨S256x512, .f32⟩
  | .local _ .vmem, ⟨11, _⟩ => ⟨S256x1536, .f32⟩
  | .local _ .vmem, ⟨12, _⟩ => ⟨S256x1536, .f32⟩
  | .local _ .vmem, ⟨13, _⟩ => ⟨S256x3072, .bf16⟩
  | .local _ .vmem, ⟨14, _⟩ => ⟨S256x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S1024x5888 : Shape := ⟨2, ![1024, 5888]⟩
abbrev S3072 : Shape := ⟨1, ![3072]⟩
abbrev S4x4096x5888 : Shape := ⟨3, ![4, 4096, 5888]⟩
abbrev S4x4096x768 : Shape := ⟨3, ![4, 4096, 768]⟩
abbrev S4x4096x512 : Shape := ⟨3, ![4, 4096, 512]⟩
abbrev S4x4096x1536 : Shape := ⟨3, ![4, 4096, 1536]⟩
abbrev S4x4096x3072 : Shape := ⟨3, ![4, 4096, 3072]⟩
abbrev S1x1x3072 : Shape := ⟨3, ![1, 1, 3072]⟩
abbrev S16384x768 : Shape := ⟨2, ![16384, 768]⟩
abbrev S16384x512 : Shape := ⟨2, ![16384, 512]⟩
abbrev S16384x1536 : Shape := ⟨2, ![16384, 1536]⟩
abbrev S16384x3072 : Shape := ⟨2, ![16384, 3072]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5888, .f32⟩
  | .hbm, ⟨2, _⟩ => ⟨S3072, .f32⟩
  | .hbm, ⟨3, _⟩ => ⟨S4x4096x5888, .f32⟩
  | .hbm, ⟨4, _⟩ => ⟨S4x4096x768, .f32⟩
  | .hbm, ⟨5, _⟩ => ⟨S4x4096x512, .f32⟩
  | .hbm, ⟨6, _⟩ => ⟨S4x4096x1536, .f32⟩
  | .hbm, ⟨7, _⟩ => ⟨S4x4096x3072, .f32⟩
  | .hbm, ⟨8, _⟩ => ⟨S1x1x3072, .f32⟩
  | .hbm, ⟨9, _⟩ => ⟨S4x4096x3072, .f32⟩
  | .hbm, ⟨10, _⟩ => ⟨S4x4096x3072, .f32⟩
  | .hbm, ⟨11, _⟩ => ⟨S16384x768, .f32⟩
  | .hbm, ⟨12, _⟩ => ⟨S16384x512, .f32⟩
  | .hbm, ⟨13, _⟩ => ⟨S16384x1536, .f32⟩
  | .hbm, ⟨14, _⟩ => ⟨S16384x3072, .f32⟩
  | .hbm, ⟨15, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S4x4096x512 : Shape := ⟨3, ![4, 4096, 512]⟩
abbrev S4x4096x3072 : Shape := ⟨3, ![4, 4096, 3072]⟩
abbrev S512x1024 : Shape := ⟨2, ![512, 1024]⟩
abbrev S1024x1024 : Shape := ⟨2, ![1024, 1024]⟩
abbrev S4x4096x1024 : Shape := ⟨3, ![4, 4096, 1024]⟩
abbrev S4x1024 : Shape := ⟨2, ![4, 1024]⟩
abbrev S4x1x1024 : Shape := ⟨3, ![4, 1, 1024]⟩
abbrev S1x256x512 : Shape := ⟨3, ![1, 256, 512]⟩
abbrev S1x256x3072 : Shape := ⟨3, ![1, 256, 3072]⟩
abbrev S1x256x1024 : Shape := ⟨3, ![1, 256, 1024]⟩
abbrev S1x1x1024 : Shape := ⟨3, ![1, 1, 1024]⟩
abbrev S256x3072 : Shape := ⟨2, ![256, 3072]⟩
abbrev S256x1024 : Shape := ⟨2, ![256, 1024]⟩
abbrev S256x512 : Shape := ⟨2, ![256, 512]⟩
abbrev S1x1024 : Shape := ⟨2, ![1, 1024]⟩

abbrev nBuf : Space → Nat
  | .hbm => 20
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x3072, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4x4096x1024, .f32⟩
  | .hbm, ⟨9, _⟩ => ⟨S4x1024, .f32⟩
  | .hbm, ⟨10, _⟩ => ⟨S4x4096x512, .bf16⟩
  | .hbm, ⟨11, _⟩ => ⟨S4x4096x512, .bf16⟩
  | .hbm, ⟨12, _⟩ => ⟨S4x4096x512, .bf16⟩
  | .hbm, ⟨13, _⟩ => ⟨S4x4096x3072, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S4x1x1024, .f32⟩
  | .hbm, ⟨19, _⟩ => ⟨S4x4096x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x3072, .bf16⟩
  | .local _ .vmem, ⟨7, _⟩ => ⟨S1x256x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x4096x512 : Shape := ⟨3, ![4, 4096, 512]⟩
abbrev S4x4096x3072 : Shape := ⟨3, ![4, 4096, 3072]⟩
abbrev S512x1024 : Shape := ⟨2, ![512, 1024]⟩
abbrev S1024x1024 : Shape := ⟨2, ![1024, 1024]⟩
abbrev S4x4096x1024 : Shape := ⟨3, ![4, 4096, 1024]⟩
abbrev S4x1024 : Shape := ⟨2, ![4, 1024]⟩
abbrev S_ : Shape := ⟨0, ![]⟩
abbrev S4x1x1024 : Shape := ⟨3, ![4, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x3072, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4x4096x1024, .f32⟩
  | .hbm, ⟨9, _⟩ => ⟨S4x1024, .f32⟩
  | .hbm, ⟨10, _⟩ => ⟨S4x4096x3072, .f32⟩
  | .hbm, ⟨11, _⟩ => ⟨S4x4096x3072, .f32⟩
  | .hbm, ⟨12, _⟩ => ⟨S_, .f32⟩
  | .hbm, ⟨13, _⟩ => ⟨S4x4096x3072, .f32⟩
  | .hbm, ⟨14, _⟩ => ⟨S4x4096x3072, .f32⟩
  | .hbm, ⟨15, _⟩ => ⟨S_, .f32⟩
  | .hbm, ⟨16, _⟩ => ⟨S4x4096x3072, .f32⟩
  | .hbm, ⟨17, _⟩ => ⟨S4x4096x3072, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x1024 : Shape := ⟨3, ![4, 4096, 1024]⟩
abbrev S1024 : Shape := ⟨1, ![1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x1x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1024x16384 : Shape := ⟨2, ![1024, 16384]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1024x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x1024 : Shape := ⟨3, ![4, 4096, 1024]⟩
abbrev S1024 : Shape := ⟨1, ![1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S16384x1024 : Shape := ⟨2, ![16384, 1024]⟩
abbrev S1024x16384 : Shape := ⟨2, ![1024, 16384]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x1x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S16384x1024, .f32⟩
  | .hbm, ⟨30, _⟩ => ⟨S1024x16384, .f32⟩
  | .hbm, ⟨31, _⟩ => ⟨S1024x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S4x4096x1536 : Shape := ⟨3, ![4, 4096, 1536]⟩
abbrev S3x1536 : Shape := ⟨2, ![3, 1536]⟩
abbrev S1536 : Shape := ⟨1, ![1536]⟩
abbrev S1x1536 : Shape := ⟨2, ![1, 1536]⟩
abbrev S4x4096x512 : Shape := ⟨3, ![4, 4096, 512]⟩
abbrev S1x256x1536 : Shape := ⟨3, ![1, 256, 1536]⟩
abbrev S1x8x1536 : Shape := ⟨3, ![1, 8, 1536]⟩
abbrev S1x256x512 : Shape := ⟨3, ![1, 256, 512]⟩
abbrev S256x1536 : Shape := ⟨2, ![256, 1536]⟩
abbrev S1x1x1536 : Shape := ⟨3, ![1, 1, 1536]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S4x4096x512, .f32⟩
  | .hbm, ⟨5, _⟩ => ⟨S4x4096x512, .f32⟩
  | .hbm, ⟨6, _⟩ => ⟨S4x4096x512, .bf16⟩
  | .local _ .vmem, ⟨0, _⟩ => ⟨S1x256x1536, .f32⟩
  | .local _ .vmem, ⟨1, _⟩ => ⟨S1x256x1536, .f32⟩
  | .local _ .vmem, ⟨2, _⟩ => ⟨S1x8x1536, .f32⟩
  | .local _ .vmem, ⟨3, _⟩ => ⟨S1x8x1536, .f32⟩
  | .local _ .vmem, ⟨4, _⟩ => ⟨S1x8x1536, .f32⟩
  | .local _ .vmem, ⟨5, _⟩ => ⟨S1x8x1536, .f32⟩
  | .local _ .vmem, ⟨6, _⟩ => ⟨S3x1536, .f32⟩
  | .local _ .vmem, ⟨7, _⟩ => ⟨S1x1536, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .bf16⟩
  | .local _ .vmem, ⟨13, _⟩ => ⟨S1x256x512, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S4x4096x1536 : Shape := ⟨3, ![4, 4096, 1536]⟩
abbrev S3x1536 : Shape := ⟨2, ![3, 1536]⟩
abbrev S1536 : Shape := ⟨1, ![1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩
abbrev S4x4096x512 : Shape := ⟨3, ![4, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S4x4098x1536, .f32⟩
  | .hbm, ⟨6, _⟩ => ⟨S4x4096x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S4x4096x1536, .f32⟩
  | .hbm, ⟨11, _⟩ => ⟨S4x4096x1536, .f32⟩
  | .hbm, ⟨12, _⟩ => ⟨S1x1x1536, .f32⟩
  | .hbm, ⟨13, _⟩ => ⟨S4x4096x1536, .f32⟩
  | .hbm, ⟨14, _⟩ => ⟨S4x4096x1536, .f32⟩
  | .hbm, ⟨15, _⟩ => ⟨S4x4096x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S4x4096x1536, .f32⟩
  | .hbm, ⟨20, _⟩ => ⟨S4x4096x1536, .f32⟩
  | .hbm, ⟨21, _⟩ => ⟨S4x4096x1536, .f32⟩
  | .hbm, ⟨22, _⟩ => ⟨S4x4096x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S4x4096x1536, .f32⟩
  | .hbm, ⟨27, _⟩ => ⟨S4x4096x1536, .f32⟩
  | .hbm, ⟨28, _⟩ => ⟨S4x4096x1536, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .bf16⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel7.lean ====
abbrev S4x4096x512 : Shape := ⟨3, ![4, 4096, 512]⟩
abbrev S512 : Shape := ⟨1, ![512]⟩
abbrev S16384x512 : Shape := ⟨2, ![16384, 512]⟩
abbrev S1x512 : Shape := ⟨2, ![1, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1x512, .f32⟩
  | .hbm, ⟨8, _⟩ => ⟨S16384x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x4096x512 : Shape := ⟨3, ![4, 4096, 512]⟩
abbrev S512 : Shape := ⟨1, ![512]⟩
abbrev S1x1x512 : Shape := ⟨3, ![1, 1, 512]⟩
abbrev S16384x512 : Shape := ⟨2, ![16384, 512]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S1x1x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S16384x512, .f32⟩
  | .hbm, ⟨10, _⟩ => ⟨S16384x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4x4352x512 : Shape := ⟨3, ![4, 4352, 512]⟩
abbrev S512 : Shape := ⟨1, ![512]⟩
abbrev S512x512 : Shape := ⟨2, ![512, 512]⟩
abbrev S17408x512 : Shape := ⟨2, ![17408, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S4x4352x512, .f32⟩
  | .hbm, ⟨1, _⟩ => ⟨S4x4352x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S17408x512, .f32⟩
  | .hbm, ⟨6, _⟩ => ⟨S17408x512, .f32⟩
  | .hbm, ⟨7, _⟩ => ⟨S512x512, .bf16⟩
  | .hbm, ⟨8, _⟩ => ⟨S1x512, .f32⟩
  | .hbm, ⟨9, _⟩ => ⟨S1x512, .f32⟩
  | .hbm, ⟨10, _⟩ => ⟨S17408x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S4x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4x4352x512 : Shape := ⟨3, ![4, 4352, 512]⟩
abbrev S512 : Shape := ⟨1, ![512]⟩
abbrev S512x512 : Shape := ⟨2, ![512, 512]⟩
abbrev S1x1x512 : Shape := ⟨3, ![1, 1, 512]⟩
abbrev S_ : Shape := ⟨0, ![]⟩
abbrev S17408x512 : Shape := ⟨2, ![17408, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x4352x512, .f32⟩
  | .hbm, ⟨1, _⟩ => ⟨S4x4352x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x1x512, .f32⟩
  | .hbm, ⟨6, _⟩ => ⟨S4x4352x512, .f32⟩
  | .hbm, ⟨7, _⟩ => ⟨S4x4352x512, .f32⟩
  | .hbm, ⟨8, _⟩ => ⟨S4x4352x512, .f32⟩
  | .hbm, ⟨9, _⟩ => ⟨S4x4352x512, .f32⟩
  | .hbm, ⟨10, _⟩ => ⟨S4x4352x512, .f32⟩
  | .hbm, ⟨11, _⟩ => ⟨S_, .f32⟩
  | .hbm, ⟨12, _⟩ => ⟨S4x4352x512, .f32⟩
  | .hbm, ⟨13, _⟩ => ⟨S4x4352x512, .f32⟩
  | .hbm, ⟨14, _⟩ => ⟨S4x4352x512, .f32⟩
  | .hbm, ⟨15, _⟩ => ⟨S_, .f32⟩
  | .hbm, ⟨16, _⟩ => ⟨S4x4352x512, .f32⟩
  | .hbm, ⟨17, _⟩ => ⟨S4x4352x512, .f32⟩
  | .hbm, ⟨18, _⟩ => ⟨S4x4352x512, .f32⟩
  | .hbm, ⟨19, _⟩ => ⟨S_, .f32⟩
  | .hbm, ⟨20, _⟩ => ⟨S4x4352x512, .f32⟩
  | .hbm, ⟨21, _⟩ => ⟨S4x4352x512, .f32⟩
  | .hbm, ⟨22, _⟩ => ⟨S_, .f32⟩
  | .hbm, ⟨23, _⟩ => ⟨S4x4352x512, .f32⟩
  | .hbm, ⟨24, _⟩ => ⟨S4x4352x512, .f32⟩
  | .hbm, ⟨25, _⟩ => ⟨S4x4352x512, .f32⟩
  | .hbm, ⟨26, _⟩ => ⟨S4x4352x512, .f32⟩
  | .hbm, ⟨27, _⟩ => ⟨S1x1x512, .f32⟩
  | .hbm, ⟨28, _⟩ => ⟨S4x4352x512, .f32⟩
  | .hbm, ⟨29, _⟩ => ⟨S4x4352x512, .f32⟩
  | .hbm, ⟨30, _⟩ => ⟨S4x4352x512, .f32⟩
  | .hbm, ⟨31, _⟩ => ⟨S4x4352x512, .f32⟩
  | .hbm, ⟨32, _⟩ => ⟨S_, .f32⟩
  | .hbm, ⟨33, _⟩ => ⟨S4x4352x512, .f32⟩
  | .hbm, ⟨34, _⟩ => ⟨S4x4352x512, .f32⟩
  | .hbm, ⟨35, _⟩ => ⟨S_, .f32⟩
  | .hbm, ⟨36, _⟩ => ⟨S4x4352x512, .f32⟩
  | .hbm, ⟨37, _⟩ => ⟨S4x4352x512, .f32⟩
  | .hbm, ⟨38, _⟩ => ⟨S4x4352x512, .f32⟩
  | .hbm, ⟨39, _⟩ => ⟨S17408x512, .f32⟩
  | .hbm, ⟨40, _⟩ => ⟨S17408x512, .bf16⟩
  | _, _ => ⟨S4x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel9.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S3x6144 : Shape := ⟨2, ![3, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 63
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S4x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4x6144, .f32⟩
  | .hbm, ⟨29, _⟩ => ⟨S4x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S3x6144, .f32⟩
  | .hbm, ⟨39, _⟩ => ⟨S1x6144, .f32⟩
  | .hbm, ⟨40, _⟩ => ⟨S8x6144, .f32⟩
  | .hbm, ⟨41, _⟩ => ⟨S1x1024x6144, .f32⟩
  | .hbm, ⟨42, _⟩ => ⟨S1024x6144, .f32⟩
  | .hbm, ⟨43, _⟩ => ⟨S4x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S4x6144, .f32⟩
  | .hbm, ⟨48, _⟩ => ⟨S4x6144, .f32⟩
  | .hbm, ⟨49, _⟩ => ⟨S1x1024x6144, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S6144, .f32⟩
  | .hbm, ⟨57, _⟩ => ⟨S3x6144, .f32⟩
  | .hbm, ⟨58, _⟩ => ⟨S1x6144, .f32⟩
  | .hbm, ⟨59, _⟩ => ⟨S8x6144, .f32⟩
  | .hbm, ⟨60, _⟩ => ⟨S1x8x6144, .f32⟩
  | .hbm, ⟨61, _⟩ => ⟨S1x8x6144, .f32⟩
  | .hbm, ⟨62, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel10.lean ====
abbrev S4x4096x768 : Shape := ⟨3, ![4, 4096, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x128 : Shape := ⟨2, ![4096, 128]⟩
abbrev S4x8x4096x64 : Shape := ⟨4, ![4, 8, 4096, 64]⟩
abbrev S4x2x4096x64 : Shape := ⟨4, ![4, 2, 4096, 64]⟩
abbrev S1x256x768 : Shape := ⟨3, ![1, 256, 768]⟩
abbrev S256x128 : Shape := ⟨2, ![256, 128]⟩
abbrev S1x8x256x64 : Shape := ⟨4, ![1, 8, 256, 64]⟩
abbrev S1x2x256x64 : Shape := ⟨4, ![1, 2, 256, 64]⟩
abbrev S256x768 : Shape := ⟨2, ![256, 768]⟩
abbrev S256x64 : Shape := ⟨2, ![256, 64]⟩
abbrev S1x1x256x64 : Shape := ⟨4, ![1, 1, 256, 64]⟩

abbrev nBuf : Space → Nat
  | .hbm => 38
  | .vmem => 12
  | .smem => 0
  | _ => 0

abbrev bufTy : (tb : Table) → Fin (tcTables nBuf tb) → BufTy
  | .hbm, ⟨0, _⟩ => ⟨S4x4096x768, .f32⟩
  | .hbm, ⟨1, _⟩ => ⟨S64, .i32⟩
  | .hbm, ⟨2, _⟩ => ⟨S64x64, .i32⟩
  | .hbm, ⟨3, _⟩ => ⟨S4096, .i32⟩
  | .hbm, ⟨4, _⟩ => ⟨S4096, .f32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S4096, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x128, .f32⟩
  | .hbm, ⟨32, _⟩ => ⟨S4096x32, .f32⟩
  | .hbm, ⟨33, _⟩ => ⟨S4096x32, .f32⟩
  | .hbm, ⟨34, _⟩ => ⟨S4096x128, .f32⟩
  | .hbm, ⟨35, _⟩ => ⟨S4x8x4096x64, .bf16⟩
  | .hbm, ⟨36, _⟩ => ⟨S4x2x4096x64, .bf16⟩
  | .hbm, ⟨37, _⟩ => ⟨S4x2x4096x64, .bf16⟩
  | .local _ .vmem, ⟨0, _⟩ => ⟨S1x256x768, .f32⟩
  | .local _ .vmem, ⟨1, _⟩ => ⟨S1x256x768, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x8x256x64, .bf16⟩
  | .local _ .vmem, ⟨7, _⟩ => ⟨S1x8x256x64, .bf16⟩
  | .local _ .vmem, ⟨8, _⟩ => ⟨S1x2x256x64, .bf16⟩
  | .local _ .vmem, ⟨9, _⟩ => ⟨S1x2x256x64, .bf16⟩
  | .local _ .vmem, ⟨10, _⟩ => ⟨S1x2x256x64, .bf16⟩
  | .local _ .vmem, ⟨11, _⟩ => ⟨S1x2x256x64, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32_0 : Ref sig .tc := ⟨.hbm, 35, rfl⟩
abbrev main_v32_1 : Ref sig .tc := ⟨.hbm, 36, rfl⟩
abbrev main_v32_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4x4096x768 : Shape := ⟨3, ![4, 4096, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4x4096x512 : Shape := ⟨3, ![4, 4096, 512]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x4096x128 : Shape := ⟨3, ![4, 4096, 128]⟩
abbrev S4x4096x2x64 : Shape := ⟨4, ![4, 4096, 2, 64]⟩
abbrev S4x4096x2x32 : Shape := ⟨4, ![4, 4096, 2, 32]⟩
abbrev S4x8x4096x64 : Shape := ⟨4, ![4, 8, 4096, 64]⟩
abbrev S4x2x4096x64 : Shape := ⟨4, ![4, 2, 4096, 64]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64, .i32⟩
  | .hbm, ⟨2, _⟩ => ⟨S64x64, .i32⟩
  | .hbm, ⟨3, _⟩ => ⟨S4096, .i32⟩
  | .hbm, ⟨4, _⟩ => ⟨S4096, .f32⟩
  | .hbm, ⟨5, _⟩ => ⟨S64, .i32⟩
  | .hbm, ⟨6, _⟩ => ⟨S1x64, .i32⟩
  | .hbm, ⟨7, _⟩ => ⟨S64x64, .i32⟩
  | .hbm, ⟨8, _⟩ => ⟨S4096, .i32⟩
  | .hbm, ⟨9, _⟩ => ⟨S4096, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4x4096x512, .f32⟩
  | .hbm, ⟨32, _⟩ => ⟨S4x4096x8x64, .f32⟩
  | .hbm, ⟨33, _⟩ => ⟨S4x4096x8x32, .f32⟩
  | .hbm, ⟨34, _⟩ => ⟨S4x4096x8x32, .f32⟩
  | .hbm, ⟨35, _⟩ => ⟨S1x4096x1x32, .f32⟩
  | .hbm, ⟨36, _⟩ => ⟨S1x4096x1x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x32, .f32⟩
  | .hbm, ⟨41, _⟩ => ⟨S4x4096x8x32, .f32⟩
  | .hbm, ⟨42, _⟩ => ⟨S4x4096x8x32, .f32⟩
  | .hbm, ⟨43, _⟩ => ⟨S4x4096x8x32, .f32⟩
  | .hbm, ⟨44, _⟩ => ⟨S4x4096x8x32, .f32⟩
  | .hbm, ⟨45, _⟩ => ⟨S4x4096x8x32, .f32⟩
  | .hbm, ⟨46, _⟩ => ⟨S4x4096x8x32, .f32⟩
  | .hbm, ⟨47, _⟩ => ⟨S4x4096x8x64, .f32⟩
  | .hbm, ⟨48, _⟩ => ⟨S4x4096x128, .f32⟩
  | .hbm, ⟨49, _⟩ => ⟨S4x4096x2x64, .f32⟩
  | .hbm, ⟨50, _⟩ => ⟨S4x4096x2x32, .f32⟩
  | .hbm, ⟨51, _⟩ => ⟨S4x4096x2x32, .f32⟩
  | .hbm, ⟨52, _⟩ => ⟨S1x4096x1x32, .f32⟩
  | .hbm, ⟨53, _⟩ => ⟨S1x4096x1x32, .f32⟩
  | .hbm, ⟨54, _⟩ => ⟨S4x4096x2x32, .f32⟩
  | .hbm, ⟨55, _⟩ => ⟨S4x4096x2x32, .f32⟩
  | .hbm, ⟨56, _⟩ => ⟨S4x4096x2x32, .f32⟩
  | .hbm, ⟨57, _⟩ => ⟨S4x4096x2x32, .f32⟩
  | .hbm, ⟨58, _⟩ => ⟨S4x4096x2x32, .f32⟩
  | .hbm, ⟨59, _⟩ => ⟨S4x4096x2x32, .f32⟩
  | .hbm, ⟨60, _⟩ => ⟨S4x4096x2x32, .f32⟩
  | .hbm, ⟨61, _⟩ => ⟨S4x4096x2x32, .f32⟩
  | .hbm, ⟨62, _⟩ => ⟨S4x4096x2x32, .f32⟩
  | .hbm, ⟨63, _⟩ => ⟨S4x4096x2x32, .f32⟩
  | .hbm, ⟨64, _⟩ => ⟨S4x4096x2x64, .f32⟩
  | .hbm, ⟨65, _⟩ => ⟨S4x4096x128, .f32⟩
  | .hbm, ⟨66, _⟩ => ⟨S4x4096x2x64, .f32⟩
  | .hbm, ⟨67, _⟩ => ⟨S_, .f32⟩
  | .hbm, ⟨68, _⟩ => ⟨S4x4096x8x64, .f32⟩
  | .hbm, ⟨69, _⟩ => ⟨S4x4096x8x64, .f32⟩
  | .hbm, ⟨70, _⟩ => ⟨S4x8x4096x64, .f32⟩
  | .hbm, ⟨71, _⟩ => ⟨S4x8x4096x64, .bf16⟩
  | .hbm, ⟨72, _⟩ => ⟨S4x2x4096x64, .f32⟩
  | .hbm, ⟨73, _⟩ => ⟨S4x2x4096x64, .bf16⟩
  | .hbm, ⟨74, _⟩ => ⟨S4x2x4096x64, .f32⟩
  | .hbm, ⟨75, _⟩ => ⟨S4x2x4096x64, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_cst_1 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩

abbrev nD : Nat := 1
abbrev τ : Topo := Topo.v7x

variable {F : FTy → Type} [FloatOps F]
-- ==== Kernel11.lean ====
abbrev S4x256x8x64 : Shape := ⟨4, ![4, 256, 8, 64]⟩
abbrev S4x256x2x64 : Shape := ⟨4, ![4, 256, 2, 64]⟩
abbrev S8 : Shape := ⟨1, ![8]⟩
abbrev S_ : Shape := ⟨0, ![]⟩
abbrev S4x8x256x64 : Shape := ⟨4, ![4, 8, 256, 64]⟩
abbrev S4x2x256x64 : Shape := ⟨4, ![4, 2, 256, 64]⟩
abbrev S4x256x512 : Shape := ⟨3, ![4, 256, 512]⟩
abbrev S1x8x128x64 : Shape := ⟨4, ![1, 8, 128, 64]⟩
abbrev S1x2x256x64 : Shape := ⟨4, ![1, 2, 256, 64]⟩
abbrev S1x128x512 : Shape := ⟨3, ![1, 128, 512]⟩
abbrev S1x4x128x64 : Shape := ⟨4, ![1, 4, 128, 64]⟩
abbrev S4x128x64 : Shape := ⟨3, ![4, 128, 64]⟩
abbrev S512x64 : Shape := ⟨2, ![512, 64]⟩
abbrev S1x1x256x64 : Shape := ⟨4, ![1, 1, 256, 64]⟩
abbrev S256x64 : Shape := ⟨2, ![256, 64]⟩
abbrev S512x256 : Shape := ⟨2, ![512, 256]⟩
abbrev S512x1 : Shape := ⟨2, ![512, 1]⟩
abbrev S1 : Shape := ⟨1, ![1]⟩
abbrev S512 : Shape := ⟨1, ![512]⟩
abbrev S128x64 : Shape := ⟨2, ![128, 64]⟩
abbrev S128x512 : Shape := ⟨2, ![128, 512]⟩

abbrev nBuf : Space → Nat
  | .hbm => 14
  | .vmem => 8
  | .smem => 1
  | _ => 0

abbrev bufTy : (tb : Table) → Fin (tcTables nBuf tb) → BufTy
  | .hbm, ⟨0, _⟩ => ⟨S4x256x8x64, .f32⟩
  | .hbm, ⟨1, _⟩ => ⟨S4x256x2x64, .f32⟩
  | .hbm, ⟨2, _⟩ => ⟨S4x256x2x64, .f32⟩
  | .hbm, ⟨3, _⟩ => ⟨S8, .f32⟩
  | .hbm, ⟨4, _⟩ => ⟨S_, .f32⟩
  | .hbm, ⟨5, _⟩ => ⟨S4x256x8x64, .f32⟩
  | .hbm, ⟨6, _⟩ => ⟨S4x256x8x64, .f32⟩
  | .hbm, ⟨7, _⟩ => ⟨S4x8x256x64, .f32⟩
  | .hbm, ⟨8, _⟩ => ⟨S4x8x256x64, .bf16⟩
  | .hbm, ⟨9, _⟩ => ⟨S4x2x256x64, .f32⟩
  | .hbm, ⟨10, _⟩ => ⟨S4x2x256x64, .bf16⟩
  | .hbm, ⟨11, _⟩ => ⟨S4x2x256x64, .f32⟩
  | .hbm, ⟨12, _⟩ => ⟨S4x2x256x64, .bf16⟩
  | .hbm, ⟨13, _⟩ => ⟨S4x256x512, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x2x256x64, .bf16⟩
  | .local _ .vmem, ⟨3, _⟩ => ⟨S1x2x256x64, .bf16⟩
  | .local _ .vmem, ⟨4, _⟩ => ⟨S1x2x256x64, .bf16⟩
  | .local _ .vmem, ⟨5, _⟩ => ⟨S1x2x256x64, .bf16⟩
  | .local _ .vmem, ⟨6, _⟩ => ⟨S1x128x512, .bf16⟩
  | .local _ .vmem, ⟨7, _⟩ => ⟨S1x128x512, .bf16⟩
  | .local _ .smem, ⟨0, _⟩ => ⟨S8, .f32⟩
  | _, _ => ⟨S4x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4x256x8x64 : Shape := ⟨4, ![4, 256, 8, 64]⟩
abbrev S4x256x2x64 : Shape := ⟨4, ![4, 256, 2, 64]⟩
abbrev S8 : Shape := ⟨1, ![8]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S1x2x4x1x1 : Shape := ⟨5, ![1, 2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x64x4x256 : Shape := ⟨5, ![4, 2, 64, 4, 256]⟩
abbrev S4x256x512 : Shape := ⟨3, ![4, 256, 512]⟩

abbrev nBuf : Space → Nat
  | .hbm => 32
  | .vmem => 0
  | .smem => 0
  | _ => 0

abbrev bufTy : (tb : Table) → Fin (tcTables nBuf tb) → BufTy
  | .hbm, ⟨0, _⟩ => ⟨S4x256x8x64, .f32⟩
  | .hbm, ⟨1, _⟩ => ⟨S4x256x2x64, .f32⟩
  | .hbm, ⟨2, _⟩ => ⟨S4x256x2x64, .f32⟩
  | .hbm, ⟨3, _⟩ => ⟨S8, .f32⟩
  | .hbm, ⟨4, _⟩ => ⟨S4x256x2x4x64, .f32⟩
  | .hbm, ⟨5, _⟩ => ⟨S4x2x256x256x4, .f32⟩
  | .hbm, ⟨6, _⟩ => ⟨S4x2x4x256x256, .f32⟩
  | .hbm, ⟨7, _⟩ => ⟨S_, .f32⟩
  | .hbm, ⟨8, _⟩ => ⟨S4x2x4x256x256, .f32⟩
  | .hbm, ⟨9, _⟩ => ⟨S4x2x4x256x256, .f32⟩
  | .hbm, ⟨10, _⟩ => ⟨S1x2x4x1x1, .f32⟩
  | .hbm, ⟨11, _⟩ => ⟨S4x2x4x256x1, .f32⟩
  | .hbm, ⟨12, _⟩ => ⟨S4x2x4x256x257, .f32⟩
  | .hbm, ⟨13, _⟩ => ⟨S_, .f32⟩
  | .hbm, ⟨14, _⟩ => ⟨S4x2x4x256, .f32⟩
  | .hbm, ⟨15, _⟩ => ⟨S_, .f32⟩
  | .hbm, ⟨16, _⟩ => ⟨S4x2x4x256, .f32⟩
  | .hbm, ⟨17, _⟩ => ⟨S4x2x4x256, .f32⟩
  | .hbm, ⟨18, _⟩ => ⟨S4x2x4x256x1, .f32⟩
  | .hbm, ⟨19, _⟩ => ⟨S4x2x4x256x257, .f32⟩
  | .hbm, ⟨20, _⟩ => ⟨S4x2x4x256x257, .f32⟩
  | .hbm, ⟨21, _⟩ => ⟨S4x2x4x256x257, .f32⟩
  | .hbm, ⟨22, _⟩ => ⟨S_, .f32⟩
  | .hbm, ⟨23, _⟩ => ⟨S4x2x4x256, .f32⟩
  | .hbm, ⟨24, _⟩ => ⟨S4x2x4x256x1, .f32⟩
  | .hbm, ⟨25, _⟩ => ⟨S4x2x4x256x257, .f32⟩
  | .hbm, ⟨26, _⟩ => ⟨S4x2x4x256x257, .f32⟩
  | .hbm, ⟨27, _⟩ => ⟨S4x2x4x256x256, .f32⟩
  | .hbm, ⟨28, _⟩ => ⟨S4x2x64x4x256, .f32⟩
  | .hbm, ⟨29, _⟩ => ⟨S4x256x2x4x64, .f32⟩
  | .hbm, ⟨30, _⟩ => ⟨S4x256x512, .f32⟩
  | .hbm, ⟨31, _⟩ => ⟨S4x256x512, .bf16⟩
  | _, _ => ⟨S4x256x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise

@[expose] public section

set_option maxRecDepth 16384

noncomputable section

namespace Cert.Attention

open Cert.KernelIdeal Idealize.ShloMosaic Idealize.ShloMosaic.TcCoe Idealize.SL.Sem
open Cert.KernelIdeal.Gen

/-- The greatest of a row of scores and of the sink's score. -/
def rowMax {n : ℕ} (s : Fin n → EReal) (z : EReal) : EReal := max (Finset.univ.fold max ⊥ s) z

/-- One query's attention as the kernel computes it: the weighted values summed, then divided by the sum of the weights. -/
def rowAttn {n : ℕ} (s : Fin n → EReal) (z : EReal) (v : Fin n → EReal) : EReal :=
  Ideal.div (∑ k, Ideal.exp (s k - rowMax s z) * v k)
    (∑ k, Ideal.exp (s k - rowMax s z) + Ideal.exp (z - rowMax s z))

/-- The pattern of minus infinity is read as the least extended real. -/
theorem negInf : Ideal.ofBits .f32 0xFF800000#32 = ⊥ := by
  simp [Ideal.ofBits, Ideal.ieee]

/-- A word's quotient by 128 rounded down, as the kernel computes it: the quotient toward zero, less one where the signs
differ and the division is not exact. -/
def headWord (n : ℕ) : BitVec 32 :=
  Scalar.select
    (IntOp.andi
      (IntOp.cmpi .ne
        (IntOp.subi (BitVec.setWidth 32 (IntOp.cmpi .sgt (BitVec.ofNat 32 n) 0#32))
          (BitVec.setWidth 32 (IntOp.cmpi .slt (BitVec.ofNat 32 n) 0#32)))
        (Scalar.subi (Scalar.extui (Scalar.cmpi .sgt 128#32 0#32)) (Scalar.extui (Scalar.cmpi .slt 128#32 0#32))))
      (IntOp.cmpi .ne (IntOp.remsi ArithUnit.vector (BitVec.ofNat 32 n) 128#32) 0#32))
    (IntOp.subi (IntOp.divsi ArithUnit.vector (BitVec.ofNat 32 n) 128#32) 1#32)
    (IntOp.divsi ArithUnit.vector (BitVec.ofNat 32 n) 128#32)

theorem headWord_eq : ∀ t : Fin 4, ∀ r : Fin 128, headWord (t.val * 128 + r.val) = BitVec.ofNat 32 t.val := by decide +kernel

/-- The sinks' column: row `128 t + r` holds head `t`'s sink. -/
theorem select_heads (z0 z1 z2 z3 : EReal) (t : Fin 4) (r : Fin 128) :
    Scalar.select (IntOp.cmpi .eq (headWord (t.val * 128 + r.val)) 3#32) z3
      (Scalar.select (IntOp.cmpi .eq (headWord (t.val * 128 + r.val)) 2#32) z2
        (Scalar.select (IntOp.cmpi .eq (headWord (t.val * 128 + r.val)) 1#32) z1
          (Scalar.select (IntOp.cmpi .eq (headWord (t.val * 128 + r.val)) 0#32) z0 0))) = ![z0, z1, z2, z3] t := by
  rw [headWord_eq]
  fin_cases t <;> rfl

/-- Position `k` of the 640 keys: the 256 context tokens, then the block before, the block itself and the block after. -/
def join {d : ℕ} (a : Fin 256 → Fin d → EReal) (b c e : Fin 128 → Fin d → EReal) (k : Fin 640) (x : Fin d) : EReal :=
  if h : k.val < 256 then a ⟨k.val, h⟩ x
  else if h : k.val - 256 < 128 then b ⟨k.val - 256, h⟩ x
  else if h : k.val - 256 - 128 < 128 then c ⟨k.val - 256 - 128, h⟩ x
  else e ⟨k.val - 256 - 128 - 128, by omega⟩ x

/-- A table of 128 rows stacked four times, read at row `128 t + r`. -/
theorem stacked (B : Fin 128 → EReal) (t : Fin 4) (r : Fin 128) :
    (if h : t.val * 128 + r.val < 128 then B ⟨t.val * 128 + r.val, h⟩
      else if h : t.val * 128 + r.val - 128 < 128 then B ⟨t.val * 128 + r.val - 128, h⟩
      else if h : t.val * 128 + r.val - 128 - 128 < 128 then B ⟨t.val * 128 + r.val - 128 - 128, h⟩
      else B ⟨t.val * 128 + r.val - 128 - 128 - 128, by omega⟩) = B r := by
  split_ifs <;> congr 1 <;> ext <;> simp only [] <;> omega

section Group0

theorem soft0 (V : FVec Ideal S640x64 .bf16) (i : IVec S512x1 32) (S : FVec Ideal S512x640 .f32) (a : FVec Ideal S512x1 .f32)
    (b c : IVec S512x1 32) (e f : Elt Ideal .f32) (r : Fin 512) (d : Fin 64) :
    k0_pay18 (F := Ideal) (k0_pay16 V i S a b c e f) (k0_pay17 i S a b c e f) (ix2 r d)
      = rowAttn (fun k => S (ix2 r k)) (k0_pay13 i a b c e f (ix2 r 0)) (fun k => V (ix2 k d)) := by
  pointwise [k0_pay18, k0_pay16, k0_pay17, k0_pay15, k0_pay14]
  rw [negInf]
  rfl

theorem score0 (Q : FVec Ideal S512x64 .bf16) (K : FVec Ideal S640x64 .bf16) (B : Vec Ideal S1x128x640 .f32) (t : Fin 4) (r : Fin 128) (k : Fin 640) :
    k0_pay5 (F := Ideal) Q K (constant S512x640 .f32 0x00000000#32) B (ix2 ⟨t.val * 128 + r.val, by omega⟩ k)
      = (∑ e : Fin 64, Q (ix2 ⟨t.val * 128 + r.val, by omega⟩ e) * K (ix2 k e)) + B (ix3 0 r k) := by
  pointwise [k0_pay5]
  refine Ideal.add_congr rfl ?_
  exact stacked (fun r => B (ix3 0 r k)) t r

theorem queries0 (v : Vec Ideal S1x4x128x64 .bf16) (t : Fin 4) (r : Fin 128) (e : Fin 64) :
    k0_pay2 (F := Ideal) v (ix2 ⟨t.val * 128 + r.val, by omega⟩ e) = v (ix4 0 t r e) := by
  pointwise [k0_pay2]

theorem keys0 (a : Vec Ideal S1x1x256x64 .bf16) (b c d : Vec Ideal S1x1x128x64 .bf16) (k : Fin 640) (e : Fin 64) :
    k0_pay3 (F := Ideal) a b c d (ix2 k e)
      = join (fun k x => a (ix4 0 0 k x)) (fun k x => b (ix4 0 0 k x)) (fun k x => c (ix4 0 0 k x)) (fun k x => d (ix4 0 0 k x)) k e := by
  pointwise [k0_pay3]
  rfl

theorem values0 (a : Vec Ideal S1x1x256x64 .bf16) (b c d : Vec Ideal S1x1x128x64 .bf16) (k : Fin 640) (e : Fin 64) :
    k0_pay4 (F := Ideal) a b c d (ix2 k e)
      = join (fun k x => a (ix4 0 0 k x)) (fun k x => b (ix4 0 0 k x)) (fun k x => c (ix4 0 0 k x)) (fun k x => d (ix4 0 0 k x)) k e := by
  pointwise [k0_pay4]
  rfl

theorem sink0 (z0 z1 z2 z3 : Elt Ideal .f32) (t : Fin 4) (r : Fin 128) :
    k0_pay13 (F := Ideal) (iota .tc S512x1 32 [0] iota_S512x1_d0_w32)
      (k0_pay10 (iota .tc S512x1 32 [0] iota_S512x1_d0_w32) (k0_pay6 z0) 128#32 k0_pay7 k0_pay8 k0_pay9 z1)
      (k0_pay11 (iota .tc S512x1 32 [0] iota_S512x1_d0_w32)) k0_pay12 z2 z3 (ix2 ⟨t.val * 128 + r.val, by omega⟩ 0)
      = ![z0, z1, z2, z3] t := by
  pointwise [k0_pay13, k0_pay10, k0_pay6, k0_pay7, k0_pay8, k0_pay9, k0_pay11, k0_pay12]
  exact select_heads z0 z1 z2 z3 t r

/-- What the first group's chain of payloads holds for head `t`, row `r`, column `d`. -/
theorem out0 (q : Vec Ideal S1x4x128x64 .bf16) (kc : Vec Ideal S1x1x256x64 .bf16) (kp ko kn : Vec Ideal S1x1x128x64 .bf16)
    (vc : Vec Ideal S1x1x256x64 .bf16) (vp vo vn : Vec Ideal S1x1x128x64 .bf16) (B : Vec Ideal S1x128x640 .f32)
    (z0 z1 z2 z3 : Elt Ideal .f32) (t : Fin 4) (r : Fin 128) (d : Fin 64)
    (i : IVec S512x1 32) (hi : i = iota .tc S512x1 32 [0] iota_S512x1_d0_w32)
    (S : FVec Ideal S512x640 .f32) (hS : S = k0_pay5 (k0_pay2 q) (k0_pay3 kc kp ko kn) (constant S512x640 .f32 0x00000000#32) B)
    (a : FVec Ideal S512x1 .f32) (ha : a = k0_pay10 i (k0_pay6 z0) 128#32 k0_pay7 k0_pay8 k0_pay9 z1) :
    k0_pay18 (F := Ideal) (k0_pay16 (k0_pay4 vc vp vo vn) i S a (k0_pay11 i) k0_pay12 z2 z3) (k0_pay17 i S a (k0_pay11 i) k0_pay12 z2 z3)
        (ix2 ⟨t.val * 128 + r.val, by omega⟩ d)
      = rowAttn
          (fun k => (∑ e : Fin 64, q (ix4 0 t r e) * join (fun k x => kc (ix4 0 0 k x)) (fun k x => kp (ix4 0 0 k x)) (fun k x => ko (ix4 0 0 k x)) (fun k x => kn (ix4 0 0 k x)) k e) + B (ix3 0 r k))
          (![z0, z1, z2, z3] t)
          (fun k => join (fun k x => vc (ix4 0 0 k x)) (fun k x => vp (ix4 0 0 k x)) (fun k x => vo (ix4 0 0 k x)) (fun k x => vn (ix4 0 0 k x)) k d) := by
  rw [soft0]
  subst ha hS hi
  rw [sink0]
  simp only [score0, queries0, keys0, values0]

end Group0

section Group1

theorem score1 (Q : FVec Ideal S512x64 .bf16) (K : FVec Ideal S640x64 .bf16) (B : Vec Ideal S1x128x640 .f32) (t : Fin 4) (r : Fin 128) (k : Fin 640) :
    k0_pay29 (F := Ideal) Q K B (ix2 ⟨t.val * 128 + r.val, by omega⟩ k)
      = (∑ e : Fin 64, Q (ix2 ⟨t.val * 128 + r.val, by omega⟩ e) * K (ix2 k e)) + B (ix3 0 r k) := by
  pointwise [k0_pay29]
  refine Ideal.add_congr rfl ?_
  exact stacked (fun r => B (ix3 0 r k)) t r

theorem queries1 (v : Vec Ideal S1x4x128x64 .bf16) (t : Fin 4) (r : Fin 128) (e : Fin 64) :
    k0_pay23 (F := Ideal) v (ix2 ⟨t.val * 128 + r.val, by omega⟩ e) = v (ix4 0 t r e) := by
  pointwise [k0_pay23]

theorem keys1 (a : Vec Ideal S1x1x256x64 .bf16) (b c d : Vec Ideal S1x1x128x64 .bf16) (k : Fin 640) (e : Fin 64) :
    k0_pay24 (F := Ideal) a b c d (ix2 k e)
      = join (fun k x => a (ix4 0 0 k x)) (fun k x => b (ix4 0 0 k x)) (fun k x => c (ix4 0 0 k x)) (fun k x => d (ix4 0 0 k x)) k e := by
  pointwise [k0_pay24]
  rfl

theorem values1 (a : Vec Ideal S1x1x256x64 .bf16) (b c d : Vec Ideal S1x1x128x64 .bf16) (k : Fin 640) (e : Fin 64) :
    k0_pay28 (F := Ideal) (k0_pay25 a) (k0_pay26 b) (k0_pay27 c) d (ix2 k e)
      = join (fun k x => a (ix4 0 0 k x)) (fun k x => b (ix4 0 0 k x)) (fun k x => c (ix4 0 0 k x)) (fun k x => d (ix4 0 0 k x)) k e := by
  pointwise [k0_pay28, k0_pay25, k0_pay26, k0_pay27]
  rfl

theorem sink1 (z0 z1 z2 z3 : Elt Ideal .f32) (t : Fin 4) (r : Fin 128)
    (i : IVec S512x1 32) (hi : i = iota .tc S512x1 32 [0] iota_S512x1_d0_w32) :
    k0_pay37 (F := Ideal) i (k0_pay33 i (k0_pay30 z0) 128#32 k0_pay31 k0_pay32 0#32 z1)
      (k0_pay34 i) (k0_pay35 i) (k0_pay36 i) z2 z3 (ix2 ⟨t.val * 128 + r.val, by omega⟩ 0)
      = ![z0, z1, z2, z3] t := by
  subst hi
  pointwise [k0_pay37, k0_pay33, k0_pay30, k0_pay31, k0_pay32, k0_pay34, k0_pay35, k0_pay36]
  exact select_heads z0 z1 z2 z3 t r

/-- The second group's quotient. -/
theorem soft1 (V : FVec Ideal S640x64 .bf16) (i : IVec S512x1 32) (S : FVec Ideal S512x640 .f32) (a : FVec Ideal S512x1 .f32)
    (b : IVec S512x1 32) (b' : IVec S512x1 1) (c : IVec S512x1 32) (e f : Elt Ideal .f32) (r : Fin 512) (d : Fin 64) :
    Ideal.div (∑ k : Fin 640, k0_pay41 (F := Ideal) i S a b b' c e f (ix2 r k) * V (ix2 k d)) (k0_pay40 (F := Ideal) i S a b b' c e f (ix2 r 0))
      = rowAttn (fun k => S (ix2 r k)) (k0_pay37 i a b b' c e f (ix2 r 0)) (fun k => V (ix2 k d)) := by
  pointwise [k0_pay40, k0_pay41, k0_pay39, k0_pay38]
  rw [negInf]
  rfl

/-- What the second group's chain of payloads holds for head `4 + t`, row `r`, column `d`. -/
theorem out1 (q : Vec Ideal S1x4x128x64 .bf16) (kc : Vec Ideal S1x1x256x64 .bf16) (kp ko kn : Vec Ideal S1x1x128x64 .bf16)
    (vc : Vec Ideal S1x1x256x64 .bf16) (vp vo vn : Vec Ideal S1x1x128x64 .bf16) (B : Vec Ideal S1x128x640 .f32)
    (z0 z1 z2 z3 : Elt Ideal .f32) (t : Fin 4) (r : Fin 128) (d : Fin 64)
    (i : IVec S512x1 32) (hi : i = iota .tc S512x1 32 [0] iota_S512x1_d0_w32)
    (S : FVec Ideal S512x640 .f32) (hS : S = k0_pay29 (k0_pay23 q) (k0_pay24 kc kp ko kn) B)
    (a : FVec Ideal S512x1 .f32) (ha : a = k0_pay33 i (k0_pay30 z0) 128#32 k0_pay31 k0_pay32 0#32 z1)
    (V : FVec Ideal S640x64 .bf16) (hV : V = k0_pay28 (k0_pay25 vc) (k0_pay26 vp) (k0_pay27 vo) vn) :
    Ideal.div (∑ k : Fin 640, k0_pay41 (F := Ideal) i S a (k0_pay34 i) (k0_pay35 i) (k0_pay36 i) z2 z3 (ix2 ⟨t.val * 128 + r.val, by omega⟩ k) * V (ix2 k d))
        (k0_pay40 (F := Ideal) i S a (k0_pay34 i) (k0_pay35 i) (k0_pay36 i) z2 z3 (ix2 ⟨t.val * 128 + r.val, by omega⟩ 0))
      = rowAttn
          (fun k => (∑ e : Fin 64, q (ix4 0 t r e) * join (fun k x => kc (ix4 0 0 k x)) (fun k x => kp (ix4 0 0 k x)) (fun k x => ko (ix4 0 0 k x)) (fun k x => kn (ix4 0 0 k x)) k e) + B (ix3 0 r k))
          (![z0, z1, z2, z3] t)
          (fun k => join (fun k x => vc (ix4 0 0 k x)) (fun k x => vp (ix4 0 0 k x)) (fun k x => vo (ix4 0 0 k x)) (fun k x => vn (ix4 0 0 k x)) k d) := by
  rw [soft1]
  subst ha hS hV
  rw [sink1 z0 z1 z2 z3 t r i hi]
  simp only [score1, queries1, keys1, values1]

end Group1

/-- Eight blocks of 64 columns side by side, four rows' groups of `A` and four of `B`. -/
theorem eight (A B : Fin 512 → Fin 64 → EReal) (r : Fin 128) (c : Fin 512) :
    (if h : c.val < 64 then A ⟨r.val, by omega⟩ ⟨c.val, h⟩
      else if h : c.val - 64 < 64 then A ⟨128 + r.val, by omega⟩ ⟨c.val - 64, h⟩
      else if h : c.val - 64 - 64 < 64 then A ⟨256 + r.val, by omega⟩ ⟨c.val - 64 - 64, h⟩
      else if h : c.val - 64 - 64 - 64 < 64 then A ⟨384 + r.val, by omega⟩ ⟨c.val - 64 - 64 - 64, h⟩
      else if h : c.val - 64 - 64 - 64 - 64 < 64 then B ⟨r.val, by omega⟩ ⟨c.val - 64 - 64 - 64 - 64, h⟩
      else if h : c.val - 64 - 64 - 64 - 64 - 64 < 64 then B ⟨128 + r.val, by omega⟩ ⟨c.val - 64 - 64 - 64 - 64 - 64, h⟩
      else if h : c.val - 64 - 64 - 64 - 64 - 64 - 64 < 64 then B ⟨256 + r.val, by omega⟩ ⟨c.val - 64 - 64 - 64 - 64 - 64 - 64, h⟩
      else B ⟨384 + r.val, by omega⟩ ⟨c.val - 64 - 64 - 64 - 64 - 64 - 64 - 64, by omega⟩)
    = if h : c.val < 256 then A ⟨c.val / 64 * 128 + r.val, by omega⟩ ⟨c.val % 64, by omega⟩
      else B ⟨(c.val - 256) / 64 * 128 + r.val, by omega⟩ ⟨c.val % 64, by omega⟩ := by
  split_ifs <;> first | omega | (congr 1 <;> ext <;> simp only [] <;> omega)

/-- The stored block read at a row and a column. -/
theorem store (v156 v157 : FVec Ideal S512x64 .f32) (V : FVec Ideal S640x64 .bf16) (x : FVec Ideal S512x1 .f32) (p : FVec Ideal S512x640 .bf16)
    (r : Fin 128) (c : Fin 512) :
    k0_pay1 (F := Ideal) (k0_pay19 v156 v157) (k0_pay20 v156 v157) (k0_pay21 v156 v157) (k0_pay22 v156 v157) V x p (ix3 0 r c)
      = if h : c.val < 256 then k0_pay18 v156 v157 (ix2 ⟨c.val / 64 * 128 + r.val, by omega⟩ ⟨c.val % 64, by omega⟩)
        else Ideal.div (∑ k : Fin 640, p (ix2 ⟨(c.val - 256) / 64 * 128 + r.val, by omega⟩ k) * V (ix2 k ⟨c.val % 64, by omega⟩))
          (x (ix2 ⟨(c.val - 256) / 64 * 128 + r.val, by omega⟩ 0)) := by
  pointwise [k0_pay1, k0_pay19, k0_pay20, k0_pay21, k0_pay22]
  exact eight (fun ρ d => k0_pay18 v156 v157 (ix2 ρ d))
    (fun ρ d => Ideal.div (∑ k : Fin 640, p (ix2 ρ k) * V (ix2 k d)) (x (ix2 ρ 0))) r c

end Cert.Attention
-- ==== Proof.Block.lean ====
module
public import proofs.«01_k».proof.Proof.Payload
public import proofs.«01_k».proof.Proof.Gen.KernelIdeal.Value
public import Idealize.ShloMosaic.Lib.Pipeline.ValueKit
@[expose] public section
set_option maxRecDepth 16384

noncomputable section

namespace Cert.Attention
open Cert.KernelIdeal Cert.KernelIdeal.Gen Idealize.ShloMosaic Idealize.ShloMosaic.TcCoe Idealize.SL.Sem

/-! What one grid step of the attention kernel stores. -/

/-- One entry of the stored tile: the attention row of its query against the block's joined keys and values. -/
theorem out_block (c : Dev nD) (i : grid0.Coords) (arg2 : Memref sig .tc .smem S8 .f32) (harg2 : arg2.IsWhole) (arg3 : Memref sig .tc .vmem S1x8x128x64 .bf16) (harg3 : arg3.IsWhole) (arg4 : Memref sig .tc .vmem S1x2x256x64 .bf16) (harg4 : arg4.IsWhole) (arg5 : Memref sig .tc .vmem S1x2x256x64 .bf16) (harg5 : arg5.IsWhole) (arg6 : Memref sig .tc .vmem S1x2x128x64 .bf16) (harg6 : arg6.IsWhole) (arg7 : Memref sig .tc .vmem S1x2x128x64 .bf16) (harg7 : arg7.IsWhole) (arg8 : Memref sig .tc .vmem S1x2x128x64 .bf16) (harg8 : arg8.IsWhole) (arg9 : Memref sig .tc .vmem S1x2x128x64 .bf16) (harg9 : arg9.IsWhole) (arg10 : Memref sig .tc .vmem S1x2x128x64 .bf16) (harg10 : arg10.IsWhole) (arg11 : Memref sig .tc .vmem S1x2x128x64 .bf16) (harg11 : arg11.IsWhole) (arg12 : Memref sig .tc .vmem S1x128x640 .f32) (harg12 : arg12.IsWhole) (arg13 : Memref sig .tc .vmem S1x128x512 .bf16) (harg13 : arg13.IsWhole)
    (x0 : Vec Ideal S8 .f32) (x1 : Vec Ideal S1x8x128x64 .bf16) (x2 : Vec Ideal S1x2x256x64 .bf16) (x3 : Vec Ideal S1x2x256x64 .bf16) (x4 : Vec Ideal S1x2x128x64 .bf16) (x5 : Vec Ideal S1x2x128x64 .bf16) (x6 : Vec Ideal S1x2x128x64 .bf16) (x7 : Vec Ideal S1x2x128x64 .bf16) (x8 : Vec Ideal S1x2x128x64 .bf16) (x9 : Vec Ideal S1x2x128x64 .bf16) (x10 : Vec Ideal S1x128x640 .f32) (r : Fin 128) (cc : Fin 512) :
    @Eq EReal (out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 0 r cc))
      (rowAttn (fun k => (∑ e : Fin 64, x1 (ix4 0 ⟨cc.val / 64, by omega⟩ r e) * join (fun k x => x2 (ix4 0 ⟨cc.val / 256, by omega⟩ k x)) (fun k x => x4 (ix4 0 ⟨cc.val / 256, by omega⟩ k x)) (fun k x => x5 (ix4 0 ⟨cc.val / 256, by omega⟩ k x)) (fun k x => x6 (ix4 0 ⟨cc.val / 256, by omega⟩ k x)) k e) + x10 (ix3 0 r k))
        (x0 (ix1 ⟨cc.val / 64, by omega⟩))
        (fun k => join (fun k x => x3 (ix4 0 ⟨cc.val / 256, by omega⟩ k x)) (fun k x => x7 (ix4 0 ⟨cc.val / 256, by omega⟩ k x)) (fun k x => x8 (ix4 0 ⟨cc.val / 256, by omega⟩ k x)) (fun k x => x9 (ix4 0 ⟨cc.val / 256, by omega⟩ k x)) k ⟨cc.val % 64, by omega⟩)) := by
  unfold out0_A_11
  frame_out
  rw [store]
  split_ifs with h
  · have eg : (⟨cc.val / 256, by omega⟩ : Fin 2) = 0 := Fin.ext (Nat.div_eq_of_lt h)
    rw [eg]
    refine (out0 _ _ _ _ _ _ _ _ _ _ _ _ _ _ ⟨cc.val / 64, by omega⟩ r ⟨cc.val % 64, by omega⟩ _ rfl _ rfl _ rfl).trans ?_
    refine congr (congr (congrArg rowAttn ?_) ?_) ?_
    · funext k
      refine congrArg (· + x10 (ix3 0 r k)) (Finset.sum_congr rfl fun e _ => ?_)
      pointwise []
    · have hz : ∀ t : Fin 4, @Eq EReal ((![View.ld x0 (Rect.unit ![0] ![1] inb_S8_S1_0) (Shape.Idx.first (show 0 < S1.numel by decide)), View.ld x0 (Rect.unit ![1] ![1] inb_S8_S1_1) (Shape.Idx.first (show 0 < S1.numel by decide)), View.ld x0 (Rect.unit ![2] ![1] inb_S8_S1_2) (Shape.Idx.first (show 0 < S1.numel by decide)), View.ld x0 (Rect.unit ![3] ![1] inb_S8_S1_3) (Shape.Idx.first (show 0 < S1.numel by decide))] : Fin 4 → EReal) t) (x0 (ix1 ⟨t.val, by omega⟩)) := by
        intro t
        fin_cases t
        all_goals
          refine congrArg x0 (funext fun d => Fin.ext ?_)
          have hd : d = 0 := Subsingleton.elim (α := Fin 1) d 0
          subst hd
          first
          | rfl
          | decide
          | simp
      exact hz _
    · funext k
      pointwise []
  · have eg : (⟨cc.val / 256, by omega⟩ : Fin 2) = 1 := Fin.ext (by show cc.val / 256 = 1; omega)
    have et : (⟨4 + (cc.val - 256) / 64, by omega⟩ : Fin 8) = ⟨cc.val / 64, by omega⟩ := Fin.ext (by show 4 + (cc.val - 256) / 64 = cc.val / 64; omega)
    rw [eg, ← et]
    refine (out1 _ _ _ _ _ _ _ _ _ _ _ _ _ _ ⟨(cc.val - 256) / 64, by omega⟩ r ⟨cc.val % 64, by omega⟩ _ rfl _ rfl _ rfl _ rfl).trans ?_
    refine congr (congr (congrArg rowAttn ?_) ?_) ?_
    · funext k
      refine congrArg (· + x10 (ix3 0 r k)) (Finset.sum_congr rfl fun e _ => ?_)
      pointwise []
    · have hz : ∀ t : Fin 4, @Eq EReal ((![View.ld x0 (Rect.unit ![4] ![1] inb_S8_S1_4) (Shape.Idx.first (show 0 < S1.numel by decide)), View.ld x0 (Rect.unit ![5] ![1] inb_S8_S1_5) (Shape.Idx.first (show 0 < S1.numel by decide)), View.ld x0 (Rect.unit ![6] ![1] inb_S8_S1_6) (Shape.Idx.first (show 0 < S1.numel by decide)), View.ld x0 (Rect.unit ![7] ![1] inb_S8_S1_7) (Shape.Idx.first (show 0 < S1.numel by decide))] : Fin 4 → EReal) t) (x0 (ix1 ⟨4 + t.val, by omega⟩)) := by
        intro t
        fin_cases t
        all_goals
          refine congrArg x0 (funext fun d => Fin.ext ?_)
          have hd : d = 0 := Subsingleton.elim (α := Fin 1) d 0
          subst hd
          first
          | rfl
          | decide
          | simp
      exact hz _
    · funext k
      pointwise []
end Cert.Attention
end
-- ==== Proof.Prepared.lean ====
module

public import proofs.«01_k».proof.Proof.Payload
public import proofs.«01_k».proof.Proof.Gen.KernelIdeal.Value
public import Idealize.ShloMosaic.Lib.Claim
public import Idealize.ShloMosaic.Lib.StableHlo.RunRead

@[expose] public section

set_option maxRecDepth 16384

noncomputable section

namespace Cert.Attention

open Cert.KernelIdeal Cert.KernelIdeal.Gen Idealize.ShloMosaic Idealize.ShloMosaic.TcCoe Idealize.SL.Sem

/-! What the call finds in its operands: the arguments with heads before positions, the queries scaled, and the table of
additive masks for the four kinds of block. -/

variable (m : (ℓ : Loc nD τ sig) → Buf (Elt Ideal) ℓ) (c : Dev nD)

theorem queries_read (x : Vec Ideal S4x4096x8x64 .f32) (hx : m ((c : Thread nD τ).loc main_arg0) = x) (b : Fin 4) (h : Fin 8) (l : Fin 4096) (e : Fin 64) :
    @Eq EReal (Gen.V m c main_v3 (ix4 b h l e)) (x (ix4 b l h e) * Ideal.ofBits .f32 0x3E000000#32) := by
  subst hx
  simp only [Gen.V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

theorem keys_read (x : Vec Ideal S4x4096x2x64 .f32) (hx : m ((c : Thread nD τ).loc main_arg1) = x) (b : Fin 4) (h : Fin 2) (l : Fin 4096) (e : Fin 64) :
    @Eq EReal (Gen.V m c main_v5 (ix4 b h l e)) (x (ix4 b l h e)) := by
  subst hx
  simp only [Gen.V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

theorem values_read (x : Vec Ideal S4x4096x2x64 .f32) (hx : m ((c : Thread nD τ).loc main_arg2) = x) (b : Fin 4) (h : Fin 2) (l : Fin 4096) (e : Fin 64) :
    @Eq EReal (Gen.V m c main_v7 (ix4 b h l e)) (x (ix4 b l h e)) := by
  subst hx
  simp only [Gen.V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

theorem ctxKeys_read (x : Vec Ideal S4x256x2x64 .f32) (hx : m ((c : Thread nD τ).loc main_arg3) = x) (b : Fin 4) (h : Fin 2) (l : Fin 256) (e : Fin 64) :
    @Eq EReal (Gen.V m c main_v9 (ix4 b h l e)) (x (ix4 b l h e)) := by
  subst hx
  simp only [Gen.V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

theorem ctxValues_read (x : Vec Ideal S4x256x2x64 .f32) (hx : m ((c : Thread nD τ).loc main_arg4) = x) (b : Fin 4) (h : Fin 2) (l : Fin 256) (e : Fin 64) :
    @Eq EReal (Gen.V m c main_v11 (ix4 b h l e)) (x (ix4 b l h e)) := by
  subst hx
  simp only [Gen.V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A key's position relative to its query's block, as a word. -/
def keyWord : IVec S1x384 32 :=
  broadcastInDim S1x384 ![1] bcast_S384_S1x384_1 (addi (broadcastInDim S384 ![] bcast_S_S384 (constantI S_ 32 4294967168#32)) (iotaInDim S384 32 0))

/-- The keys near a query. -/
def near : IVec S128x384 1 :=
  cmpi .sle (absi (subi (broadcastInDim S128x384 ![0, 1] bcast_S1x384_S128x384_0_1 keyWord) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))

/-- The keys not before the block. -/
def notBefore : IVec S128x384 1 :=
  broadcastInDim S128x384 ![0, 1] bcast_S1x384_S128x384_0_1 (cmpi .sge keyWord (broadcastInDim S1x384 ![] bcast_S_S1x384 (constantI S_ 32 0#32)))

/-- The keys not after the block. -/
def notAfter : IVec S128x384 1 :=
  broadcastInDim S128x384 ![0, 1] bcast_S1x384_S128x384_0_1 (cmpi .slt keyWord (broadcastInDim S1x384 ![] bcast_S_S1x384 (constantI S_ 32 128#32)))

/-- One sheet of additive masks: nothing at the context, nothing at a seen key, minus infinity at an unseen one. -/
def sheet (w : IVec S128x384 1) : Vec Ideal S1x128x640 .f32 :=
  broadcastInDim S1x128x640 ![1, 2] bcast_S128x640_S1x128x640_1_2 (concatenate S128x640 1 [
    ⟨S128x256, (broadcastInDim S128x256 ![] bcast_S_S128x256 (constant (F := Ideal) S_ .f32 0x00000000#32) : Vec Ideal S128x256 .f32)⟩,
    ⟨S128x384, (select w (broadcastInDim S128x384 ![] bcast_S_S128x384 (constant (F := Ideal) S_ .f32 0x00000000#32)) (broadcastInDim S128x384 ![] bcast_S_S128x384 (constant (F := Ideal) S_ .f32 0xFF800000#32)) : Vec Ideal S128x384 .f32)⟩]
    concatenates_S128x256_S128x384_S128x640_d1)

/-- The four sheets. -/
def table (a b d e : Vec Ideal S1x128x640 .f32) : Vec Ideal S4x128x640 .f32 :=
  concatenate S4x128x640 0 [⟨S1x128x640, a⟩, ⟨S1x128x640, b⟩, ⟨S1x128x640, d⟩, ⟨S1x128x640, e⟩] concatenates_S1x128x640_S1x128x640_S1x128x640_S1x128x640_S4x128x640_d0

set_option maxHeartbeats 4000000 in
theorem table_read : Gen.V m c main_v60 = table (sheet near) (sheet (andi near notBefore)) (sheet (andi near notAfter)) (sheet (andi (andi near notBefore) notAfter)) := by
  show StableHlo.after (List.flatten [hostOps0, hostOps0_1, hostOps0_2, hostOps0_3, hostOps0_4, hostOps0_5, hostOps0_6, hostOps0_7, hostOps0_8]) (fun b => m (c, b)) (Proc.devRef .tc main_v60) = _
  simp only [List.flatten_cons, List.flatten_nil, List.append_nil, List.cons_append, List.nil_append]
  after_reads_simp
  rfl

theorem zeroBits : Ideal.ofBits .f32 0#32 = 0 := by
  simp [Ideal.ofBits, Ideal.ieee]

theorem sheet_apply (w : IVec S128x384 1) (r : Fin 128) (k : Fin 640) :
    @Eq EReal (sheet w (ix3 0 r k)) (if h : k.val < 256 then 0 else Scalar.select (w (ix2 r ⟨k.val - 256, by omega⟩)) 0 ⊥) := by
  pointwise [sheet]
  rw [negInf]

theorem table_apply (a b d e : Vec Ideal S1x128x640 .f32) (v : Fin 4) (r : Fin 128) (k : Fin 640) :
    table a b d e (ix3 v r k) = ![a, b, d, e] v (ix3 0 r k) := by
  fin_cases v <;> pointwise [table]

/-- A truth value as a bit. -/
def bit (p : Prop) [Decidable p] : BitVec 1 := if p then 1#1 else 0#1

theorem bit_and (p q : Prop) [Decidable p] [Decidable q] : IntOp.andi (bit p) (bit q) = bit (p ∧ q) := by
  unfold bit
  by_cases hp : p <;> by_cases hq : q <;> simp [hp, hq] <;> rfl

theorem select_bit (p : Prop) [Decidable p] (x y : EReal) : Scalar.select (bit p) x y = if p then x else y := by
  unfold bit
  by_cases hp : p <;> simp [hp] <;> rfl

theorem near_word : ∀ (r : Fin 128) (k : Fin 384),
    IntOp.cmpi .sle (IntOp.absi (IntOp.subi (IntOp.addi 4294967168#32 (BitVec.ofNat 32 k.val)) (BitVec.ofNat 32 r.val))) 128#32
      = bit (r.val ≤ k.val ∧ k.val ≤ r.val + 256) := by
  decide +kernel

theorem notBefore_word : ∀ k : Fin 384, IntOp.cmpi .sge (IntOp.addi 4294967168#32 (BitVec.ofNat 32 k.val)) 0#32 = bit (128 ≤ k.val) := by
  decide +kernel

theorem notAfter_word : ∀ k : Fin 384, IntOp.cmpi .slt (IntOp.addi 4294967168#32 (BitVec.ofNat 32 k.val)) 128#32 = bit (k.val < 256) := by
  decide +kernel

theorem near_apply (r : Fin 128) (k : Fin 384) : near (ix2 r k) = bit (r.val ≤ k.val ∧ k.val ≤ r.val + 256) := by
  rw [← near_word]
  pointwise [near, keyWord]

theorem notBefore_apply (r : Fin 128) (k : Fin 384) : notBefore (ix2 r k) = bit (128 ≤ k.val) := by
  rw [← notBefore_word]
  pointwise [notBefore, keyWord]

theorem notAfter_apply (r : Fin 128) (k : Fin 384) : notAfter (ix2 r k) = bit (k.val < 256) := by
  rw [← notAfter_word]
  pointwise [notAfter, keyWord]

/-- A query at row `r` of block `j` sees the local key `k` of the three blocks around it. -/
def Sees (j : Fin 32) (r : Fin 128) (k : Fin 384) : Prop :=
  (r.val ≤ k.val ∧ k.val ≤ r.val + 256) ∧ 128 ≤ j.val * 128 + k.val ∧ j.val * 128 + k.val < 4224

instance (j : Fin 32) (r : Fin 128) (k : Fin 384) : Decidable (Sees j r k) := by
  unfold Sees
  infer_instance

/-- The sheet a block takes. -/
def kind (j : Fin 32) : Fin 4 := ⟨(if j.val = 0 then 1 else 0) + (if j.val = 31 then 2 else 0), by split_ifs <;> omega⟩

/-- The mask added to the scores of block `j`. -/
theorem mask_read (j : Fin 32) (r : Fin 128) (k : Fin 640) :
    @Eq EReal (Gen.V m c main_v60 (ix3 (kind j) r k)) (if h : k.val < 256 then 0 else if Sees j r ⟨k.val - 256, by omega⟩ then 0 else ⊥) := by
  have e := congrFun (table_read m c) (ix3 (kind j) r k)
  refine Eq.trans e ?_
  rw [table_apply]
  have hj : kind j = 0 ∧ j.val ≠ 0 ∧ j.val ≠ 31 ∨ kind j = 1 ∧ j.val = 0 ∨ kind j = 2 ∧ j.val = 31 := by
    unfold kind
    by_cases h0 : j.val = 0 <;> by_cases h1 : j.val = 31 <;> simp [h0, h1] <;> omega
  rcases hj with ⟨h, h0, h1⟩ | ⟨h, h0⟩ | ⟨h, h0⟩ <;> rw [h] <;>
    simp only [Matrix.cons_val, sheet_apply] <;> split_ifs with hk hs <;> (try rfl) <;>
    simp only [andi, near_apply, notBefore_apply, notAfter_apply, bit_and, select_bit] <;>
    (unfold Sees at hs; simp only [] at hs; first | rw [if_pos (by omega)] | rw [if_neg (by omega)])

end Cert.Attention

end
-- ==== Proof.Bridge.lean ====
module

public import proofs.«01_k».proof.Proof.Block
public import proofs.«01_k».proof.Proof.Prepared
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe Idealize.SL.Sem

/-! The result array after the whole grid: every entry is an attention row over the arguments. -/

/-- Which block of each operand a grid step sees: batch `t / 32`, tile `t % 32`, its two neighbours clamped to the ends. -/
theorem idx : ∀ t : Fin cfg0.N,
    win0_0.index t = ![0]
    ∧ win0_1.index t = ![t.val / 32, 0, t.val % 32, 0]
    ∧ win0_2.index t = ![t.val / 32, 0, 0, 0]
    ∧ win0_3.index t = ![t.val / 32, 0, 0, 0]
    ∧ win0_4.index t = ![t.val / 32, 0, t.val % 32 - 1, 0]
    ∧ win0_5.index t = ![t.val / 32, 0, t.val % 32, 0]
    ∧ win0_6.index t = ![t.val / 32, 0, min (t.val % 32 + 1) 31, 0]
    ∧ win0_7.index t = ![t.val / 32, 0, t.val % 32 - 1, 0]
    ∧ win0_8.index t = ![t.val / 32, 0, t.val % 32, 0]
    ∧ win0_9.index t = ![t.val / 32, 0, min (t.val % 32 + 1) 31, 0]
    ∧ win0_10.index t = ![(kind ⟨t.val % 32, Nat.mod_lt _ (by decide)⟩).val, 0, 0]
    ∧ win0_11.index t = ![t.val / 32, t.val % 32, 0] :=
  (by decide +kernel : ∀ t : Fin grid0.N, _)

theorem points (t : Fin cfg0.N) : t.val < 128 := t.isLt

/-- The batch of a grid step. -/
def batch (t : Fin cfg0.N) : Fin 4 := ⟨t.val / 32, by have := points t; omega⟩

/-- The tile of a grid step. -/
def tile (t : Fin cfg0.N) : Fin 32 := ⟨t.val % 32, by omega⟩

/-- Position `r` of tile `j`, of the tile before it and of the one after it, the neighbours clamped to the ends. -/
def here (j : Fin 32) (r : Fin 128) : Fin 4096 := ⟨j.val * 128 + r.val, by omega⟩
def before (j : Fin 32) (r : Fin 128) : Fin 4096 := ⟨(j.val - 1) * 128 + r.val, by omega⟩
def after (j : Fin 32) (r : Fin 128) : Fin 4096 := ⟨(min (j.val + 1) 31) * 128 + r.val, by omega⟩

variable (m : (ℓ : Loc nD τ sig) → Buf (Elt Ideal) ℓ) (c : Dev nD)

theorem sinks_at (t : Fin cfg0.N) (x : Vec Ideal S8 .f32) (hx : m ((c : Thread nD τ).loc main_arg5) = x) (h : Fin 8) :
    @Eq EReal (iblk m c 0 t (ix1 h)) (x (ix1 h)) := by
  subst hx
  have e : iblk m c 0 t (ix1 h) = Gen.V m c main_arg5 (ix1 h) := by blk_ext [iblk, idx t]
  exact e.trans (congrFun (V_main_arg5 m c) _)

theorem queries_at (t : Fin cfg0.N) (x : Vec Ideal S4x4096x8x64 .f32) (hx : m ((c : Thread nD τ).loc main_arg0) = x) (h : Fin 8) (r : Fin 128) (e : Fin 64) :
    @Eq EReal (iblk m c 1 t (ix4 0 h r e)) (x (ix4 (batch t) (here (tile t) r) h e) * Ideal.ofBits .f32 0x3E000000#32) := by
  have e1 : iblk m c 1 t (ix4 0 h r e) = Gen.V m c main_v3 (ix4 (batch t) h (here (tile t) r) e) := by blk_ext [iblk, idx t, batch, tile, here]
  exact Eq.trans e1 (queries_read m c x hx _ _ _ _)

theorem mask_at (t : Fin cfg0.N) (r : Fin 128) (k : Fin 640) :
    @Eq EReal (iblk m c 10 t (ix3 0 r k)) (if h : k.val < 256 then 0 else if Sees (tile t) r ⟨k.val - 256, by omega⟩ then 0 else ⊥) := by
  have e1 : iblk m c 10 t (ix3 0 r k) = Gen.V m c main_v60 (ix3 (kind (tile t)) r k) := by blk_ext [iblk, idx t, tile]
  exact Eq.trans e1 (mask_read m c _ _ _)

theorem ctxKeys_at (t : Fin cfg0.N) (x : Vec Ideal S4x256x2x64 .f32) (hx : m ((c : Thread nD τ).loc main_arg3) = x) (g : Fin 2) (k : Fin 256) (e : Fin 64) :
    @Eq EReal (iblk m c 2 t (ix4 0 g k e)) (x (ix4 (batch t) k g e)) := by
  have e1 : iblk m c 2 t (ix4 0 g k e) = Gen.V m c main_v9 (ix4 (batch t) g k e) := by blk_ext [iblk, idx t, batch, tile]
  exact Eq.trans e1 (ctxKeys_read m c x hx _ _ _ _)

theorem ctxValues_at (t : Fin cfg0.N) (x : Vec Ideal S4x256x2x64 .f32) (hx : m ((c : Thread nD τ).loc main_arg4) = x) (g : Fin 2) (k : Fin 256) (e : Fin 64) :
    @Eq EReal (iblk m c 3 t (ix4 0 g k e)) (x (ix4 (batch t) k g e)) := by
  have e1 : iblk m c 3 t (ix4 0 g k e) = Gen.V m c main_v11 (ix4 (batch t) g k e) := by blk_ext [iblk, idx t, batch, tile]
  exact Eq.trans e1 (ctxValues_read m c x hx _ _ _ _)

theorem keysBefore_at (t : Fin cfg0.N) (x : Vec Ideal S4x4096x2x64 .f32) (hx : m ((c : Thread nD τ).loc main_arg1) = x) (g : Fin 2) (k : Fin 128) (e : Fin 64) :
    @Eq EReal (iblk m c 4 t (ix4 0 g k e)) (x (ix4 (batch t) (before (tile t) k) g e)) := by
  have e1 : iblk m c 4 t (ix4 0 g k e) = Gen.V m c main_v5 (ix4 (batch t) g (before (tile t) k) e) := by blk_ext [iblk, idx t, batch, tile, before]
  exact Eq.trans e1 (keys_read m c x hx _ _ _ _)

theorem keysHere_at (t : Fin cfg0.N) (x : Vec Ideal S4x4096x2x64 .f32) (hx : m ((c : Thread nD τ).loc main_arg1) = x) (g : Fin 2) (k : Fin 128) (e : Fin 64) :
    @Eq EReal (iblk m c 5 t (ix4 0 g k e)) (x (ix4 (batch t) (here (tile t) k) g e)) := by
  have e1 : iblk m c 5 t (ix4 0 g k e) = Gen.V m c main_v5 (ix4 (batch t) g (here (tile t) k) e) := by blk_ext [iblk, idx t, batch, tile, here]
  exact Eq.trans e1 (keys_read m c x hx _ _ _ _)

theorem keysAfter_at (t : Fin cfg0.N) (x : Vec Ideal S4x4096x2x64 .f32) (hx : m ((c : Thread nD τ).loc main_arg1) = x) (g : Fin 2) (k : Fin 128) (e : Fin 64) :
    @Eq EReal (iblk m c 6 t (ix4 0 g k e)) (x (ix4 (batch t) (after (tile t) k) g e)) := by
  have e1 : iblk m c 6 t (ix4 0 g k e) = Gen.V m c main_v5 (ix4 (batch t) g (after (tile t) k) e) := by blk_ext [iblk, idx t, batch, tile, after]
  exact Eq.trans e1 (keys_read m c x hx _ _ _ _)

theorem valuesBefore_at (t : Fin cfg0.N) (x : Vec Ideal S4x4096x2x64 .f32) (hx : m ((c : Thread nD τ).loc main_arg2) = x) (g : Fin 2) (k : Fin 128) (e : Fin 64) :
    @Eq EReal (iblk m c 7 t (ix4 0 g k e)) (x (ix4 (batch t) (before (tile t) k) g e)) := by
  have e1 : iblk m c 7 t (ix4 0 g k e) = Gen.V m c main_v7 (ix4 (batch t) g (before (tile t) k) e) := by blk_ext [iblk, idx t, batch, tile, before]
  exact Eq.trans e1 (values_read m c x hx _ _ _ _)

theorem valuesHere_at (t : Fin cfg0.N) (x : Vec Ideal S4x4096x2x64 .f32) (hx : m ((c : Thread nD τ).loc main_arg2) = x) (g : Fin 2) (k : Fin 128) (e : Fin 64) :
    @Eq EReal (iblk m c 8 t (ix4 0 g k e)) (x (ix4 (batch t) (here (tile t) k) g e)) := by
  have e1 : iblk m c 8 t (ix4 0 g k e) = Gen.V m c main_v7 (ix4 (batch t) g (here (tile t) k) e) := by blk_ext [iblk, idx t, batch, tile, here]
  exact Eq.trans e1 (values_read m c x hx _ _ _ _)

theorem valuesAfter_at (t : Fin cfg0.N) (x : Vec Ideal S4x4096x2x64 .f32) (hx : m ((c : Thread nD τ).loc main_arg2) = x) (g : Fin 2) (k : Fin 128) (e : Fin 64) :
    @Eq EReal (iblk m c 9 t (ix4 0 g k e)) (x (ix4 (batch t) (after (tile t) k) g e)) := by
  have e1 : iblk m c 9 t (ix4 0 g k e) = Gen.V m c main_v7 (ix4 (batch t) g (after (tile t) k) e) := by blk_ext [iblk, idx t, batch, tile, after]
  exact Eq.trans e1 (values_read m c x hx _ _ _ _)

/-- The entry at batch `b`, position `128 j + r` and channel `cc`, over the arguments: the attention row of its query against the
context's keys and the keys of three tiles, the additive mask closing what the window does not hold. -/
def entry (q : Vec Ideal S4x4096x8x64 .f32) (k v : Vec Ideal S4x4096x2x64 .f32) (kc vc : Vec Ideal S4x256x2x64 .f32) (z : Vec Ideal S8 .f32) (b : Fin 4) (j : Fin 32) (r : Fin 128) (cc : Fin 512) : EReal :=
  rowAttn (fun i => (∑ e : Fin 64, q (ix4 b (here j r) ⟨cc.val / 64, by omega⟩ e) * Ideal.ofBits .f32 0x3E000000#32
        * join (fun i x => kc (ix4 b i ⟨cc.val / 256, by omega⟩ x)) (fun i x => k (ix4 b (before j i) ⟨cc.val / 256, by omega⟩ x)) (fun i x => k (ix4 b (here j i) ⟨cc.val / 256, by omega⟩ x)) (fun i x => k (ix4 b (after j i) ⟨cc.val / 256, by omega⟩ x)) i e)
        + (if h : i.val < 256 then 0 else if Sees j r ⟨i.val - 256, by omega⟩ then 0 else ⊥))
    (z (ix1 ⟨cc.val / 64, by omega⟩))
    (fun i => join (fun i x => vc (ix4 b i ⟨cc.val / 256, by omega⟩ x)) (fun i x => v (ix4 b (before j i) ⟨cc.val / 256, by omega⟩ x)) (fun i x => v (ix4 b (here j i) ⟨cc.val / 256, by omega⟩ x)) (fun i x => v (ix4 b (after j i) ⟨cc.val / 256, by omega⟩ x)) i ⟨cc.val % 64, by omega⟩)

theorem stored (t : Fin cfg0.N) (q : Vec Ideal S4x4096x8x64 .f32) (k v : Vec Ideal S4x4096x2x64 .f32) (kc vc : Vec Ideal S4x256x2x64 .f32) (z : Vec Ideal S8 .f32)
    (hq : m ((c : Thread nD τ).loc main_arg0) = q) (hk : m ((c : Thread nD τ).loc main_arg1) = k) (hv : m ((c : Thread nD τ).loc main_arg2) = v)
    (hkc : m ((c : Thread nD τ).loc main_arg3) = kc) (hvc : m ((c : Thread nD τ).loc main_arg4) = vc) (hz : m ((c : Thread nD τ).loc main_arg5) = z) (r : Fin 128) (cc : Fin 512) :
    @Eq EReal (outsAt0 m c t (ix3 0 r cc)) (entry q k v kc vc z (batch t) (tile t) r cc) := by
  unfold outsAt0
  refine (out_block _ _ _ _ _ _ _ _ _ _ _ _ _ _ _ _ _ _ _ _ _ _ _ _ _ _ _ _ _ _ _ _ _ _ _ _ _ r cc).trans ?_
  unfold entry
  refine congr (congr (congrArg rowAttn (funext fun i => ?_)) ?_) (funext fun i => ?_)
  · refine congr (congrArg HAdd.hAdd (Finset.sum_congr rfl fun e _ => congr (congrArg HMul.hMul ?_) (congrFun (congrFun (congr (congr (congr (congrArg join ?_) ?_) ?_) ?_) i) e))) ?_
    · exact queries_at m c t q hq _ _ _
    · funext i x; exact ctxKeys_at m c t kc hkc _ _ _
    · funext i x; exact keysBefore_at m c t k hk _ _ _
    · funext i x; exact keysHere_at m c t k hk _ _ _
    · funext i x; exact keysAfter_at m c t k hk _ _ _
    · exact mask_at m c t _ _
  · exact sinks_at m c t z hz _
  · refine congrFun (congrFun (congr (congr (congr (congrArg join ?_) ?_) ?_) ?_) i) _
    · funext i x; exact ctxValues_at m c t vc hvc _ _ _
    · funext i x; exact valuesBefore_at m c t v hv _ _ _
    · funext i x; exact valuesHere_at m c t v hv _ _ _
    · funext i x; exact valuesAfter_at m c t v hv _ _ _

/-- `entry` as an array of the result's shape. -/
def entries3 (q : Vec Ideal S4x4096x8x64 .f32) (k v : Vec Ideal S4x4096x2x64 .f32) (kc vc : Vec Ideal S4x256x2x64 .f32) (z : Vec Ideal S8 .f32) : Vec Ideal S4x4096x512 .bf16 :=
  fun y => entry q k v kc vc z ⟨(y 0).val, (y 0).isLt⟩ ⟨(y 1).val / 128, Nat.div_lt_of_lt_mul (y 1).isLt⟩ ⟨(y 1).val % 128, Nat.mod_lt _ (by decide)⟩ ⟨(y 2).val, (y 2).isLt⟩

theorem final (q : Vec Ideal S4x4096x8x64 .f32) (k v : Vec Ideal S4x4096x2x64 .f32) (kc vc : Vec Ideal S4x256x2x64 .f32) (z : Vec Ideal S8 .f32)
    (hq : m ((c : Thread nD τ).loc main_arg0) = q) (hk : m ((c : Thread nD τ).loc main_arg1) = k) (hv : m ((c : Thread nD τ).loc main_arg2) = v)
    (hkc : m ((c : Thread nD τ).loc main_arg3) = kc) (hvc : m ((c : Thread nD τ).loc main_arg4) = vc) (hz : m ((c : Thread nD τ).loc main_arg5) = z) :
    (dats m 0 c).arrAt 11 cfg0.N = entries3 q k v kc vc z := by
  refine (dats m 0 c).arrAt_eq_of_covers 11 _ (by decide +kernel) fun t _ y => ?_
  blk_simp
  rw [after0_11]
  have e1 : outsAt0 m c t y = outsAt0 m c t (ix3 0 ⟨(y 1).val, (y 1).isLt⟩ ⟨(y 2).val, (y 2).isLt⟩) := by blk_ext []
  refine e1.trans ((stored m c t q k v kc vc z hq hk hv hkc hvc hz _ _).trans ?_)
  unfold entries3
  have ht := points t
  have hy : (y 1).val < 128 := (y 1).isLt
  have hy0 : (y 0).val < 1 := (y 0).isLt
  refine congr (congr (congr (congrArg (entry q k v kc vc z) (Fin.ext ?_)) (Fin.ext ?_)) (Fin.ext ?_)) (Fin.ext ?_)
  all_goals
    show _ = _
    blk_simp [idx t, batch, tile]
    try dsimp only
    try omega

end Cert.Attention

end
-- ==== Proof.Softmax.lean ====
module

public import proofs.«01_k».proof.Proof.Payload

@[expose] public section

noncomputable section

namespace Cert.Attention

open Idealize.ShloMosaic

/-! The one law of the extended reals that the two texts differ by: dividing a sum by a positive real, or each of its terms. -/

/-- A nonnegative real factor goes inside a finite sum of extended reals. -/
theorem mul_sum_real {ι : Type} (s : Finset ι) (f : ι → EReal) (c : EReal) (h0 : 0 ≤ c) (h1 : c ≠ ⊤) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 h1, ih]

theorem sum_mul_real {ι : Type} (s : Finset ι) (f : ι → EReal) (c : EReal) (h0 : 0 ≤ c) (h1 : c ≠ ⊤) :
    (∑ k ∈ s, f k) * c = ∑ k ∈ s, f k * c := by
  rw [mul_comm, mul_sum_real s f c h0 h1]
  exact Finset.sum_congr rfl fun k _ => mul_comm _ _

/-- A score that is real or minus infinity. -/
def RealOrBot (x : EReal) : Prop := x = ⊥ ∨ ∃ r : ℝ, x = (r : EReal)

theorem RealOrBot.ne_top {x : EReal} (h : RealOrBot x) : x ≠ ⊤ := by
  rcases h with rfl | ⟨r, rfl⟩
  · exact bot_ne_top
  · exact EReal.coe_ne_top r

theorem fold_ne_top {n : ℕ} (s : Fin n → EReal) (h : ∀ k, RealOrBot (s k)) : Finset.univ.fold max ⊥ s ≠ ⊤ := by
  apply ne_of_lt
  rw [Finset.fold_max_lt]
  exact ⟨bot_lt_top, fun k _ => lt_top_iff_ne_top.2 (h k).ne_top⟩

theorem rowMax_real {n : ℕ} (s : Fin n → EReal) (z : EReal) (h : ∀ k, RealOrBot (s k)) (hz : ∃ r : ℝ, z = (r : EReal)) :
    ∃ r : ℝ, rowMax s z = (r : EReal) := by
  obtain ⟨r, rfl⟩ := hz
  have h1 : rowMax s (r : EReal) ≠ ⊤ := by
    unfold rowMax
    rcases max_choice (Finset.univ.fold max ⊥ s) (r : EReal) with h | h <;> rw [h]
    · exact fold_ne_top s ‹_›
    · exact EReal.coe_ne_top r
  have h2 : rowMax s (r : EReal) ≠ ⊥ := by
    have : (r : EReal) ≤ rowMax s r := le_max_right _ _
    intro h
    rw [h] at this
    exact EReal.coe_ne_bot r (le_bot_iff.1 this)
  exact ⟨(rowMax s r).toReal, (EReal.coe_toReal h1 h2).symm⟩

/-- The exponential of a score less a real is a nonnegative real. -/
theorem exp_real (x : EReal) (h : RealOrBot x) (m : ℝ) : ∃ r : ℝ, 0 ≤ r ∧ Ideal.exp (x - (m : EReal)) = (r : EReal) := by
  rcases h with rfl | ⟨r, rfl⟩
  · exact ⟨0, le_refl _, rfl⟩
  · refine ⟨Real.exp (r - m), (Real.exp_pos _).le, ?_⟩
    rw [← EReal.coe_sub]
    rfl

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, EReal.coe_add, ih]

/-- The sum of the weights is a positive real. -/
theorem weights_pos {n : ℕ} (s : Fin n → EReal) (z : EReal) (h : ∀ k, RealOrBot (s k)) (hz : ∃ r : ℝ, z = (r : EReal)) :
    ∃ r : ℝ, 0 < r ∧ ∑ k, Ideal.exp (s k - rowMax s z) + Ideal.exp (z - rowMax s z) = (r : EReal) := by
  obtain ⟨m, hm⟩ := rowMax_real s z h hz
  rw [hm]
  choose f hf0 hf using fun k => exp_real (s k) (h k) m
  obtain ⟨r, rfl⟩ := hz
  refine ⟨∑ k, f k + Real.exp (r - m), ?_, ?_⟩
  · exact add_pos_of_nonneg_of_pos (Finset.sum_nonneg fun k _ => hf0 k) (Real.exp_pos _)
  · rw [EReal.coe_add, ← sum_coe]
    refine congrArg₂ (· + ·) (Finset.sum_congr rfl fun k _ => hf k) ?_
    rw [← EReal.coe_sub]
    rfl

/-- One query's attention as the reference writes it: each weight divided by the sum of the weights, then the weighted values summed. -/
def refAttn {n : ℕ} (s : Fin n → EReal) (z : EReal) (v : Fin n → EReal) : EReal :=
  ∑ k, v k * Ideal.div (Ideal.exp (s k - rowMax s z)) (∑ k, Ideal.exp (s k - rowMax s z) + Ideal.exp (z - rowMax s z))

/-- A greatest score taken over the sink's score first and the others after it. -/
theorem top_split {n : ℕ} (f : Fin (n + 1) → EReal) (z : EReal) (s : Fin n → EReal) (h0 : f 0 = z) (hs : ∀ k : Fin n, f k.succ = s k) :
    Finset.univ.fold max ⊥ f = rowMax s z := by
  unfold rowMax
  rw [Fin.univ_succ, Finset.fold_cons, Finset.fold_map, h0, max_comm]
  exact congrArg (fun y => max y z) (Finset.fold_congr fun k _ => hs k)

/-- The same of the sum of the weights. -/
theorem total_split {n : ℕ} (f : Fin (n + 1) → EReal) (z : EReal) (s : Fin n → EReal) (h0 : f 0 = z) (hs : ∀ k : Fin n, f k.succ = s k) :
    ∑ k, Ideal.exp (f k - rowMax s z) = ∑ k, Ideal.exp (s k - rowMax s z) + Ideal.exp (z - rowMax s z) := by
  rw [Fin.sum_univ_succ, h0, add_comm]
  exact congrArg (· + Ideal.exp (z - rowMax s z)) (Finset.sum_congr rfl fun k _ => by rw [hs k])

theorem div_pos_real (x : EReal) (r : ℝ) (h : 0 < r) : Ideal.div x (r : EReal) = x * ((r⁻¹ : ℝ) : EReal) := by
  unfold Ideal.div
  rw [if_neg (by exact_mod_cast h.ne')]
  rw [EReal.coe_inv]

/-- The kernel's quotient of sums is the reference's sum of quotients, where two value tables agree at every key that is not masked. -/
theorem rowAttn_eq {n : ℕ} (s : Fin n → EReal) (z : EReal) (v w : Fin n → EReal) (h : ∀ k, RealOrBot (s k)) (hz : ∃ r : ℝ, z = (r : EReal))
    (hv : ∀ k, s k = ⊥ ∨ v k = w k) : rowAttn s z v = refAttn s z w := by
  unfold rowAttn refAttn
  obtain ⟨r, hr, hd⟩ := weights_pos s z h hz
  obtain ⟨m, hm⟩ := rowMax_real s z h hz
  rw [hd, div_pos_real _ _ hr, sum_mul_real _ _ _ (by exact_mod_cast (inv_pos.2 hr).le) (EReal.coe_ne_top _)]
  refine Finset.sum_congr rfl fun k _ => ?_
  rw [div_pos_real _ _ hr]
  rcases hv k with hk | hk
  · rw [hk, hm]
    have : Ideal.exp (⊥ - (m : EReal)) = 0 := rfl
    rw [this]
    simp
  · rw [hk, mul_right_comm, mul_comm]

end Cert.Attention
-- ==== Proof.Reference.lean ====
module

public import proofs.«01_k».proof.Proof.Softmax
public import proofs.«01_k».proof.Proof.Gen.ReferenceIdeal
public import Idealize.ShloMosaic.Lib.Pointwise

@[expose] public section

set_option maxRecDepth 16384

noncomputable section

namespace Cert.Attention.Ref

open Cert.ReferenceIdeal Idealize.ShloMosaic Idealize.ShloMosaic.TcCoe Idealize.SL.Sem
open Cert.ReferenceIdeal.Gen

/-! The reference's text in stages, each read at one position. -/

/-- The previous, own and next block of every block of a padded table of keys or values. -/
def band (x : Vec Ideal S4x4096x2x64 .f32) : Vec Ideal S4x32x384x2x64 .f32 :=
  let y : Vec Ideal S4x34x128x2x64 .f32 := shapeCast _ (pad S4x4352x2x64 ![0, 128, 0, 0] ![0, 128, 0, 0] ![0, 0, 0, 0] x (sitofp (F := Ideal) .f32 (constantI S_ 32 0#32)) pads_S4x4096x2x64_S4x4352x2x64_000_1281280_000_000 h_S_) shapeCasts_S4x4352x2x64_S4x34x128x2x64
  concatenate S4x32x384x2x64 2 [
    ⟨S4x32x128x2x64, (extractStridedSlice S4x32x128x2x64 ![0, 0, 0, 0, 0] y slices_S4x34x128x2x64_S4x32x128x2x64_0_0_0_0_0 : Vec Ideal S4x32x128x2x64 .f32)⟩,
    ⟨S4x32x128x2x64, (extractStridedSlice S4x32x128x2x64 ![0, 1, 0, 0, 0] y slices_S4x34x128x2x64_S4x32x128x2x64_0_1_0_0_0 : Vec Ideal S4x32x128x2x64 .f32)⟩,
    ⟨S4x32x128x2x64, (extractStridedSlice S4x32x128x2x64 ![0, 2, 0, 0, 0] y slices_S4x34x128x2x64_S4x32x128x2x64_0_2_0_0_0 : Vec Ideal S4x32x128x2x64 .f32)⟩]
    concatenates_S4x32x128x2x64_S4x32x128x2x64_S4x32x128x2x64_S4x32x384x2x64_d2

/-- The scaled scores of the local keys. -/
def locScores (q : Vec Ideal S4x4096x8x64 .f32) (b : Vec Ideal S4x32x384x2x64 .f32) : Vec Ideal S4x32x2x4x128x384 .f32 :=
  mulf (F := Ideal) (φ := .f32) (transpose S4x32x2x4x128x384 [0, 1, 2, 5, 4, 3] (Host.dotGeneral (F := Ideal) (φ₁ := .f32) (φ₂ := .f32) dot_S4x32x384x2x64_S4x32x128x2x4x64_S4x32x2x384x128x4_4_5_2_24_013_013 none b (shapeCast _ q shapeCasts_S4x4096x8x64_S4x32x128x2x4x64)) transposes_S4x32x2x384x128x4_S4x32x2x4x128x384_0_1_2_5_4_3)
    (broadcastInDim S4x32x2x4x128x384 ![] bcast_S_S4x32x2x4x128x384 (constant (F := Ideal) S_ .f32 0x3E000000#32))

/-- The scaled scores of the context's keys. -/
def ctxScores (q : Vec Ideal S4x4096x8x64 .f32) (kc : Vec Ideal S4x256x2x64 .f32) : Vec Ideal S4x32x2x4x128x256 .f32 :=
  mulf (F := Ideal) (φ := .f32) (transpose S4x32x2x4x128x256 [0, 3, 1, 5, 4, 2] (Host.dotGeneral (F := Ideal) (φ₁ := .f32) (φ₂ := .f32) dot_S4x256x2x64_S4x32x128x2x4x64_S4x2x256x32x128x4_3_5_1_124_02_03 none kc (shapeCast _ q shapeCasts_S4x4096x8x64_S4x32x128x2x4x64)) transposes_S4x2x256x32x128x4_S4x32x2x4x128x256_0_3_1_5_4_2)
    (broadcastInDim S4x32x2x4x128x256 ![] bcast_S_S4x32x2x4x128x256 (constant (F := Ideal) S_ .f32 0x3E000000#32))

/-- A key's position, as a word. -/
def keyPos : IVec S32x1x384 32 :=
  addi (broadcastInDim S32x1x384 ![0, 1, 2] bcast_S32x1x1_S32x1x384_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x384 ![0, 1, 2] bcast_S1x1x384_S32x1x384_0_1_2 (broadcastInDim S1x1x384 ![2] bcast_S384_S1x1x384_2 (iotaInDim S384 32 0)))

/-- Which keys a query sees: near it, and inside the sequence. -/
def mask : IVec S32x128x384 1 :=
  andi (andi (cmpi .sle (absi (subi (broadcastInDim S32x128x384 ![0, 1, 2] bcast_S32x1x384_S32x128x384_0_1_2 keyPos) (broadcastInDim S32x128x384 ![0, 1, 2] bcast_S32x128x1_S32x128x384_0_1_2 (addi (broadcastInDim S32x128x1 ![0, 1, 2] bcast_S32x1x1_S32x128x1_0_1_2 (muli (broadcastInDim S32x1x1 ![0] bcast_S32_S32x1x1_0 (iotaInDim S32 32 0)) (broadcastInDim S32x1x1 ![] bcast_S_S32x1x1 (constantI S_ 32 128#32)))) (broadcastInDim S32x128x1 ![0, 1, 2] bcast_S1x128x1_S32x128x1_0_1_2 (broadcastInDim S1x128x1 ![1] bcast_S128_S1x128x1_1 (iotaInDim S128 32 0))))))) (broadcastInDim S32x128x384 ![] bcast_S_S32x128x384 (constantI S_ 32 128#32))) (broadcastInDim S32x128x384 ![0, 1, 2] bcast_S32x1x384_S32x128x384_0_1_2 (cmpi .sge keyPos (broadcastInDim S32x1x384 ![] bcast_S_S32x1x384 (constantI S_ 32 0#32))))) (broadcastInDim S32x128x384 ![0, 1, 2] bcast_S32x1x384_S32x128x384_0_1_2 (cmpi .slt keyPos (broadcastInDim S32x1x384 ![] bcast_S_S32x1x384 (constantI S_ 32 4096#32))))

/-- All the scores of a query: the sink's, the context's, the local keys' with the unseen ones at minus infinity. -/
def allScores (w : IVec S32x128x384 1) (sink : Vec Ideal S8 .f32) (sc : Vec Ideal S4x32x2x4x128x256 .f32) (sl : Vec Ideal S4x32x2x4x128x384 .f32) : Vec Ideal S4x32x2x4x128x641 .f32 :=
  concatenate S4x32x2x4x128x641 5 [
    ⟨S4x32x2x4x128x1, (broadcastInDim S4x32x2x4x128x1 ![0, 1, 2, 3, 4, 5] bcast_S1x1x2x4x1x1_S4x32x2x4x128x1_0_1_2_3_4_5 (shapeCast _ sink shapeCasts_S8_S1x1x2x4x1x1) : Vec Ideal S4x32x2x4x128x1 .f32)⟩,
    ⟨S4x32x2x4x128x256, sc⟩,
    ⟨S4x32x2x4x128x384, (select (broadcastInDim S4x32x2x4x128x384 ![0, 1, 2, 3, 4, 5] bcast_S1x32x1x1x128x384_S4x32x2x4x128x384_0_1_2_3_4_5 (broadcastInDim S1x32x1x1x128x384 ![1, 4, 5] bcast_S32x128x384_S1x32x1x1x128x384_1_4_5 w)) sl
      (broadcastInDim S4x32x2x4x128x384 ![] bcast_S_S4x32x2x4x128x384 (id (constant (F := Ideal) S_ .f32 0xFF800000#32))) : Vec Ideal S4x32x2x4x128x384 .f32)⟩]
    concatenates_S4x32x2x4x128x1_S4x32x2x4x128x256_S4x32x2x4x128x384_S4x32x2x4x128x641_d5

/-- The greatest score of each query. -/
def top (s : Vec Ideal S4x32x2x4x128x641 .f32) : Vec Ideal S4x32x2x4x128 .f32 :=
  maximumf (F := Ideal) (φ := .f32) (broadcastInDim S4x32x2x4x128 ![] bcast_S_S4x32x2x4x128 (constant (F := Ideal) S_ .f32 0xFF800000#32)) (Host.reduce (FloatOps.maximumf (F := Ideal) (φ := .f32)) s (constant (F := Ideal) S_ .f32 0xFF800000#32) reducesTo_S4x32x2x4x128x641_S4x32x2x4x128_d5 h_S_)

/-- The exponentials of the scores less a given greatest one. -/
def expo (s : Vec Ideal S4x32x2x4x128x641 .f32) (u : Vec Ideal S4x32x2x4x128 .f32) : Vec Ideal S4x32x2x4x128x641 .f32 :=
  Host.exp (F := Ideal) (φ := .f32) (subf (F := Ideal) (φ := .f32) s (broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 u)))

/-- The sum of a query's exponentials. -/
def total (e : Vec Ideal S4x32x2x4x128x641 .f32) : Vec Ideal S4x32x2x4x128 .f32 :=
  Host.reduceAdd (F := Ideal) (φ := .f32) e (constant (F := Ideal) S_ .f32 0x00000000#32) reducesTo_S4x32x2x4x128x641_S4x32x2x4x128_d5 h_S_

/-- The exponentials over their sum. -/
def weights (e : Vec Ideal S4x32x2x4x128x641 .f32) (u : Vec Ideal S4x32x2x4x128 .f32) : Vec Ideal S4x32x2x4x128x641 .f32 :=
  Host.divf (F := Ideal) (φ := .f32) e (broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 u))

/-- The weighted values of the context and of the local keys, summed, in the result's layout. -/
def mix (w : Vec Ideal S4x32x2x4x128x641 .f32) (vc : Vec Ideal S4x256x2x64 .f32) (vb : Vec Ideal S4x32x384x2x64 .f32) : Vec Ideal S4x4096x512 .bf16 :=
  truncf (F := Ideal) (φ := .f32) .bf16 (shapeCast _ (addf (F := Ideal) (φ := .f32)
    (transpose S4x32x128x2x4x64 [0, 3, 5, 1, 4, 2] (Host.dotGeneral (F := Ideal) (φ₁ := .f32) (φ₂ := .f32) dot_S4x256x2x64_S4x32x2x4x128x256_S4x2x64x32x4x128_1_5_3_134_02_02 none vc (extractStridedSlice S4x32x2x4x128x256 ![0, 0, 0, 0, 0, 1] w slices_S4x32x2x4x128x641_S4x32x2x4x128x256_0_0_0_0_0_1)) transposes_S4x2x64x32x4x128_S4x32x128x2x4x64_0_3_5_1_4_2)
    (transpose S4x32x128x2x4x64 [0, 1, 5, 2, 4, 3] (Host.dotGeneral (F := Ideal) (φ₁ := .f32) (φ₂ := .f32) dot_S4x32x384x2x64_S4x32x2x4x128x384_S4x32x2x64x4x128_2_5_4_34_013_012 none vb (extractStridedSlice S4x32x2x4x128x384 ![0, 0, 0, 0, 0, 257] w slices_S4x32x2x4x128x641_S4x32x2x4x128x384_0_0_0_0_0_257)) transposes_S4x32x2x64x4x128_S4x32x128x2x4x64_0_1_5_2_4_3))
    shapeCasts_S4x32x128x2x4x64_S4x4096x512) bitsLt_bf16_f32

/-- The reference's scores. -/
def scores (q : Vec Ideal S4x4096x8x64 .f32) (k : Vec Ideal S4x4096x2x64 .f32) (kc : Vec Ideal S4x256x2x64 .f32) (sink : Vec Ideal S8 .f32) : Vec Ideal S4x32x2x4x128x641 .f32 :=
  allScores mask sink (ctxScores q kc) (locScores q (band k))

/-- The reference's result. -/
def result (q : Vec Ideal S4x4096x8x64 .f32) (k v : Vec Ideal S4x4096x2x64 .f32) (kc vc : Vec Ideal S4x256x2x64 .f32) (sink : Vec Ideal S8 .f32) : Vec Ideal S4x4096x512 .bf16 :=
  mix (weights (expo (scores q k kc sink) (top (scores q k kc sink))) (total (expo (scores q k kc sink) (top (scores q k kc sink))))) vc (band v)

theorem band_apply (x : Vec Ideal S4x4096x2x64 .f32) (b : Fin 4) (j : Fin 32) (k : Fin 384) (g : Fin 2) (e : Fin 64) :
    band x (ix5 b j k g e) = if h : 128 ≤ j.val * 128 + k.val ∧ j.val * 128 + k.val - 128 < 4096 then x (ix4 b ⟨j.val * 128 + k.val - 128, h.2⟩ g e) else 0 := by
  have z : FloatOps.sitofp (F := Ideal) FTy.f32 0#32 = (0 : EReal) := by
    show (((0#32 : BitVec 32).toInt : ℝ) : EReal) = 0
    simp
  pointwise [band]
  by_cases h1 : k.val < 128
  · rw [dif_pos h1, z]
  · rw [dif_neg h1]
    by_cases h2 : k.val - 128 < 128
    · have e1 : (1 + j.val) * 128 + (k.val - 128) = j.val * 128 + k.val := by omega
      rw [dif_pos h2]
      simp only [e1, z]
    · have e2 : (2 + j.val) * 128 + (k.val - 128 - 128) = j.val * 128 + k.val := by omega
      rw [dif_neg h2]
      simp only [e2, z]

theorem locScores_apply (q : Vec Ideal S4x4096x8x64 .f32) (y : Vec Ideal S4x32x384x2x64 .f32) (b : Fin 4) (j : Fin 32) (g : Fin 2) (t : Fin 4) (r : Fin 128) (k : Fin 384) :
    locScores q y (ix6 b j g t r k) = (∑ x : Fin 64, y (ix5 b j k g x) * q (ix4 b ⟨j.val * 128 + r.val, by omega⟩ ⟨g.val * 4 + t.val, by omega⟩ x)) * Ideal.ofBits .f32 0x3E000000#32 := by
  pointwise [locScores]

theorem ctxScores_apply (q : Vec Ideal S4x4096x8x64 .f32) (y : Vec Ideal S4x256x2x64 .f32) (b : Fin 4) (j : Fin 32) (g : Fin 2) (t : Fin 4) (r : Fin 128) (k : Fin 256) :
    ctxScores q y (ix6 b j g t r k) = (∑ x : Fin 64, y (ix4 b k g x) * q (ix4 b ⟨j.val * 128 + r.val, by omega⟩ ⟨g.val * 4 + t.val, by omega⟩ x)) * Ideal.ofBits .f32 0x3E000000#32 := by
  pointwise [ctxScores]

theorem keyPos_apply (j : Fin 32) (k : Fin 384) :
    keyPos (ix3 j 0 k) = IntOp.addi (IntOp.subi (IntOp.muli (BitVec.ofNat 32 j.val) 128#32) 128#32) (BitVec.ofNat 32 k.val) := by
  pointwise [keyPos]

theorem mask_apply (j : Fin 32) (r : Fin 128) (k : Fin 384) :
    mask (ix3 j r k) = IntOp.andi (IntOp.andi (IntOp.cmpi .sle (IntOp.absi (IntOp.subi (keyPos (ix3 j 0 k)) (IntOp.addi (IntOp.muli (BitVec.ofNat 32 j.val) 128#32) (BitVec.ofNat 32 r.val)))) 128#32)
      (IntOp.cmpi .sge (keyPos (ix3 j 0 k)) 0#32)) (IntOp.cmpi .slt (keyPos (ix3 j 0 k)) 4096#32) := by
  pointwise [mask]

theorem allScores_apply (w : IVec S32x128x384 1) (sink : Vec Ideal S8 .f32) (sc : Vec Ideal S4x32x2x4x128x256 .f32) (sl : Vec Ideal S4x32x2x4x128x384 .f32) (b : Fin 4) (j : Fin 32) (g : Fin 2) (t : Fin 4) (r : Fin 128) (k : Fin 641) :
    allScores w sink sc sl (ix6 b j g t r k) = if h : k.val < 1 then sink (ix1 ⟨g.val * 4 + t.val, by omega⟩)
      else if h : k.val - 1 < 256 then sc (ix6 b j g t r ⟨k.val - 1, h⟩)
      else Scalar.select (w (ix3 j r ⟨k.val - 1 - 256, by omega⟩)) (sl (ix6 b j g t r ⟨k.val - 1 - 256, by omega⟩)) ⊥ := by
  have z : id (constant (F := Ideal) S_ .f32 0xFF800000#32) ix0 = (⊥ : EReal) := negInf
  pointwise [allScores]
  rw [z]

theorem reduces641 : Shape.Reduces S4x32x2x4x128x641 [5] S4x32x2x4x128 := by decide

theorem lift641 (b : Fin 4) (j : Fin 32) (g : Fin 2) (t : Fin 4) (r : Fin 128) (k : Fin 641) :
    reduces641.lift (ix5 b j g t r) k = ix6 b j g t r k := by
  funext d
  fin_cases d <;> exact Fin.ext rfl

theorem fold641 (f : EReal → EReal → EReal) [Std.Commutative f] [Std.Associative f] (s : S4x32x2x4x128x641.Idx → EReal) (init : S_.Idx → EReal) (b : Fin 4) (j : Fin 32) (g : Fin 2) (t : Fin 4) (r : Fin 128) :
    Host.reduce f s init reducesTo_S4x32x2x4x128x641_S4x32x2x4x128_d5 h_S_ (ix5 b j g t r)
      = Finset.univ.fold f (init (Shape.Idx.first h_S_)) fun k : Fin 641 => s (ix6 b j g t r k) := by
  rw [Host.reduce_eq_fold_single f s init _ reduces641 _ _]
  have e : s ∘ reduces641.lift (ix5 b j g t r) = fun k : Fin 641 => s (ix6 b j g t r k) := funext fun k => congrArg s (lift641 b j g t r k)
  rw [e]
  rfl

theorem fold_max (f : Fin 641 → EReal) (x : EReal) : Finset.univ.fold (FloatOps.maximumf (F := Ideal) (φ := .f32)) x f = Finset.univ.fold max x f := rfl

theorem maximumf_at (a b : Vec Ideal S4x32x2x4x128 .f32) (i : S4x32x2x4x128.Idx) : maximumf (F := Ideal) (φ := .f32) a b i = max (a i) (b i) := rfl

theorem start_at (i : S4x32x2x4x128.Idx) : broadcastInDim S4x32x2x4x128 ![] bcast_S_S4x32x2x4x128 (constant (F := Ideal) S_ .f32 0xFF800000#32) i = (⊥ : EReal) := negInf

theorem init_at (i : S_.Idx) : (constant (F := Ideal) S_ .f32 0xFF800000#32) i = (⊥ : EReal) := negInf

theorem top_apply (s : Vec Ideal S4x32x2x4x128x641 .f32) (b : Fin 4) (j : Fin 32) (g : Fin 2) (t : Fin 4) (r : Fin 128) :
    top s (ix5 b j g t r) = Finset.univ.fold max ⊥ fun k : Fin 641 => s (ix6 b j g t r k) := by
  unfold top
  refine (maximumf_at _ _ _).trans ?_
  rw [start_at, bot_sup_eq]
  refine (fold641 _ _ _ b j g t r).trans ?_
  rw [init_at]
  exact fold_max _ _

theorem expo_apply (s : Vec Ideal S4x32x2x4x128x641 .f32) (u : Vec Ideal S4x32x2x4x128 .f32) (b : Fin 4) (j : Fin 32) (g : Fin 2) (t : Fin 4) (r : Fin 128) (k : Fin 641) :
    expo s u (ix6 b j g t r k) = Ideal.exp (s (ix6 b j g t r k) - u (ix5 b j g t r)) := by
  pointwise [expo]

theorem total_apply (s : Vec Ideal S4x32x2x4x128x641 .f32) (b : Fin 4) (j : Fin 32) (g : Fin 2) (t : Fin 4) (r : Fin 128) :
    total s (ix5 b j g t r) = ∑ k : Fin 641, s (ix6 b j g t r k) := by
  show Ideal.hostReduceAdd reducesTo_S4x32x2x4x128x641_S4x32x2x4x128_d5 s (Ideal.ofBits .f32 0#32) (ix5 b j g t r) = _
  rw [Ideal.hostReduceAdd_single _ reduces641]
  have h : Ideal.ofBits .f32 0#32 = 0 := by simp [Ideal.ofBits, Ideal.ieee]
  rw [h, zero_add]
  exact Finset.sum_congr rfl fun k _ => congrArg s (lift641 b j g t r k)

theorem weights_apply (s : Vec Ideal S4x32x2x4x128x641 .f32) (u : Vec Ideal S4x32x2x4x128 .f32) (b : Fin 4) (j : Fin 32) (g : Fin 2) (t : Fin 4) (r : Fin 128) (k : Fin 641) :
    weights s u (ix6 b j g t r k) = Ideal.div (s (ix6 b j g t r k)) (u (ix5 b j g t r)) := by
  pointwise [weights]

theorem mix_apply (w : Vec Ideal S4x32x2x4x128x641 .f32) (vc : Vec Ideal S4x256x2x64 .f32) (vb : Vec Ideal S4x32x384x2x64 .f32) (b : Fin 4) (l : Fin 4096) (c : Fin 512) :
    mix w vc vb (ix3 b l c) =
      (∑ x : Fin 256, vc (ix4 b x ⟨c.val / 256, by omega⟩ ⟨c.val % 64, by omega⟩) * w (ix6 b ⟨l.val / 128, by omega⟩ ⟨c.val / 256, by omega⟩ ⟨c.val / 64 % 4, by omega⟩ ⟨l.val % 128, by omega⟩ ⟨1 + x.val, by omega⟩))
      + ∑ x : Fin 384, vb (ix5 b ⟨l.val / 128, by omega⟩ x ⟨c.val / 256, by omega⟩ ⟨c.val % 64, by omega⟩) * w (ix6 b ⟨l.val / 128, by omega⟩ ⟨c.val / 256, by omega⟩ ⟨c.val / 64 % 4, by omega⟩ ⟨l.val % 128, by omega⟩ ⟨257 + x.val, by omega⟩) := by
  pointwise [mix]

end Cert.Attention.Ref

end
-- ==== Proof.Agree.lean ====
module

public import proofs.«01_k».proof.Proof.Bridge
public import proofs.«01_k».proof.Proof.Reference

@[expose] public section

set_option maxRecDepth 16384

noncomputable section

namespace Cert.Attention

open Cert.KernelIdeal Idealize.ShloMosaic

/-! The kernel's entry is the reference's entry. -/

/-- The reference's mask, a comparison of positions, is `Sees`. -/
theorem low_word : ∀ (j : Fin 32) (k : Fin 384),
    IntOp.cmpi .sge (IntOp.addi (IntOp.subi (IntOp.muli (BitVec.ofNat 32 j.val) 128#32) 128#32) (BitVec.ofNat 32 k.val)) 0#32 = bit (128 ≤ j.val * 128 + k.val) := by
  decide +kernel

theorem high_word : ∀ (j : Fin 32) (k : Fin 384),
    IntOp.cmpi .slt (IntOp.addi (IntOp.subi (IntOp.muli (BitVec.ofNat 32 j.val) 128#32) 128#32) (BitVec.ofNat 32 k.val)) 4096#32 = bit (j.val * 128 + k.val < 4224) := by
  decide +kernel

theorem gap_word (a k r : BitVec 32) : IntOp.subi (IntOp.addi (IntOp.subi a 128#32) k) (IntOp.addi a r) = IntOp.subi (IntOp.addi 4294967168#32 k) r := by
  show (a - 128#32 + k) - (a + r) = (4294967168#32 + k) - r
  bv_omega

theorem mask_sees (j : Fin 32) (r : Fin 128) (k : Fin 384) : Ref.mask (ix3 j r k) = bit (Sees j r k) := by
  rw [Ref.mask_apply, Ref.keyPos_apply, gap_word, near_word, low_word, high_word, bit_and, bit_and]
  unfold Sees
  simp only [and_assoc]

/-- The scale of the scores, an eighth. -/
theorem eighth : Ideal.ofBits .f32 0x3E000000#32 = ((1 / 8 : ℝ) : EReal) := by
  simp [Ideal.ofBits, Ideal.ieee]
  rw [← EReal.coe_mul]
  norm_num

theorem scaled_sum (f g : Fin 64 → EReal) :
    (∑ e, f e * Ideal.ofBits .f32 0x3E000000#32 * g e) = (∑ e, g e * f e) * Ideal.ofBits .f32 0x3E000000#32 := by
  rw [eighth, sum_mul_real _ _ _ (by exact_mod_cast (by norm_num : (0 : ℝ) ≤ 1 / 8)) (EReal.coe_ne_top _)]
  refine Finset.sum_congr rfl fun e _ => ?_
  rw [mul_right_comm, mul_comm (f e)]

theorem real_sum (f g : Fin 64 → EReal) (hf : ∀ e, ∃ r : ℝ, f e = r) (hg : ∀ e, ∃ r : ℝ, g e = r) :
    ∃ r : ℝ, (∑ e, f e * Ideal.ofBits .f32 0x3E000000#32 * g e) = (r : EReal) := by
  choose a ha using hf
  choose b hb using hg
  refine ⟨∑ e, a e * (1 / 8) * b e, ?_⟩
  rw [← sum_coe]
  refine Finset.sum_congr rfl fun e _ => ?_
  rw [ha, hb, eighth, EReal.coe_mul, EReal.coe_mul]

/-- At a key the query sees, the three clamped tiles hold what the padded table holds. -/
theorem join_seen (a : Fin 256 → Fin 64 → EReal) (x : Vec Ideal S4x4096x2x64 .f32) (b : Fin 4) (j : Fin 32) (r : Fin 128) (g : Fin 2) (i : Fin 640) (e : Fin 64)
    (hi : ¬ i.val < 256) (hs : Sees j r ⟨i.val - 256, by omega⟩) :
    join a (fun i x' => x (ix4 b (before j i) g x')) (fun i x' => x (ix4 b (here j i) g x')) (fun i x' => x (ix4 b (after j i) g x')) i e
      = Ref.band x (ix5 b j ⟨i.val - 256, by omega⟩ g e) := by
  obtain ⟨-, h1, h2⟩ := hs
  dsimp only at h1 h2
  rw [Ref.band_apply, dif_pos ⟨h1, by dsimp only; omega⟩]
  unfold join
  rw [dif_neg hi]
  split_ifs with h3 h4
  · exact congrArg (fun p => x (ix4 b p g e)) (Fin.ext (by show (j.val - 1) * 128 + (i.val - 256) = j.val * 128 + (i.val - 256) - 128; omega))
  · exact congrArg (fun p => x (ix4 b p g e)) (Fin.ext (by show j.val * 128 + (i.val - 256 - 128) = j.val * 128 + (i.val - 256) - 128; omega))
  · exact congrArg (fun p => x (ix4 b p g e)) (Fin.ext (by show (min (j.val + 1) 31) * 128 + (i.val - 256 - 128 - 128) = j.val * 128 + (i.val - 256) - 128; omega))

/-- The reference's sums over the sink, the context and the band, as one row over the 640 keys. -/
theorem gather (f : Fin 641 → EReal) (vc : Fin 256 → EReal) (vb : Fin 384 → EReal) (z : EReal) (s w : Fin 640 → EReal)
    (h0 : f 0 = z) (hs : ∀ k : Fin 640, f k.succ = s k)
    (hc : ∀ x : Fin 256, w ⟨x.val, by omega⟩ = vc x) (hb : ∀ x : Fin 384, w ⟨256 + x.val, by omega⟩ = vb x) :
    (∑ x : Fin 256, vc x * Ideal.div (Ideal.exp (f ⟨1 + x.val, by omega⟩ - Finset.univ.fold max ⊥ f)) (∑ k, Ideal.exp (f k - Finset.univ.fold max ⊥ f)))
      + (∑ x : Fin 384, vb x * Ideal.div (Ideal.exp (f ⟨257 + x.val, by omega⟩ - Finset.univ.fold max ⊥ f)) (∑ k, Ideal.exp (f k - Finset.univ.fold max ⊥ f)))
      = refAttn s z w := by
  rw [top_split f z s h0 hs, total_split f z s h0 hs]
  unfold refAttn
  refine Eq.trans ?_ (Fin.sum_univ_add (a := 256) (b := 384) (fun k : Fin 640 => w k * Ideal.div (Ideal.exp (s k - rowMax s z)) (∑ k, Ideal.exp (s k - rowMax s z) + Ideal.exp (z - rowMax s z)))).symm
  refine congr (congrArg HAdd.hAdd (Finset.sum_congr rfl fun x _ => ?_)) (Finset.sum_congr rfl fun x _ => ?_)
  · rw [← hc x, ← hs]
    have e : (⟨1 + x.val, by omega⟩ : Fin 641) = Fin.succ (⟨x.val, by omega⟩ : Fin 640) := Fin.ext (by show 1 + x.val = x.val + 1; omega)
    rw [e]
    rfl
  · rw [← hb x, ← hs]
    have e : (⟨257 + x.val, by omega⟩ : Fin 641) = Fin.succ (⟨256 + x.val, by omega⟩ : Fin 640) := Fin.ext (by show 257 + x.val = 256 + x.val + 1; omega)
    rw [e]
    rfl

/-- The kernel's entry is the reference's, for real queries, keys and sinks. -/
theorem entry_eq (q : Vec Ideal S4x4096x8x64 .f32) (k v : Vec Ideal S4x4096x2x64 .f32) (kc vc : Vec Ideal S4x256x2x64 .f32) (z : Vec Ideal S8 .f32)
    (hq : ∀ i, ∃ r : ℝ, (q i : EReal) = r) (hk : ∀ i, ∃ r : ℝ, (k i : EReal) = r) (hkc : ∀ i, ∃ r : ℝ, (kc i : EReal) = r) (hz : ∀ i, ∃ r : ℝ, (z i : EReal) = r)
    (b : Fin 4) (l : Fin 4096) (cc : Fin 512) :
    @Eq EReal (entry q k v kc vc z b ⟨l.val / 128, by omega⟩ ⟨l.val % 128, by omega⟩ cc) (Ref.result q k v kc vc z (ix3 b l cc)) := by
  unfold Ref.result
  rw [Ref.mix_apply]
  simp only [Ref.weights_apply, Ref.expo_apply, Ref.total_apply, Ref.top_apply]
  generalize hj : (⟨l.val / 128, by omega⟩ : Fin 32) = j
  generalize hr : (⟨l.val % 128, by omega⟩ : Fin 128) = r
  have hh : (⟨cc.val / 256 * 4 + cc.val / 64 % 4, by omega⟩ : Fin 8) = ⟨cc.val / 64, by omega⟩ := Fin.ext (by show cc.val / 256 * 4 + cc.val / 64 % 4 = cc.val / 64; omega)
  unfold entry
  refine (rowAttn_eq _ _ _ (fun i => if h : i.val < 256 then vc (ix4 b ⟨i.val, h⟩ ⟨cc.val / 256, by omega⟩ ⟨cc.val % 64, by omega⟩) else Ref.band v (ix5 b j ⟨i.val - 256, by omega⟩ ⟨cc.val / 256, by omega⟩ ⟨cc.val % 64, by omega⟩)) ?_ (hz _) ?_).trans (gather _ _ _ _ _ _ ?_ ?_ ?_ ?_).symm
  · intro i
    split_ifs with h1 h2
    · rw [add_zero]
      refine Or.inr (real_sum _ _ (fun e => hq _) fun e => ?_)
      unfold join
      rw [dif_pos h1]
      exact hkc _
    · rw [add_zero]
      refine Or.inr (real_sum _ _ (fun e => hq _) fun e => ?_)
      unfold join
      rw [dif_neg h1]
      split_ifs <;> exact hk _
    · exact Or.inl (EReal.add_bot _)
  · intro i
    split_ifs with h1 h2
    · refine Or.inr ?_
      unfold join
      rw [dif_pos h1]
    · exact Or.inr (join_seen _ v b j r _ i _ h1 h2)
    · exact Or.inl (EReal.add_bot _)
  · unfold Ref.scores
    rw [Ref.allScores_apply, dif_pos (by decide), hh]
  · intro i
    unfold Ref.scores
    rw [Ref.allScores_apply, dif_neg (by show ¬ i.val + 1 < 1; omega)]
    by_cases h1 : i.val < 256
    · rw [dif_pos (show i.succ.val - 1 < 256 from h1), dif_pos h1, add_zero, scaled_sum, Ref.ctxScores_apply, hh]
      refine congrArg (· * _) (Finset.sum_congr rfl fun e _ => ?_)
      unfold join
      rw [dif_pos h1]
      rfl
    · rw [dif_neg (show ¬ i.succ.val - 1 < 256 from h1), dif_neg h1, mask_sees, select_bit]
      show (if Sees j r ⟨i.val - 256, _⟩ then _ else _) = _
      by_cases h2 : Sees j r ⟨i.val - 256, by omega⟩
      · rw [if_pos h2, if_pos h2, add_zero, scaled_sum, Ref.locScores_apply, hh]
        refine congrArg (· * _) (Finset.sum_congr rfl fun e _ => ?_)
        rw [join_seen _ k b j r _ i _ h1 h2]
        rfl
      · rw [if_neg h2, if_neg h2, EReal.add_bot]
  · intro x
    rw [dif_pos x.isLt]
  · intro x
    rw [dif_neg (by show ¬ 256 + x.val < 256; omega)]
    exact congrArg (fun p => Ref.band v (ix5 b j p _ _)) (Fin.ext (by show 256 + x.val - 256 = x.val; omega))

end Cert.Attention

end
-- ==== Proof.Finite.lean ====
module

public import proofs.«01_k».proof.Proof.Softmax
public import proofs.«01_k».proof.Proof.Gen.Pre_finite
public import Idealize.ShloMosaic.Lib.Pointwise
public import Idealize.ShloMosaic.Lib.ReduceAll

@[expose] public section

noncomputable section

namespace Cert.Attention

open Cert.Pre_finite Cert.Pre_finite.Gen Idealize.ShloMosaic

/-! What the precondition says of each entry. -/

theorem and_one : ∀ {a b : BitVec 1}, IntOp.andi a b = 1#1 → a = 1#1 ∧ b = 1#1 := by
  decide

theorem infBits : Ideal.ofBits .f32 0x7F800000#32 = ⊤ := by
  simp [Ideal.ofBits, Ideal.ieee]

instance : Subsingleton S_.Idx := ⟨fun a b => funext fun d => d.elim0⟩

/-- An extended real whose absolute value is below infinity is a real. -/
theorem real_of_abs (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem entries {s : Shape} {l : List (Fin s.rank)} (x : FVec Ideal s .f32) (y : FVec Ideal s .f32) (hy : ∀ i, y i = (⊤ : EReal)) (h : s.ReducesTo l S_) (j : S_.Idx)
    (e : Host.reduce IntOp.andi (cmpf (F := Ideal) .olt (Host.absf x) y) (constantI S_ 1 1#1) h h_S_ j = 1#1) (i : s.Idx) :
    ∃ r : ℝ, (x i : EReal) = (r : EReal) := by
  have e1 := Host.reduce_andi_all _ _ h h_S_ j e i
  apply real_of_abs
  rw [← hy i]
  exact e1

/-- Under the precondition the queries, keys, context's keys and sinks are real. -/
theorem finite_entries (q : FVec Ideal S4x4096x8x64 .f32) (k v : FVec Ideal S4x4096x2x64 .f32) (kc vc : FVec Ideal S4x256x2x64 .f32) (z : FVec Ideal S8 .f32)
    (h : ∀ j, Cert.Pre_finite.fn (F := Ideal) q k v kc vc z j = 1#1) :
    (∀ i, ∃ r : ℝ, (q i : EReal) = r) ∧ (∀ i, ∃ r : ℝ, (k i : EReal) = r) ∧ (∀ i, ∃ r : ℝ, (kc i : EReal) = r) ∧ (∀ i, ∃ r : ℝ, (z i : EReal) = r) := by
  have h0 := h ix0
  unfold Cert.Pre_finite.fn Cert.Pre_finite.fn_part1 at h0
  obtain ⟨h1, hz⟩ := and_one h0
  obtain ⟨h2, hc⟩ := and_one h1
  obtain ⟨hq, hk⟩ := and_one h2
  exact ⟨entries q _ (fun _ => infBits) _ _ hq, entries k _ (fun _ => infBits) _ _ hk, entries kc _ (fun _ => infBits) _ _ hc, entries z _ (fun _ => infBits) _ _ hz⟩

end Cert.Attention

end
-- ==== Proof.Attention.lean ====
module

public import proofs.«01_k».proof.Defs
public import proofs.«01_k».proof.Proof.Agree
public import proofs.«01_k».proof.Proof.Finite
public import proofs.«01_k».proof.Proof.Gen.ReferenceIdeal.Run

@[expose] public section

set_option maxRecDepth 16384

noncomputable section

namespace Cert.Attention

open Idealize.ShloMosaic Idealize.ShloMosaic.TcCoe Idealize.SL.Sem

/-! The value claim of the attention: the call's array is the reference's. -/

theorem array_eq (q : Vec Ideal Cert.KernelIdeal.S4x4096x8x64 .f32) (k v : Vec Ideal Cert.KernelIdeal.S4x4096x2x64 .f32) (kc vc : Vec Ideal Cert.KernelIdeal.S4x256x2x64 .f32) (z : Vec Ideal Cert.KernelIdeal.S8 .f32)
    (h : ∀ i, Cert.Pre_finite.fn (F := Ideal) q k v kc vc z i = 1#1) : entries3 q k v kc vc z = Ref.result q k v kc vc z := by
  obtain ⟨hq, hk, hkc, hz⟩ := finite_entries q k v kc vc z h
  funext y
  refine Eq.trans (entry_eq q k v kc vc z hq hk hkc hz ⟨(y 0).val, (y 0).isLt⟩ ⟨(y 1).val, (y 1).isLt⟩ ⟨(y 2).val, (y 2).isLt⟩) (congrArg _ (funext fun d => ?_))
  fin_cases d <;> rfl

/-- The reference's run leaves the staged reference. -/
theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v75 m c = Ref.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.Value.res_main_v75
  rfl

theorem attention_value : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨_, (θ_run Cert.KernelIdeal.defs _ _).mono (fun r h c => ⟨((h c).1.trans (final m c _ _ _ _ _ _ rfl rfl rfl rfl rfl rfl)), (h c).2⟩) (Cert.KernelIdeal.Value.run_blocks m g),
    (θ_run Cert.ReferenceIdeal.defs _ _).mono (fun r h c => ⟨(h c).1.trans ?_, (h c).2⟩) (Cert.ReferenceIdeal.Value.run m' g')⟩
  obtain ⟨h0, h1, h2, h3, h4, h5⟩ := hagree c
  rw [reference_result, h0, h1, h2, h3, h4, h5]
  exact (array_eq _ _ _ _ _ _ fun i => congrFun (hpre c) i).symm

end Cert.Attention

end
-- ==== Proof.Projection.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Projection

open Cert.Kernel2Ideal Cert.Kernel2Ideal.Gen Idealize.ShloMosaic Idealize.ShloMosaic.TcCoe Idealize.SL.Sem

/-! The input projection: what the call leaves in its four results, entry by entry. -/

/-- Which block of each operand a grid step sees: the rows' tile `t`, the weights and the gates' bias whole. -/
theorem idx : ∀ t : Fin cfg0.N,
    win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

theorem points (t : Fin cfg0.N) : t.val < 64 := t.isLt

/-- Row `r` of tile `t`: its batch and its position. -/
def batch (p : Fin 16384) : Fin 4 := ⟨p.val / 4096, by omega⟩
def position (p : Fin 16384) : Fin 4096 := ⟨p.val % 4096, by omega⟩
def row (t : Fin cfg0.N) (r : Fin 256) : Fin 16384 := ⟨t.val * 256 + r.val, by have := points t; omega⟩

/-- One entry of the projection: a row of `h` against a column of the weights. -/
def proj (h : Vec Ideal S4x4096x1024 .f32) (w : Vec Ideal S1024x5888 .f32) (p : Fin 16384) (n : Fin 5888) : EReal :=
  ∑ k : Fin 1024, h (ix3 (batch p) (position p) k) * w (ix2 k n)

variable (m : (ℓ : Loc nD τ sig) → Buf (Elt Ideal) ℓ) (c : Dev nD)

theorem rows_read (x : Vec Ideal S4x4096x1024 .f32) (hx : m ((c : Thread nD τ).loc main_arg0) = x) (p : Fin 16384) (k : Fin 1024) :
    @Eq EReal (Gen.V m c main_v6 (ix2 p k)) (x (ix3 (batch p) (position p) k)) := by
  subst hx
  simp only [Gen.V, hostOps0]
  entry_read
  pointwise [batch, position]

theorem rows_at (t : Fin cfg0.N) (x : Vec Ideal S4x4096x1024 .f32) (hx : m ((c : Thread nD τ).loc main_arg0) = x) (r : Fin 256) (k : Fin 1024) :
    @Eq EReal (iblk m c 0 t (ix2 r k)) (x (ix3 (batch (row t r)) (position (row t r)) k)) := by
  have e1 : iblk m c 0 t (ix2 r k) = Gen.V m c main_v6 (ix2 (row t r) k) := by blk_ext [iblk, idx t, row]
  exact Eq.trans e1 (rows_read m c x hx _ _)

theorem bias_read (x : Vec Ideal S3072 .f32) (hx : m ((c : Thread nD τ).loc main_arg2) = x) (k : Fin 3072) :
    @Eq EReal (Gen.V m c main_v7 (ix2 0 k)) (x (ix1 k)) := by
  subst hx
  simp only [Gen.V, hostOps0]
  entry_read
  pointwise []

theorem bias_at (t : Fin cfg0.N) (x : Vec Ideal S3072 .f32) (hx : m ((c : Thread nD τ).loc main_arg2) = x) (k : Fin 3072) :
    @Eq EReal (iblk m c 5 t (ix2 0 k)) (x (ix1 k)) := by
  have e1 : iblk m c 5 t (ix2 0 k) = Gen.V m c main_v7 (ix2 0 k) := by blk_ext [iblk, idx t]
  exact Eq.trans e1 (bias_read m c x hx _)

theorem qkv_weights_read (x : Vec Ideal S1024x5888 .f32) (hx : m ((c : Thread nD τ).loc main_arg1) = x) (k : Fin 1024) (n : Fin 768) :
    @Eq EReal (Gen.V m c main_v1 (ix2 k n)) (x (ix2 k ⟨0 + n.val, by omega⟩)) := by
  subst hx
  simp only [Gen.V, hostOps0]
  entry_read
  pointwise []

theorem qkv_weights_at (t : Fin cfg0.N) (x : Vec Ideal S1024x5888 .f32) (hx : m ((c : Thread nD τ).loc main_arg1) = x) (k : Fin 1024) (n : Fin 768) :
    @Eq EReal (iblk m c 1 t (ix2 k n)) (x (ix2 k ⟨0 + n.val, by omega⟩)) := by
  have e1 : iblk m c 1 t (ix2 k n) = Gen.V m c main_v1 (ix2 k n) := by blk_ext [iblk, idx t]
  exact Eq.trans e1 (qkv_weights_read m c x hx _ _)

theorem qkv_block (x0 : Vec Ideal S256x1024 .bf16) (x1 : Vec Ideal S1024x768 .bf16) (x2 : Vec Ideal S1024x512 .bf16) (x3 : Vec Ideal S1024x1536 .bf16) (x4 : Vec Ideal S1024x3072 .bf16) (x5 : Vec Ideal S1x3072 .f32) (r : Fin 256) (n : Fin 768) :
    @Eq EReal (out0_6 x0 x1 x2 x3 x4 x5 (ix2 r n)) ((∑ k : Fin 1024, x0 (ix2 r k) * x1 (ix2 k n))) := by
  unfold out0_6
  frame_out
  pointwise [k0_pay2, k0_pay1]

/-- The result as an array. -/
def qkvEntries (h : Vec Ideal S4x4096x1024 .f32) (w : Vec Ideal S1024x5888 .f32) : Vec Ideal S16384x768 .f32 :=
  fun y => proj h w ⟨(y 0).val, (y 0).isLt⟩ ⟨0 + (y 1).val, by have h1 : (y 1).val < 768 := (y 1).isLt; omega⟩

theorem qkv_final (h : Vec Ideal S4x4096x1024 .f32) (w : Vec Ideal S1024x5888 .f32)
    (hh : m ((c : Thread nD τ).loc main_arg0) = h) (hw : m ((c : Thread nD τ).loc main_arg1) = w) :
    (dats m 0 c).arrAt 6 cfg0.N = qkvEntries h w := by
  refine (dats m 0 c).arrAt_eq_of_covers 6 _ (by decide +kernel) fun t _ y => ?_
  blk_simp
  rw [after0_6]
  have ey : y = ix2 ⟨(y 0).val, (y 0).isLt⟩ ⟨(y 1).val, (y 1).isLt⟩ := by
    funext d
    fin_cases d <;> rfl
  rw [ey]
  refine (qkv_block _ _ _ _ _ _ _ _).trans ?_
  unfold qkvEntries proj
  have ht := points t
  have hy0 : (y 0).val < 256 := (y 0).isLt
  have hy1 : (y 1).val < 768 := (y 1).isLt
  blk_simp [idx t, row, batch, position]
  refine Finset.sum_congr rfl fun k _ => congr (congrArg HMul.hMul (rows_at m c t h hh _ _)) ((qkv_weights_at m c t w hw _ _).trans (congrArg (fun n => w (ix2 k n)) (Fin.ext ?_)))
  show 0 + (y 1).val = _
  dsimp only
  try omega

theorem qkv_reference (h : Vec Ideal S4x4096x1024 .f32) (w : Vec Ideal S1024x5888 .f32) :
    shapeCast Cert.Reference2Ideal.S16384x768 (extractStridedSlice Cert.Reference2Ideal.S4x4096x768 ![0, 0, 0] (Host.dotGeneral (F := Ideal) (φ₁ := .f32) (φ₂ := .f32) Cert.Reference2Ideal.dot_S4x4096x1024_S1024x5888_S4x4096x5888_2_0_01_1_n_n none h w) Cert.Reference2Ideal.Facts₀.slices_S4x4096x5888_S4x4096x768_0_0_0) Cert.Reference2Ideal.Facts₀.shapeCasts_S4x4096x768_S16384x768
      = qkvEntries h w := by
  funext y
  have ey : y = ix2 ⟨(y 0).val, (y 0).isLt⟩ ⟨(y 1).val, (y 1).isLt⟩ := by
    funext d
    fin_cases d <;> rfl
  rw [ey]
  have hy1 : (y 1).val < 768 := (y 1).isLt
  have hy0 : (y 0).val < 16384 := (y 0).isLt
  unfold qkvEntries proj batch position
  pointwise []

theorem s5_weights_read (x : Vec Ideal S1024x5888 .f32) (hx : m ((c : Thread nD τ).loc main_arg1) = x) (k : Fin 1024) (n : Fin 512) :
    @Eq EReal (Gen.V m c main_v2 (ix2 k n)) (x (ix2 k ⟨768 + n.val, by omega⟩)) := by
  subst hx
  simp only [Gen.V, hostOps0]
  entry_read
  pointwise []

theorem s5_weights_at (t : Fin cfg0.N) (x : Vec Ideal S1024x5888 .f32) (hx : m ((c : Thread nD τ).loc main_arg1) = x) (k : Fin 1024) (n : Fin 512) :
    @Eq EReal (iblk m c 2 t (ix2 k n)) (x (ix2 k ⟨768 + n.val, by omega⟩)) := by
  have e1 : iblk m c 2 t (ix2 k n) = Gen.V m c main_v2 (ix2 k n) := by blk_ext [iblk, idx t]
  exact Eq.trans e1 (s5_weights_read m c x hx _ _)

theorem s5_block (x0 : Vec Ideal S256x1024 .bf16) (x1 : Vec Ideal S1024x768 .bf16) (x2 : Vec Ideal S1024x512 .bf16) (x3 : Vec Ideal S1024x1536 .bf16) (x4 : Vec Ideal S1024x3072 .bf16) (x5 : Vec Ideal S1x3072 .f32) (r : Fin 256) (n : Fin 512) :
    @Eq EReal (out0_7 x0 x1 x2 x3 x4 x5 (ix2 r n)) ((∑ k : Fin 1024, x0 (ix2 r k) * x2 (ix2 k n))) := by
  unfold out0_7
  frame_out
  pointwise [k0_pay3, k0_pay1]

/-- The result as an array. -/
def s5Entries (h : Vec Ideal S4x4096x1024 .f32) (w : Vec Ideal S1024x5888 .f32) : Vec Ideal S16384x512 .f32 :=
  fun y => proj h w ⟨(y 0).val, (y 0).isLt⟩ ⟨768 + (y 1).val, by have h1 : (y 1).val < 512 := (y 1).isLt; omega⟩

theorem s5_final (h : Vec Ideal S4x4096x1024 .f32) (w : Vec Ideal S1024x5888 .f32)
    (hh : m ((c : Thread nD τ).loc main_arg0) = h) (hw : m ((c : Thread nD τ).loc main_arg1) = w) :
    (dats m 0 c).arrAt 7 cfg0.N = s5Entries h w := by
  refine (dats m 0 c).arrAt_eq_of_covers 7 _ (by decide +kernel) fun t _ y => ?_
  blk_simp
  rw [after0_7]
  have ey : y = ix2 ⟨(y 0).val, (y 0).isLt⟩ ⟨(y 1).val, (y 1).isLt⟩ := by
    funext d
    fin_cases d <;> rfl
  rw [ey]
  refine (s5_block _ _ _ _ _ _ _ _).trans ?_
  unfold s5Entries proj
  have ht := points t
  have hy0 : (y 0).val < 256 := (y 0).isLt
  have hy1 : (y 1).val < 512 := (y 1).isLt
  blk_simp [idx t, row, batch, position]
  refine Finset.sum_congr rfl fun k _ => congr (congrArg HMul.hMul (rows_at m c t h hh _ _)) ((s5_weights_at m c t w hw _ _).trans (congrArg (fun n => w (ix2 k n)) (Fin.ext ?_)))
  show 768 + (y 1).val = _
  dsimp only
  try omega

theorem s5_reference (h : Vec Ideal S4x4096x1024 .f32) (w : Vec Ideal S1024x5888 .f32) :
    shapeCast Cert.Reference2Ideal.S16384x512 (extractStridedSlice Cert.Reference2Ideal.S4x4096x512 ![0, 0, 768] (Host.dotGeneral (F := Ideal) (φ₁ := .f32) (φ₂ := .f32) Cert.Reference2Ideal.dot_S4x4096x1024_S1024x5888_S4x4096x5888_2_0_01_1_n_n none h w) Cert.Reference2Ideal.Facts₀.slices_S4x4096x5888_S4x4096x512_0_0_768) Cert.Reference2Ideal.Facts₀.shapeCasts_S4x4096x512_S16384x512
      = s5Entries h w := by
  funext y
  have ey : y = ix2 ⟨(y 0).val, (y 0).isLt⟩ ⟨(y 1).val, (y 1).isLt⟩ := by
    funext d
    fin_cases d <;> rfl
  rw [ey]
  have hy1 : (y 1).val < 512 := (y 1).isLt
  have hy0 : (y 0).val < 16384 := (y 0).isLt
  unfold s5Entries proj batch position
  pointwise []

theorem hy_weights_read (x : Vec Ideal S1024x5888 .f32) (hx : m ((c : Thread nD τ).loc main_arg1) = x) (k : Fin 1024) (n : Fin 1536) :
    @Eq EReal (Gen.V m c main_v3 (ix2 k n)) (x (ix2 k ⟨1280 + n.val, by omega⟩)) := by
  subst hx
  simp only [Gen.V, hostOps0]
  entry_read
  pointwise []

theorem hy_weights_at (t : Fin cfg0.N) (x : Vec Ideal S1024x5888 .f32) (hx : m ((c : Thread nD τ).loc main_arg1) = x) (k : Fin 1024) (n : Fin 1536) :
    @Eq EReal (iblk m c 3 t (ix2 k n)) (x (ix2 k ⟨1280 + n.val, by omega⟩)) := by
  have e1 : iblk m c 3 t (ix2 k n) = Gen.V m c main_v3 (ix2 k n) := by blk_ext [iblk, idx t]
  exact Eq.trans e1 (hy_weights_read m c x hx _ _)

theorem hy_block (x0 : Vec Ideal S256x1024 .bf16) (x1 : Vec Ideal S1024x768 .bf16) (x2 : Vec Ideal S1024x512 .bf16) (x3 : Vec Ideal S1024x1536 .bf16) (x4 : Vec Ideal S1024x3072 .bf16) (x5 : Vec Ideal S1x3072 .f32) (r : Fin 256) (n : Fin 1536) :
    @Eq EReal (out0_8 x0 x1 x2 x3 x4 x5 (ix2 r n)) ((∑ k : Fin 1024, x0 (ix2 r k) * x3 (ix2 k n))) := by
  unfold out0_8
  frame_out
  pointwise [k0_pay4, k0_pay1]

/-- The result as an array. -/
def hyEntries (h : Vec Ideal S4x4096x1024 .f32) (w : Vec Ideal S1024x5888 .f32) : Vec Ideal S16384x1536 .f32 :=
  fun y => proj h w ⟨(y 0).val, (y 0).isLt⟩ ⟨1280 + (y 1).val, by have h1 : (y 1).val < 1536 := (y 1).isLt; omega⟩

theorem hy_final (h : Vec Ideal S4x4096x1024 .f32) (w : Vec Ideal S1024x5888 .f32)
    (hh : m ((c : Thread nD τ).loc main_arg0) = h) (hw : m ((c : Thread nD τ).loc main_arg1) = w) :
    (dats m 0 c).arrAt 8 cfg0.N = hyEntries h w := by
  refine (dats m 0 c).arrAt_eq_of_covers 8 _ (by decide +kernel) fun t _ y => ?_
  blk_simp
  rw [after0_8]
  have ey : y = ix2 ⟨(y 0).val, (y 0).isLt⟩ ⟨(y 1).val, (y 1).isLt⟩ := by
    funext d
    fin_cases d <;> rfl
  rw [ey]
  refine (hy_block _ _ _ _ _ _ _ _).trans ?_
  unfold hyEntries proj
  have ht := points t
  have hy0 : (y 0).val < 256 := (y 0).isLt
  have hy1 : (y 1).val < 1536 := (y 1).isLt
  blk_simp [idx t, row, batch, position]
  refine Finset.sum_congr rfl fun k _ => congr (congrArg HMul.hMul (rows_at m c t h hh _ _)) ((hy_weights_at m c t w hw _ _).trans (congrArg (fun n => w (ix2 k n)) (Fin.ext ?_)))
  show 1280 + (y 1).val = _
  dsimp only
  try omega

theorem hy_reference (h : Vec Ideal S4x4096x1024 .f32) (w : Vec Ideal S1024x5888 .f32) :
    shapeCast Cert.Reference2Ideal.S16384x1536 (extractStridedSlice Cert.Reference2Ideal.S4x4096x1536 ![0, 0, 1280] (Host.dotGeneral (F := Ideal) (φ₁ := .f32) (φ₂ := .f32) Cert.Reference2Ideal.dot_S4x4096x1024_S1024x5888_S4x4096x5888_2_0_01_1_n_n none h w) Cert.Reference2Ideal.Facts₀.slices_S4x4096x5888_S4x4096x1536_0_0_1280) Cert.Reference2Ideal.Facts₀.shapeCasts_S4x4096x1536_S16384x1536
      = hyEntries h w := by
  funext y
  have ey : y = ix2 ⟨(y 0).val, (y 0).isLt⟩ ⟨(y 1).val, (y 1).isLt⟩ := by
    funext d
    fin_cases d <;> rfl
  rw [ey]
  have hy1 : (y 1).val < 1536 := (y 1).isLt
  have hy0 : (y 0).val < 16384 := (y 0).isLt
  unfold hyEntries proj batch position
  pointwise []

theorem gate_weights_read (x : Vec Ideal S1024x5888 .f32) (hx : m ((c : Thread nD τ).loc main_arg1) = x) (k : Fin 1024) (n : Fin 3072) :
    @Eq EReal (Gen.V m c main_v4 (ix2 k n)) (x (ix2 k ⟨2816 + n.val, by omega⟩)) := by
  subst hx
  simp only [Gen.V, hostOps0]
  entry_read
  pointwise []

theorem gate_weights_at (t : Fin cfg0.N) (x : Vec Ideal S1024x5888 .f32) (hx : m ((c : Thread nD τ).loc main_arg1) = x) (k : Fin 1024) (n : Fin 3072) :
    @Eq EReal (iblk m c 4 t (ix2 k n)) (x (ix2 k ⟨2816 + n.val, by omega⟩)) := by
  have e1 : iblk m c 4 t (ix2 k n) = Gen.V m c main_v4 (ix2 k n) := by blk_ext [iblk, idx t]
  exact Eq.trans e1 (gate_weights_read m c x hx _ _)

theorem gate_block (x0 : Vec Ideal S256x1024 .bf16) (x1 : Vec Ideal S1024x768 .bf16) (x2 : Vec Ideal S1024x512 .bf16) (x3 : Vec Ideal S1024x1536 .bf16) (x4 : Vec Ideal S1024x3072 .bf16) (x5 : Vec Ideal S1x3072 .f32) (r : Fin 256) (n : Fin 3072) :
    @Eq EReal (out0_9 x0 x1 x2 x3 x4 x5 (ix2 r n)) ((∑ k : Fin 1024, x0 (ix2 r k) * x4 (ix2 k n)) + x5 (ix2 0 n)) := by
  unfold out0_9
  frame_out
  pointwise [k0_pay5, k0_pay1]

/-- The result as an array. -/
def gateEntries (h : Vec Ideal S4x4096x1024 .f32) (w : Vec Ideal S1024x5888 .f32) (b : Vec Ideal S3072 .f32) : Vec Ideal S16384x3072 .bf16 :=
  fun y => proj h w ⟨(y 0).val, (y 0).isLt⟩ ⟨2816 + (y 1).val, by have h1 : (y 1).val < 3072 := (y 1).isLt; omega⟩ + b (ix1 ⟨(y 1).val, (y 1).isLt⟩)

theorem gate_final (h : Vec Ideal S4x4096x1024 .f32) (w : Vec Ideal S1024x5888 .f32) (b : Vec Ideal S3072 .f32)
    (hh : m ((c : Thread nD τ).loc main_arg0) = h) (hw : m ((c : Thread nD τ).loc main_arg1) = w) (hb : m ((c : Thread nD τ).loc main_arg2) = b) :
    (dats m 0 c).arrAt 9 cfg0.N = gateEntries h w b := by
  refine (dats m 0 c).arrAt_eq_of_covers 9 _ (by decide +kernel) fun t _ y => ?_
  blk_simp
  rw [after0_9]
  have ey : y = ix2 ⟨(y 0).val, (y 0).isLt⟩ ⟨(y 1).val, (y 1).isLt⟩ := by
    funext d
    fin_cases d <;> rfl
  rw [ey]
  refine (gate_block _ _ _ _ _ _ _ _).trans ?_
  unfold gateEntries proj
  have ht := points t
  have hy0 : (y 0).val < 256 := (y 0).isLt
  have hy1 : (y 1).val < 3072 := (y 1).isLt
  blk_simp [idx t, row, batch, position]
  refine congr (congrArg HAdd.hAdd (Finset.sum_congr rfl fun k _ => congr (congrArg HMul.hMul (rows_at m c t h hh _ _)) ((gate_weights_at m c t w hw _ _).trans (congrArg (fun n => w (ix2 k n)) (Fin.ext ?_))))) (bias_at m c t b hb _)
  show 2816 + (y 1).val = _
  dsimp only
  try omega

theorem gate_reference (h : Vec Ideal S4x4096x1024 .f32) (w : Vec Ideal S1024x5888 .f32) (b : Vec Ideal S3072 .f32) :
    truncf .bf16 (shapeCast Cert.Reference2Ideal.S16384x3072 (addf (extractStridedSlice Cert.Reference2Ideal.S4x4096x3072 ![0, 0, 2816] (Host.dotGeneral (F := Ideal) (φ₁ := .f32) (φ₂ := .f32) Cert.Reference2Ideal.dot_S4x4096x1024_S1024x5888_S4x4096x5888_2_0_01_1_n_n none h w) Cert.Reference2Ideal.Facts₀.slices_S4x4096x5888_S4x4096x3072_0_0_2816) (broadcastInDim Cert.Reference2Ideal.S4x4096x3072 ![0, 1, 2] Cert.Reference2Ideal.Facts₀.bcast_S1x1x3072_S4x4096x3072_0_1_2 (broadcastInDim Cert.Reference2Ideal.S1x1x3072 ![2] Cert.Reference2Ideal.Facts₀.bcast_S3072_S1x1x3072_2 b))) Cert.Reference2Ideal.Facts₀.shapeCasts_S4x4096x3072_S16384x3072) Cert.Reference2Ideal.Facts₀.bitsLt_bf16_f32
      = gateEntries h w b := by
  funext y
  have ey : y = ix2 ⟨(y 0).val, (y 0).isLt⟩ ⟨(y 1).val, (y 1).isLt⟩ := by
    funext d
    fin_cases d <;> rfl
  rw [ey]
  have hy1 : (y 1).val < 3072 := (y 1).isLt
  have hy0 : (y 0).val < 16384 := (y 0).isLt
  unfold gateEntries proj batch position
  pointwise []

theorem projection_value : Cert.algebraic_Kernel2Ideal_Reference2Ideal (hKernel2Ideal := Cert.Kernel2Ideal.Gen.facts) (hReference2Ideal := Cert.Reference2Ideal.Gen.facts) := by
  intro m g m' g' hpre hagree
  refine ⟨_, _, _, _, (θ_run Cert.Kernel2Ideal.defs _ _).mono (fun r h c => ⟨(h c).1.trans (qkv_final m c _ _ rfl rfl), (h c).2.1.trans (s5_final m c _ _ rfl rfl),
      (h c).2.2.1.trans (hy_final m c _ _ rfl rfl), (h c).2.2.2.1.trans (gate_final m c _ _ _ rfl rfl rfl), (h c).2.2.2.2⟩) (Cert.Kernel2Ideal.Value.run_blocks m g),
    (θ_run Cert.Reference2Ideal.defs _ _).mono (fun r h c => ⟨(h c).1.trans ?_, (h c).2.1.trans ?_, (h c).2.2.1.trans ?_, (h c).2.2.2.1.trans ?_, (h c).2.2.2.2⟩) (Cert.Reference2Ideal.Value.run m' g')⟩
  all_goals
    obtain ⟨h0, h1, h2⟩ := hagree c
  · rw [h0, h1]; exact qkv_reference _ _
  · rw [h0, h1]; exact s5_reference _ _
  · rw [h0, h1]; exact hy_reference _ _
  · rw [h0, h1, h2]; exact gate_reference _ _ _

end Cert.Projection

end
-- ==== Proof.Merge.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Merge

open Cert.Kernel3Ideal Cert.Kernel3Ideal.Gen Idealize.ShloMosaic Idealize.ShloMosaic.TcCoe Idealize.SL.Sem

/-! The merge of the three branches: what the call leaves in its result, entry by entry. -/

/-- Which block of each operand a grid step sees: batch `t / 16` and tile `t % 16` of the rows, the weights whole. -/
theorem idx : ∀ t : Fin cfg0.N,
    win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![0, 0]
    ∧ win0_5.index t = ![0, 0]
    ∧ win0_6.index t = ![0, 0]
    ∧ win0_7.index t = ![0, 0]
    ∧ win0_8.index t = ![t.val / 16, t.val % 16, 0]
    ∧ win0_9.index t = ![t.val / 16, 0, 0]
    ∧ win0_10.index t = ![t.val / 16, t.val % 16, 0] :=
  (by decide +kernel : ∀ t : Fin grid0.N, _)

theorem points (t : Fin cfg0.N) : t.val < 64 := t.isLt

/-- The batch of a grid step, and the position of row `r` of its tile. -/
def batch (t : Fin cfg0.N) : Fin 4 := ⟨t.val / 16, by have := points t; omega⟩
def position (t : Fin cfg0.N) (r : Fin 256) : Fin 4096 := ⟨t.val % 16 * 256 + r.val, by omega⟩

/-- The logistic function. -/
def gate (z : EReal) : EReal := Ideal.div 1 (1 + Ideal.exp (-z))

/-- One row of the merge: the three branches' products weighted by their gates, through the output weights, scaled and added
to the row of `x`. -/
def mergeRow (a h s : Fin 512 → EReal) (gl : Fin 3072 → EReal) (wa wh ws : Fin 512 → Fin 1024 → EReal) (wo : Fin 1024 → Fin 1024 → EReal) (x g1 : Fin 1024 → EReal) (n : Fin 1024) : EReal :=
  x n + g1 n * ∑ k : Fin 1024,
    (gate (gl ⟨k.val, by omega⟩) * (∑ e, a e * wa e k) + gate (gl ⟨1024 + k.val, by omega⟩) * (∑ e, h e * wh e k)
      + gate (gl ⟨2048 + k.val, by omega⟩) * (∑ e, s e * ws e k)) * wo k n

variable (m : (ℓ : Loc nD τ sig) → Buf (Elt Ideal) ℓ) (c : Dev nD)

theorem att_read (x : Vec Ideal S4x4096x512 .f32) (hx : m ((c : Thread nD τ).loc main_arg0) = x) (b : Fin 4) (l : Fin 4096) (k : Fin 512) :
    @Eq EReal (Gen.V m c main_v0 (ix3 b l k)) (x (ix3 b l k)) := by
  subst hx
  simp only [Gen.V, hostOps0]
  entry_read
  pointwise []

theorem att_at (t : Fin cfg0.N) (x : Vec Ideal S4x4096x512 .f32) (hx : m ((c : Thread nD τ).loc main_arg0) = x) (r : Fin 256) (k : Fin 512) :
    @Eq EReal (iblk m c 0 t (ix3 0 r k)) (x (ix3 (batch t) (position t r) k)) := by
  have e1 : iblk m c 0 t (ix3 0 r k) = Gen.V m c main_v0 (ix3 (batch t) (position t r) k) := by blk_ext [iblk, idx t, batch, position]
  exact Eq.trans e1 (att_read m c x hx _ _ _)

theorem hy_read (x : Vec Ideal S4x4096x512 .f32) (hx : m ((c : Thread nD τ).loc main_arg1) = x) (b : Fin 4) (l : Fin 4096) (k : Fin 512) :
    @Eq EReal (Gen.V m c main_v1 (ix3 b l k)) (x (ix3 b l k)) := by
  subst hx
  simp only [Gen.V, hostOps0]
  entry_read
  pointwise []

theorem hy_at (t : Fin cfg0.N) (x : Vec Ideal S4x4096x512 .f32) (hx : m ((c : Thread nD τ).loc main_arg1) = x) (r : Fin 256) (k : Fin 512) :
    @Eq EReal (iblk m c 1 t (ix3 0 r k)) (x (ix3 (batch t) (position t r) k)) := by
  have e1 : iblk m c 1 t (ix3 0 r k) = Gen.V m c main_v1 (ix3 (batch t) (position t r) k) := by blk_ext [iblk, idx t, batch, position]
  exact Eq.trans e1 (hy_read m c x hx _ _ _)

theorem s5_read (x : Vec Ideal S4x4096x512 .f32) (hx : m ((c : Thread nD τ).loc main_arg2) = x) (b : Fin 4) (l : Fin 4096) (k : Fin 512) :
    @Eq EReal (Gen.V m c main_v2 (ix3 b l k)) (x (ix3 b l k)) := by
  subst hx
  simp only [Gen.V, hostOps0]
  entry_read
  pointwise []

theorem s5_at (t : Fin cfg0.N) (x : Vec Ideal S4x4096x512 .f32) (hx : m ((c : Thread nD τ).loc main_arg2) = x) (r : Fin 256) (k : Fin 512) :
    @Eq EReal (iblk m c 2 t (ix3 0 r k)) (x (ix3 (batch t) (position t r) k)) := by
  have e1 : iblk m c 2 t (ix3 0 r k) = Gen.V m c main_v2 (ix3 (batch t) (position t r) k) := by blk_ext [iblk, idx t, batch, position]
  exact Eq.trans e1 (s5_read m c x hx _ _ _)

theorem gl_read (x : Vec Ideal S4x4096x3072 .f32) (hx : m ((c : Thread nD τ).loc main_arg3) = x) (b : Fin 4) (l : Fin 4096) (k : Fin 3072) :
    @Eq EReal (Gen.V m c main_v3 (ix3 b l k)) (x (ix3 b l k)) := by
  subst hx
  simp only [Gen.V, hostOps0]
  entry_read
  pointwise []

theorem gl_at (t : Fin cfg0.N) (x : Vec Ideal S4x4096x3072 .f32) (hx : m ((c : Thread nD τ).loc main_arg3) = x) (r : Fin 256) (k : Fin 3072) :
    @Eq EReal (iblk m c 3 t (ix3 0 r k)) (x (ix3 (batch t) (position t r) k)) := by
  have e1 : iblk m c 3 t (ix3 0 r k) = Gen.V m c main_v3 (ix3 (batch t) (position t r) k) := by blk_ext [iblk, idx t, batch, position]
  exact Eq.trans e1 (gl_read m c x hx _ _ _)

theorem x_read (x : Vec Ideal S4x4096x1024 .f32) (hx : m ((c : Thread nD τ).loc main_arg8) = x) (b : Fin 4) (l : Fin 4096) (k : Fin 1024) :
    @Eq EReal (Gen.V m c main_arg8 (ix3 b l k)) (x (ix3 b l k)) := by
  subst hx
  exact congrFun (V_main_arg8 m c) _

theorem x_at (t : Fin cfg0.N) (x : Vec Ideal S4x4096x1024 .f32) (hx : m ((c : Thread nD τ).loc main_arg8) = x) (r : Fin 256) (k : Fin 1024) :
    @Eq EReal (iblk m c 8 t (ix3 0 r k)) (x (ix3 (batch t) (position t r) k)) := by
  have e1 : iblk m c 8 t (ix3 0 r k) = Gen.V m c main_arg8 (ix3 (batch t) (position t r) k) := by blk_ext [iblk, idx t, batch, position]
  exact Eq.trans e1 (x_read m c x hx _ _ _)

theorem wa_at (t : Fin cfg0.N) (x : Vec Ideal S512x1024 .f32) (hx : m ((c : Thread nD τ).loc main_arg4) = x) (e : Fin 512) (k : Fin 1024) :
    @Eq EReal (iblk m c 4 t (ix2 e k)) (x (ix2 e k)) := by
  have e1 : iblk m c 4 t (ix2 e k) = Gen.V m c main_v4 (ix2 e k) := by blk_ext [iblk, idx t]
  refine Eq.trans e1 ?_
  subst hx
  simp only [Gen.V, hostOps0]
  entry_read
  pointwise []

theorem wh_at (t : Fin cfg0.N) (x : Vec Ideal S512x1024 .f32) (hx : m ((c : Thread nD τ).loc main_arg5) = x) (e : Fin 512) (k : Fin 1024) :
    @Eq EReal (iblk m c 5 t (ix2 e k)) (x (ix2 e k)) := by
  have e1 : iblk m c 5 t (ix2 e k) = Gen.V m c main_v5 (ix2 e k) := by blk_ext [iblk, idx t]
  refine Eq.trans e1 ?_
  subst hx
  simp only [Gen.V, hostOps0]
  entry_read
  pointwise []

theorem ws_at (t : Fin cfg0.N) (x : Vec Ideal S512x1024 .f32) (hx : m ((c : Thread nD τ).loc main_arg6) = x) (e : Fin 512) (k : Fin 1024) :
    @Eq EReal (iblk m c 6 t (ix2 e k)) (x (ix2 e k)) := by
  have e1 : iblk m c 6 t (ix2 e k) = Gen.V m c main_v6 (ix2 e k) := by blk_ext [iblk, idx t]
  refine Eq.trans e1 ?_
  subst hx
  simp only [Gen.V, hostOps0]
  entry_read
  pointwise []

theorem wo_at (t : Fin cfg0.N) (x : Vec Ideal S1024x1024 .f32) (hx : m ((c : Thread nD τ).loc main_arg7) = x) (e : Fin 1024) (k : Fin 1024) :
    @Eq EReal (iblk m c 7 t (ix2 e k)) (x (ix2 e k)) := by
  have e1 : iblk m c 7 t (ix2 e k) = Gen.V m c main_v7 (ix2 e k) := by blk_ext [iblk, idx t]
  refine Eq.trans e1 ?_
  subst hx
  simp only [Gen.V, hostOps0]
  entry_read
  pointwise []

theorem g1_at (t : Fin cfg0.N) (x : Vec Ideal S4x1024 .f32) (hx : m ((c : Thread nD τ).loc main_arg9) = x) (k : Fin 1024) :
    @Eq EReal (iblk m c 9 t (ix3 0 0 k)) (x (ix2 (batch t) k)) := by
  have e1 : iblk m c 9 t (ix3 0 0 k) = Gen.V m c main_v8 (ix3 (batch t) 0 k) := by blk_ext [iblk, idx t, batch]
  refine Eq.trans e1 ?_
  generalize batch t = b
  subst hx
  simp only [Gen.V, hostOps0]
  entry_read
  pointwise []

/-- What a grid step stores, row by row. -/
theorem block (x0 x1 x2 : Vec Ideal S1x256x512 .bf16) (x3 : Vec Ideal S1x256x3072 .bf16) (x4 x5 x6 : Vec Ideal S512x1024 .bf16) (x7 : Vec Ideal S1024x1024 .bf16) (x8 : Vec Ideal S1x256x1024 .f32) (x9 : Vec Ideal S1x1x1024 .f32) (r : Fin 256) (n : Fin 1024) :
    @Eq EReal (out0_10 x0 x1 x2 x3 x4 x5 x6 x7 x8 x9 (ix3 0 r n))
      (mergeRow (fun e => x0 (ix3 0 r e)) (fun e => x1 (ix3 0 r e)) (fun e => x2 (ix3 0 r e)) (fun k => x3 (ix3 0 r k)) (fun e k => x4 (ix2 e k)) (fun e k => x5 (ix2 e k)) (fun e k => x6 (ix2 e k)) (fun k n => x7 (ix2 k n)) (fun n => x8 (ix3 0 r n)) (fun n => x9 (ix3 0 0 n)) n) := by
  unfold out0_10
  frame_out
  unfold mergeRow
  pointwise [k0_pay1, k0_pay2]
  rfl

/-- The result as an array. -/
def entries (att hy s5 : Vec Ideal S4x4096x512 .f32) (gl : Vec Ideal S4x4096x3072 .f32) (wa wh ws : Vec Ideal S512x1024 .f32) (wo : Vec Ideal S1024x1024 .f32) (x : Vec Ideal S4x4096x1024 .f32) (g1 : Vec Ideal S4x1024 .f32) : Vec Ideal S4x4096x1024 .f32 :=
  fun y => mergeRow (fun e => att (ix3 ⟨(y 0).val, (y 0).isLt⟩ ⟨(y 1).val, (y 1).isLt⟩ e)) (fun e => hy (ix3 ⟨(y 0).val, (y 0).isLt⟩ ⟨(y 1).val, (y 1).isLt⟩ e)) (fun e => s5 (ix3 ⟨(y 0).val, (y 0).isLt⟩ ⟨(y 1).val, (y 1).isLt⟩ e)) (fun k => gl (ix3 ⟨(y 0).val, (y 0).isLt⟩ ⟨(y 1).val, (y 1).isLt⟩ k))
    (fun e k => wa (ix2 e k)) (fun e k => wh (ix2 e k)) (fun e k => ws (ix2 e k)) (fun k n => wo (ix2 k n)) (fun n => x (ix3 ⟨(y 0).val, (y 0).isLt⟩ ⟨(y 1).val, (y 1).isLt⟩ n)) (fun n => g1 (ix2 ⟨(y 0).val, (y 0).isLt⟩ n)) ⟨(y 2).val, (y 2).isLt⟩

theorem final (att hy s5 : Vec Ideal S4x4096x512 .f32) (gl : Vec Ideal S4x4096x3072 .f32) (wa wh ws : Vec Ideal S512x1024 .f32) (wo : Vec Ideal S1024x1024 .f32) (x : Vec Ideal S4x4096x1024 .f32) (g1 : Vec Ideal S4x1024 .f32)
    (h0 : m ((c : Thread nD τ).loc main_arg0) = att) (h1 : m ((c : Thread nD τ).loc main_arg1) = hy) (h2 : m ((c : Thread nD τ).loc main_arg2) = s5) (h3 : m ((c : Thread nD τ).loc main_arg3) = gl)
    (h4 : m ((c : Thread nD τ).loc main_arg4) = wa) (h5 : m ((c : Thread nD τ).loc main_arg5) = wh) (h6 : m ((c : Thread nD τ).loc main_arg6) = ws) (h7 : m ((c : Thread nD τ).loc main_arg7) = wo)
    (h8 : m ((c : Thread nD τ).loc main_arg8) = x) (h9 : m ((c : Thread nD τ).loc main_arg9) = g1) :
    (dats m 0 c).arrAt 10 cfg0.N = entries att hy s5 gl wa wh ws wo x g1 := by
  refine (dats m 0 c).arrAt_eq_of_covers 10 _ (by decide +kernel) fun t _ y => ?_
  blk_simp
  rw [after0_10]
  have hy0 : (y 0).val < 1 := (y 0).isLt
  have ey : y = ix3 0 ⟨(y 1).val, (y 1).isLt⟩ ⟨(y 2).val, (y 2).isLt⟩ := by
    funext d
    fin_cases d
    · exact Fin.ext (by show (y 0).val = 0; omega)
    · rfl
    · rfl
  rw [ey]
  refine (block _ _ _ _ _ _ _ _ _ _ _ _).trans ?_
  unfold entries
  refine Eq.trans (congrFun (congr (congr (congr (congr (congr (congr (congr (congr (congr (congrArg mergeRow (funext fun e => att_at m c t att h0 _ e)) (funext fun e => hy_at m c t hy h1 _ e)) (funext fun e => s5_at m c t s5 h2 _ e)) (funext fun k => gl_at m c t gl h3 _ k)) (funext fun e => funext fun k => wa_at m c t wa h4 e k)) (funext fun e => funext fun k => wh_at m c t wh h5 e k)) (funext fun e => funext fun k => ws_at m c t ws h6 e k)) (funext fun k => funext fun n => wo_at m c t wo h7 k n)) (funext fun n => x_at m c t x h8 _ n)) (funext fun n => g1_at m c t g1 h9 n)) _) ?_
  have ht := points t
  have hy1 : (y 1).val < 256 := (y 1).isLt
  have hy2 : (y 2).val < 1024 := (y 2).isLt
  blk_simp [idx t, batch, position]
  rfl

/-- The reference's result, entry by entry. -/
theorem reference_entries (att hy s5 : Vec Ideal S4x4096x512 .f32) (gl : Vec Ideal S4x4096x3072 .f32) (wa wh ws : Vec Ideal S512x1024 .f32) (wo : Vec Ideal S1024x1024 .f32) (x : Vec Ideal S4x4096x1024 .f32) (g1 : Vec Ideal S4x1024 .f32) :
    addf x (mulf (broadcastInDim Cert.Reference3Ideal.S4x4096x1024 ![0, 1, 2] Cert.Reference3Ideal.Facts₀.bcast_S4x1x1024_S4x4096x1024_0_1_2 (broadcastInDim Cert.Reference3Ideal.S4x1x1024 ![0, 2] Cert.Reference3Ideal.Facts₀.bcast_S4x1024_S4x1x1024_0_2 g1)) (Host.dotGeneral (F := Ideal) (φ₁ := .f32) (φ₂ := .f32) Cert.Reference3Ideal.dot_S4x4096x1024_S1024x1024_S4x4096x1024_2_0_01_1_n_n none (addf (addf (mulf (extractStridedSlice Cert.Reference3Ideal.S4x4096x1024 ![0, 0, 0] (Host.divf (broadcastInDim Cert.Reference3Ideal.S4x4096x3072 ![] Cert.Reference3Ideal.Facts₀.bcast_S_S4x4096x3072 (constant (F := Ideal) Cert.Reference3Ideal.S_ .f32 0x3F800000#32)) (addf (broadcastInDim Cert.Reference3Ideal.S4x4096x3072 ![] Cert.Reference3Ideal.Facts₀.bcast_S_S4x4096x3072 (constant (F := Ideal) Cert.Reference3Ideal.S_ .f32 0x3F800000#32)) (Host.exp (Host.negf gl)))) Cert.Reference3Ideal.Facts₀.slices_S4x4096x3072_S4x4096x1024_0_0_0) (Host.dotGeneral (F := Ideal) (φ₁ := .f32) (φ₂ := .f32) Cert.Reference3Ideal.dot_S4x4096x512_S512x1024_S4x4096x1024_2_0_01_1_n_n none att wa)) (mulf (extractStridedSlice Cert.Reference3Ideal.S4x4096x1024 ![0, 0, 1024] (Host.divf (broadcastInDim Cert.Reference3Ideal.S4x4096x3072 ![] Cert.Reference3Ideal.Facts₀.bcast_S_S4x4096x3072 (constant (F := Ideal) Cert.Reference3Ideal.S_ .f32 0x3F800000#32)) (addf (broadcastInDim Cert.Reference3Ideal.S4x4096x3072 ![] Cert.Reference3Ideal.Facts₀.bcast_S_S4x4096x3072 (constant (F := Ideal) Cert.Reference3Ideal.S_ .f32 0x3F800000#32)) (Host.exp (Host.negf gl)))) Cert.Reference3Ideal.Facts₀.slices_S4x4096x3072_S4x4096x1024_0_0_1024) (Host.dotGeneral (F := Ideal) (φ₁ := .f32) (φ₂ := .f32) Cert.Reference3Ideal.dot_S4x4096x512_S512x1024_S4x4096x1024_2_0_01_1_n_n none hy wh))) (mulf (extractStridedSlice Cert.Reference3Ideal.S4x4096x1024 ![0, 0, 2048] (Host.divf (broadcastInDim Cert.Reference3Ideal.S4x4096x3072 ![] Cert.Reference3Ideal.Facts₀.bcast_S_S4x4096x3072 (constant (F := Ideal) Cert.Reference3Ideal.S_ .f32 0x3F800000#32)) (addf (broadcastInDim Cert.Reference3Ideal.S4x4096x3072 ![] Cert.Reference3Ideal.Facts₀.bcast_S_S4x4096x3072 (constant (F := Ideal) Cert.Reference3Ideal.S_ .f32 0x3F800000#32)) (Host.exp (Host.negf gl)))) Cert.Reference3Ideal.Facts₀.slices_S4x4096x3072_S4x4096x1024_0_0_2048) (Host.dotGeneral (F := Ideal) (φ₁ := .f32) (φ₂ := .f32) Cert.Reference3Ideal.dot_S4x4096x512_S512x1024_S4x4096x1024_2_0_01_1_n_n none s5 ws))) wo))
      = entries att hy s5 gl wa wh ws wo x g1 := by
  funext y
  have ey : y = ix3 ⟨(y 0).val, (y 0).isLt⟩ ⟨(y 1).val, (y 1).isLt⟩ ⟨(y 2).val, (y 2).isLt⟩ := by
    funext d
    fin_cases d <;> rfl
  rw [ey]
  have hy0 : (y 0).val < 4 := (y 0).isLt
  have hy1 : (y 1).val < 4096 := (y 1).isLt
  have hy2 : (y 2).val < 1024 := (y 2).isLt
  unfold entries mergeRow gate
  pointwise []

theorem merge_value : Cert.algebraic_Kernel3Ideal_Reference3Ideal (hKernel3Ideal := Cert.Kernel3Ideal.Gen.facts) (hReference3Ideal := Cert.Reference3Ideal.Gen.facts) := by
  intro m g m' g' hpre hagree
  refine ⟨_, (θ_run Cert.Kernel3Ideal.defs _ _).mono (fun r h c => ⟨((h c).1.trans (final m c _ _ _ _ _ _ _ _ _ _ rfl rfl rfl rfl rfl rfl rfl rfl rfl rfl)), (h c).2⟩) (Cert.Kernel3Ideal.Value.run_blocks m g),
    (θ_run Cert.Reference3Ideal.defs _ _).mono (fun r h c => ⟨(h c).1.trans ?_, (h c).2⟩) (Cert.Reference3Ideal.Value.run m' g')⟩
  obtain ⟨h0, h1, h2, h3, h4, h5, h6, h7, h8, h9⟩ := hagree c
  rw [h0, h1, h2, h3, h4, h5, h6, h7, h8, h9]
  exact reference_entries _ _ _ _ _ _ _ _ _ _

end Cert.Merge

end
-- ==== Proof.Norm.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Norm

open Cert.Kernel4Ideal Cert.Kernel4Ideal.Gen Idealize.ShloMosaic Idealize.ShloMosaic.TcCoe Idealize.SL.Sem

/-! The normed and modulated activations. -/

/-- Which block of each operand a grid step sees. -/
theorem idx : ∀ t : Fin cfg0.N,
    win0_0.index t = ![t.val / 8, t.val % 8, 0]
    ∧ win0_1.index t = ![0, 0]
    ∧ win0_2.index t = ![t.val / 8, 0, 0]
    ∧ win0_3.index t = ![t.val / 8, 0, 0]
    ∧ win0_4.index t = ![t.val / 8, t.val % 8, 0] :=
  (by decide +kernel : ∀ t : Fin grid0.N, _)

theorem points (t : Fin cfg0.N) : t.val < 32 := t.isLt

/-- The batch of a grid step, and the position of row `r` of its tile. -/
def batch (t : Fin cfg0.N) : Fin 4 := ⟨t.val / 8, by have := points t; omega⟩
def position (t : Fin cfg0.N) (r : Fin 512) : Fin 4096 := ⟨t.val % 8 * 512 + r.val, by omega⟩

/-- One row, over the root of its mean square, scaled by `g`, then scaled and shifted by the modulation. -/
def normRow (x g sh sc : Fin 1024 → EReal) (n : Fin 1024) : EReal :=
  x n * Ideal.rsqrt (Ideal.div (∑ k : Fin 1024, x k * x k) (Ideal.ofBits .f32 0x44800000#32) + Ideal.ofBits .f32 0x358637BD#32) * g n * (1 + sc n) + sh n

variable (m : (ℓ : Loc nD τ sig) → Buf (Elt Ideal) ℓ) (c : Dev nD)

theorem x_at (t : Fin cfg0.N) (a : Vec Ideal S4x4096x1024 .f32) (ha : m ((c : Thread nD τ).loc main_arg0) = a) (r : Fin 512) (k : Fin 1024) :
    @Eq EReal (iblk m c 0 t (ix3 0 r k)) (a (ix3 (batch t) (position t r) k)) := by
  have e1 : iblk m c 0 t (ix3 0 r k) = Gen.V m c main_arg0 (ix3 (batch t) (position t r) k) := by blk_ext [iblk, idx t, batch, position]
  refine Eq.trans e1 ?_
  subst ha
  exact congrFun (V_main_arg0 m c) _

theorem g_at (t : Fin cfg0.N) (a : Vec Ideal S1024 .f32) (ha : m ((c : Thread nD τ).loc main_arg1) = a) (k : Fin 1024) :
    @Eq EReal (iblk m c 1 t (ix2 0 k)) (a (ix1 k)) := by
  have e1 : iblk m c 1 t (ix2 0 k) = Gen.V m c main_v0 (ix2 0 k) := by blk_ext [iblk, idx t]
  refine Eq.trans e1 ?_
  subst ha
  simp only [Gen.V, hostOps0]
  entry_read
  pointwise []

theorem shift_at (t : Fin cfg0.N) (a : Vec Ideal S4x1024 .f32) (ha : m ((c : Thread nD τ).loc main_arg2) = a) (k : Fin 1024) :
    @Eq EReal (iblk m c 2 t (ix3 0 0 k)) (a (ix2 (batch t) k)) := by
  have e1 : iblk m c 2 t (ix3 0 0 k) = Gen.V m c main_v1 (ix3 (batch t) 0 k) := by blk_ext [iblk, idx t, batch]
  refine Eq.trans e1 ?_
  generalize batch t = b
  subst ha
  simp only [Gen.V, hostOps0]
  entry_read
  pointwise []

theorem scale_at (t : Fin cfg0.N) (a : Vec Ideal S4x1024 .f32) (ha : m ((c : Thread nD τ).loc main_arg3) = a) (k : Fin 1024) :
    @Eq EReal (iblk m c 3 t (ix3 0 0 k)) (a (ix2 (batch t) k)) := by
  have e1 : iblk m c 3 t (ix3 0 0 k) = Gen.V m c main_v2 (ix3 (batch t) 0 k) := by blk_ext [iblk, idx t, batch]
  refine Eq.trans e1 ?_
  generalize batch t = b
  subst ha
  simp only [Gen.V, hostOps0]
  entry_read
  pointwise []

/-- What a grid step stores. -/
theorem block (x0 : Vec Ideal S1x512x1024 .f32) (x1 : Vec Ideal S1x1024 .f32) (x2 x3 : Vec Ideal S1x1x1024 .f32) (r : Fin 512) (n : Fin 1024) :
    @Eq EReal (out0_4 x0 x1 x2 x3 (ix3 0 r n))
      (normRow (fun k => x0 (ix3 0 r k)) (fun k => x1 (ix2 0 k)) (fun k => x2 (ix3 0 0 k)) (fun k => x3 (ix3 0 0 k)) n) := by
  unfold out0_4
  frame_out
  unfold normRow
  pointwise [k0_pay1]

/-- The result as an array. -/
def entries (x : Vec Ideal S4x4096x1024 .f32) (g : Vec Ideal S1024 .f32) (sh sc : Vec Ideal S4x1024 .f32) : Vec Ideal S4x4096x1024 .bf16 :=
  fun i => normRow (fun k => x (ix3 ⟨(i 0).val, (i 0).isLt⟩ ⟨(i 1).val, (i 1).isLt⟩ k)) (fun k => g (ix1 k))
    (fun k => sh (ix2 ⟨(i 0).val, (i 0).isLt⟩ k)) (fun k => sc (ix2 ⟨(i 0).val, (i 0).isLt⟩ k)) ⟨(i 2).val, (i 2).isLt⟩

theorem final (x : Vec Ideal S4x4096x1024 .f32) (g : Vec Ideal S1024 .f32) (sh sc : Vec Ideal S4x1024 .f32)
    (h0 : m ((c : Thread nD τ).loc main_arg0) = x) (h1 : m ((c : Thread nD τ).loc main_arg1) = g) (h2 : m ((c : Thread nD τ).loc main_arg2) = sh)
    (h3 : m ((c : Thread nD τ).loc main_arg3) = sc) :
    (dats m 0 c).arrAt 4 cfg0.N = entries x g sh sc := by
  refine (dats m 0 c).arrAt_eq_of_covers 4 _ (by decide +kernel) fun t _ i => ?_
  blk_simp
  rw [after0_4]
  have hi0 : (i 0).val < 1 := (i 0).isLt
  have ei : i = ix3 0 ⟨(i 1).val, (i 1).isLt⟩ ⟨(i 2).val, (i 2).isLt⟩ := by
    funext d
    fin_cases d
    · exact Fin.ext (by show (i 0).val = 0; omega)
    · rfl
    · rfl
  rw [ei]
  refine (block _ _ _ _ _ _).trans ?_
  unfold entries
  refine Eq.trans (congrFun (congr (congr (congr (congrArg normRow (funext fun k => x_at m c t x h0 _ k)) (funext fun k => g_at m c t g h1 k)) (funext fun k => shift_at m c t sh h2 k)) (funext fun k => scale_at m c t sc h3 k)) _) ?_
  have ht := points t
  have hi1 : (i 1).val < 512 := (i 1).isLt
  have hi2 : (i 2).val < 1024 := (i 2).isLt
  blk_simp [idx t, batch, position]
  rfl

theorem norm_value : Cert.algebraic_Kernel4Ideal_Reference4Ideal (hKernel4Ideal := Cert.Kernel4Ideal.Gen.facts) (hReference4Ideal := Cert.Reference4Ideal.Gen.facts) := by
  intro m g m' g' hpre hagree
  refine ⟨_, (θ_run Cert.Kernel4Ideal.defs _ _).mono (fun r h c => ⟨((h c).1.trans (final m c _ _ _ _ rfl rfl rfl rfl)), (h c).2⟩) (Cert.Kernel4Ideal.Value.run_blocks m g),
    (θ_run Cert.Reference4Ideal.defs _ _).mono (fun r h c => ⟨(h c).1.trans ?_, (h c).2⟩) (Cert.Reference4Ideal.Value.run m' g')⟩
  obtain ⟨h0, h1, h2, h3⟩ := hagree c
  rw [h0, h1, h2, h3]
  refine funext fun i => ?_
  have ei : i = ix3 ⟨(i 0).val, (i 0).isLt⟩ ⟨(i 1).val, (i 1).isLt⟩ ⟨(i 2).val, (i 2).isLt⟩ := by
    funext d
    fin_cases d <;> rfl
  rw [ei]
  have hi0 : (i 0).val < 4 := (i 0).isLt
  have hi1 : (i 1).val < 4096 := (i 1).isLt
  have hi2 : (i 2).val < 1024 := (i 2).isLt
  unfold entries normRow
  pointwise []

end Cert.Norm

end
-- ==== Proof.NormColumns.lean ====
module

public import proofs.«01_k».proof.Defs
public import proofs.«01_k».proof.Proof.Gen.Kernel5Ideal.Value
public import proofs.«01_k».proof.Proof.Gen.Reference5Ideal.Run
public import proofs.«01_k».proof.Proof.Norm
public import Idealize.ShloMosaic.Lib.Pipeline.ValueKit
public import Idealize.ShloMosaic.Lib.Claim

@[expose] public section

set_option maxRecDepth 16384

noncomputable section

namespace Cert.NormColumns

open Cert.Kernel5Ideal Cert.Kernel5Ideal.Gen Idealize.ShloMosaic Idealize.ShloMosaic.TcCoe Idealize.SL.Sem

/-! The normed and modulated activations, one column per token. -/

/-- Which block of each operand a grid step sees. -/
theorem idx : ∀ t : Fin cfg0.N,
    win0_0.index t = ![t.val / 8, t.val % 8, 0]
    ∧ win0_1.index t = ![0, 0]
    ∧ win0_2.index t = ![t.val / 8, 0, 0]
    ∧ win0_3.index t = ![t.val / 8, 0, 0]
    ∧ win0_4.index t = ![0, t.val] :=
  (by decide +kernel : ∀ t : Fin grid0.N, _)

theorem points (t : Fin cfg0.N) : t.val < 32 := t.isLt

/-- The batch of a grid step, and the position of row `r` of its tile. -/
def batch (t : Fin cfg0.N) : Fin 4 := ⟨t.val / 8, by have := points t; omega⟩
def position (t : Fin cfg0.N) (r : Fin 512) : Fin 4096 := ⟨t.val % 8 * 512 + r.val, by omega⟩

open Cert.Norm (normRow)

variable (m : (ℓ : Loc nD τ sig) → Buf (Elt Ideal) ℓ) (c : Dev nD)

theorem x_at (t : Fin cfg0.N) (a : Vec Ideal S4x4096x1024 .f32) (ha : m ((c : Thread nD τ).loc main_arg0) = a) (r : Fin 512) (k : Fin 1024) :
    @Eq EReal (iblk m c 0 t (ix3 0 r k)) (a (ix3 (batch t) (position t r) k)) := by
  have e1 : iblk m c 0 t (ix3 0 r k) = Gen.V m c main_arg0 (ix3 (batch t) (position t r) k) := by blk_ext [iblk, idx t, batch, position]
  refine Eq.trans e1 ?_
  subst ha
  exact congrFun (V_main_arg0 m c) _

theorem g_at (t : Fin cfg0.N) (a : Vec Ideal S1024 .f32) (ha : m ((c : Thread nD τ).loc main_arg1) = a) (k : Fin 1024) :
    @Eq EReal (iblk m c 1 t (ix2 0 k)) (a (ix1 k)) := by
  have e1 : iblk m c 1 t (ix2 0 k) = Gen.V m c main_v0 (ix2 0 k) := by blk_ext [iblk, idx t]
  refine Eq.trans e1 ?_
  subst ha
  simp only [Gen.V, hostOps0]
  entry_read
  pointwise []

theorem shift_at (t : Fin cfg0.N) (a : Vec Ideal S4x1024 .f32) (ha : m ((c : Thread nD τ).loc main_arg2) = a) (k : Fin 1024) :
    @Eq EReal (iblk m c 2 t (ix3 0 0 k)) (a (ix2 (batch t) k)) := by
  have e1 : iblk m c 2 t (ix3 0 0 k) = Gen.V m c main_v1 (ix3 (batch t) 0 k) := by blk_ext [iblk, idx t, batch]
  refine Eq.trans e1 ?_
  generalize batch t = b
  subst ha
  simp only [Gen.V, hostOps0]
  entry_read
  pointwise []

theorem scale_at (t : Fin cfg0.N) (a : Vec Ideal S4x1024 .f32) (ha : m ((c : Thread nD τ).loc main_arg3) = a) (k : Fin 1024) :
    @Eq EReal (iblk m c 3 t (ix3 0 0 k)) (a (ix2 (batch t) k)) := by
  have e1 : iblk m c 3 t (ix3 0 0 k) = Gen.V m c main_v2 (ix3 (batch t) 0 k) := by blk_ext [iblk, idx t, batch]
  refine Eq.trans e1 ?_
  generalize batch t = b
  subst ha
  simp only [Gen.V, hostOps0]
  entry_read
  pointwise []

/-- What a grid step stores. -/
theorem block (x0 : Vec Ideal S1x512x1024 .f32) (x1 : Vec Ideal S1x1024 .f32) (x2 x3 : Vec Ideal S1x1x1024 .f32) (r : Fin 512) (n : Fin 1024) :
    @Eq EReal (out0_4 x0 x1 x2 x3 (ix2 n r))
      (normRow (fun k => x0 (ix3 0 r k)) (fun k => x1 (ix2 0 k)) (fun k => x2 (ix3 0 0 k)) (fun k => x3 (ix3 0 0 k)) n) := by
  unfold out0_4
  frame_out
  unfold normRow
  pointwise [k0_pay1]

/-- The result as an array. -/
def entries (x : Vec Ideal S4x4096x1024 .f32) (g : Vec Ideal S1024 .f32) (sh sc : Vec Ideal S4x1024 .f32) : Vec Ideal S1024x16384 .bf16 :=
  fun i => normRow (fun k => x (ix3 ⟨(i 1).val / 4096, by have h : (i 1).val < 16384 := (i 1).isLt; omega⟩ ⟨(i 1).val % 4096, by omega⟩ k)) (fun k => g (ix1 k))
    (fun k => sh (ix2 ⟨(i 1).val / 4096, by have h : (i 1).val < 16384 := (i 1).isLt; omega⟩ k)) (fun k => sc (ix2 ⟨(i 1).val / 4096, by have h : (i 1).val < 16384 := (i 1).isLt; omega⟩ k)) ⟨(i 0).val, (i 0).isLt⟩

theorem final (x : Vec Ideal S4x4096x1024 .f32) (g : Vec Ideal S1024 .f32) (sh sc : Vec Ideal S4x1024 .f32)
    (h0 : m ((c : Thread nD τ).loc main_arg0) = x) (h1 : m ((c : Thread nD τ).loc main_arg1) = g) (h2 : m ((c : Thread nD τ).loc main_arg2) = sh)
    (h3 : m ((c : Thread nD τ).loc main_arg3) = sc) :
    (dats m 0 c).arrAt 4 cfg0.N = entries x g sh sc := by
  refine (dats m 0 c).arrAt_eq_of_covers 4 _ (by decide +kernel) fun t _ i => ?_
  blk_simp
  rw [after0_4]
  have ei : i = ix2 ⟨(i 0).val, (i 0).isLt⟩ ⟨(i 1).val, (i 1).isLt⟩ := by
    funext d
    fin_cases d <;> rfl
  rw [ei]
  refine (block _ _ _ _ _ _).trans ?_
  unfold entries
  refine Eq.trans (congrFun (congr (congr (congr (congrArg normRow (funext fun k => x_at m c t x h0 _ k)) (funext fun k => g_at m c t g h1 k)) (funext fun k => shift_at m c t sh h2 k)) (funext fun k => scale_at m c t sc h3 k)) _) ?_
  have ht := points t
  have hi0 : (i 0).val < 1024 := (i 0).isLt
  have hi1 : (i 1).val < 512 := (i 1).isLt
  have ed : (t.val * 512 + (i 1).val) / 4096 = t.val / 8 := by omega
  have em : (t.val * 512 + (i 1).val) % 4096 = t.val % 8 * 512 + (i 1).val := by omega
  blk_simp [idx t, batch, position, ed, em]
  rfl

/-- The reference's result. -/
def modulated (x : FVec Ideal S4x4096x1024 .f32) (g : FVec Ideal S1024 .f32) (sh sc : FVec Ideal S4x1024 .f32) : FVec Ideal S1024x16384 .bf16 :=
  truncf .bf16 (transpose Cert.Reference5Ideal.S1024x16384 [1, 0] (shapeCast Cert.Reference5Ideal.S16384x1024 (addf (mulf (mulf (mulf x (broadcastInDim Cert.Reference5Ideal.S4x4096x1024 ![0, 1, 2] Cert.Reference5Ideal.Facts₀.bcast_S4x4096x1_S4x4096x1024_0_1_2 (Host.rsqrt (addf (Host.divf (broadcastInDim Cert.Reference5Ideal.S4x4096x1 ![0, 1] Cert.Reference5Ideal.Facts₀.bcast_S4x4096_S4x4096x1_0_1 (Host.reduceAdd (mulf x x) (constant (F := Ideal) Cert.Reference5Ideal.S_ .f32 0x00000000#32) Cert.Reference5Ideal.Facts₀.reducesTo_S4x4096x1024_S4x4096_d2 Cert.Reference5Ideal.Facts₀.h_S_)) (broadcastInDim Cert.Reference5Ideal.S4x4096x1 ![] Cert.Reference5Ideal.Facts₀.bcast_S_S4x4096x1 (constant (F := Ideal) Cert.Reference5Ideal.S_ .f32 0x44800000#32))) (broadcastInDim Cert.Reference5Ideal.S4x4096x1 ![] Cert.Reference5Ideal.Facts₀.bcast_S_S4x4096x1 (constant (F := Ideal) Cert.Reference5Ideal.S_ .f32 0x358637BD#32)))))) (broadcastInDim Cert.Reference5Ideal.S4x4096x1024 ![0, 1, 2] Cert.Reference5Ideal.Facts₀.bcast_S1x1x1024_S4x4096x1024_0_1_2 (broadcastInDim Cert.Reference5Ideal.S1x1x1024 ![2] Cert.Reference5Ideal.Facts₀.bcast_S1024_S1x1x1024_2 g))) (broadcastInDim Cert.Reference5Ideal.S4x4096x1024 ![0, 1, 2] Cert.Reference5Ideal.Facts₀.bcast_S4x1x1024_S4x4096x1024_0_1_2 (addf (broadcastInDim Cert.Reference5Ideal.S4x1x1024 ![] Cert.Reference5Ideal.Facts₀.bcast_S_S4x1x1024 (constant (F := Ideal) Cert.Reference5Ideal.S_ .f32 0x3F800000#32)) (broadcastInDim Cert.Reference5Ideal.S4x1x1024 ![0, 2] Cert.Reference5Ideal.Facts₀.bcast_S4x1024_S4x1x1024_0_2 sc)))) (broadcastInDim Cert.Reference5Ideal.S4x4096x1024 ![0, 1, 2] Cert.Reference5Ideal.Facts₀.bcast_S4x1x1024_S4x4096x1024_0_1_2 (broadcastInDim Cert.Reference5Ideal.S4x1x1024 ![0, 2] Cert.Reference5Ideal.Facts₀.bcast_S4x1024_S4x1x1024_0_2 sh))) Cert.Reference5Ideal.Facts₀.shapeCasts_S4x4096x1024_S16384x1024) Cert.Reference5Ideal.Facts₀.transposes_S16384x1024_S1024x16384_1_0) Cert.Reference5Ideal.Facts₀.bitsLt_bf16_f32

theorem modulated_entry (x : Vec Ideal S4x4096x1024 .f32) (g : Vec Ideal S1024 .f32) (sh sc : Vec Ideal S4x1024 .f32) (p : Fin 16384) (n : Fin 1024) :
    @Eq EReal (modulated x g sh sc (ix2 n p)) (normRow (fun k => x (ix3 ⟨p.val / 4096, by omega⟩ ⟨p.val % 4096, by omega⟩ k)) (fun k => g (ix1 k))
      (fun k => sh (ix2 ⟨p.val / 4096, by omega⟩ k)) (fun k => sc (ix2 ⟨p.val / 4096, by omega⟩ k)) n) := by
  unfold normRow
  pointwise [modulated]

theorem reference_entries (x : Vec Ideal S4x4096x1024 .f32) (g : Vec Ideal S1024 .f32) (sh sc : Vec Ideal S4x1024 .f32) : modulated x g sh sc = entries x g sh sc := by
  funext i
  have ei : i = ix2 ⟨(i 0).val, (i 0).isLt⟩ ⟨(i 1).val, (i 1).isLt⟩ := by
    funext d
    fin_cases d <;> rfl
  rw [ei]
  exact modulated_entry _ _ _ _ _ _

theorem norm_value : Cert.algebraic_Kernel5Ideal_Reference5Ideal (hKernel5Ideal := Cert.Kernel5Ideal.Gen.facts) (hReference5Ideal := Cert.Reference5Ideal.Gen.facts) := by
  intro m g m' g' hpre hagree
  refine ⟨_, (θ_run Cert.Kernel5Ideal.defs _ _).mono (fun r h c => ⟨((h c).1.trans (final m c _ _ _ _ rfl rfl rfl rfl)), (h c).2⟩) (Cert.Kernel5Ideal.Value.run_blocks m g),
    (θ_run Cert.Reference5Ideal.defs _ _).mono (fun r h c => ⟨(h c).1.trans ?_, (h c).2⟩) (Cert.Reference5Ideal.Value.run m' g')⟩
  obtain ⟨h0, h1, h2, h3⟩ := hagree c
  rw [h0, h1, h2, h3]
  have e := reference_entries (m ((c : Thread nD τ).loc main_arg0)) (m ((c : Thread nD τ).loc main_arg1)) (m ((c : Thread nD τ).loc main_arg2)) (m ((c : Thread nD τ).loc main_arg3))
  unfold modulated at e
  exact e

end Cert.NormColumns

end
-- ==== Proof.ShortConv.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import Idealize.ShloMosaic.Lib.KernelVsHost

@[expose] public section

set_option maxRecDepth 16384

noncomputable section

namespace Cert.ShortConv

open Cert.Kernel6Ideal Cert.Kernel6Ideal.Gen Idealize.ShloMosaic Idealize.ShloMosaic.TcCoe Idealize.SL.Sem

/-! The short convolution: every channel's three neighbouring tokens, weighed and added to the bias, the missing
neighbours of the first and the last token zero; then the first gate's product. -/

/-- Which block of each operand a grid step sees — the rows' tile, the eight rows before it, the eight rows after it, the
weights and the bias whole —, and the step's second coordinate. -/
theorem idx : ∀ t : Fin cfg0.N,
    win0_0.index t = ![t.val / 16, t.val % 16, 0]
    ∧ win0_1.index t = ![t.val / 16, t.val % 16 * 32 - 1, 0]
    ∧ win0_2.index t = ![t.val / 16, min ((t.val % 16 + 1) * 32) 511, 0]
    ∧ win0_3.index t = ![0, 0]
    ∧ win0_4.index t = ![0, 0]
    ∧ win0_5.index t = ![t.val / 16, t.val % 16, 0]
    ∧ win0_6.index t = ![t.val / 16, t.val % 16, 0]
    ∧ win0_7.index t = ![t.val / 16, t.val % 16, 0]
    ∧ (grid0.coords t 1).val = t.val % 16 :=
  (by decide +kernel : ∀ t : Fin grid0.N, _)

theorem points (t : Fin cfg0.N) : t.val < 64 := t.isLt

/-- The batch of a grid step, and the position of row `r` of its tile. -/
def batch (t : Fin cfg0.N) : Fin 4 := ⟨t.val / 16, by have := points t; omega⟩
def position (t : Fin cfg0.N) (r : Fin 256) : Fin 4096 := ⟨t.val % 16 * 256 + r.val, by omega⟩

/-- The three channels that a column of the results comes from. -/
def first (k : Fin 512) : Fin 1536 := ⟨k.val, by omega⟩
def second (k : Fin 512) : Fin 1536 := ⟨512 + k.val, by omega⟩
def third (k : Fin 512) : Fin 1536 := ⟨1024 + k.val, by omega⟩

/-- Three neighbours, weighed and added to the bias. -/
def taps (a b c u v w bias : EReal) : EReal := bias + a * u + b * v + c * w

/-- The entry before, and the entry after, zero past the ends. -/
def before (z : Fin 4096 → EReal) (l : Fin 4096) : EReal := if l.val = 0 then 0 else z ⟨l.val - 1, by omega⟩
def after (z : Fin 4096 → EReal) (l : Fin 4096) : EReal := if h : l.val = 4095 then 0 else z ⟨l.val + 1, by omega⟩

/-- One entry of the convolution of the whole array. -/
def convAt (z : Vec Ideal S4x4096x1536 .f32) (w : Vec Ideal S3x1536 .f32) (b : Vec Ideal S1536 .f32) (p : Fin 4) (l : Fin 4096) (k : Fin 1536) : EReal :=
  taps (before (fun l => z (ix3 p l k)) l) (z (ix3 p l k)) (after (fun l => z (ix3 p l k)) l) (w (ix2 0 k)) (w (ix2 1 k)) (w (ix2 2 k)) (b (ix1 k))

/-! What a grid step computes, from its blocks. -/

/-- The entry before row `r` of a tile, in the tile or in the last row of the eight before it; and the entry after it. -/
def left (i : grid0.Coords) (x0 : Vec Ideal S1x256x1536 .f32) (x1 : Vec Ideal S1x8x1536 .f32) (r : Fin 256) (k : Fin 1536) : EReal :=
  if r.val = 0 then (if 0 < (i 1).val then x1 (ix3 0 7 k) else 0) else x0 (ix3 0 ⟨r.val - 1, by omega⟩ k)
def right (i : grid0.Coords) (x0 : Vec Ideal S1x256x1536 .f32) (x2 : Vec Ideal S1x8x1536 .f32) (r : Fin 256) (k : Fin 1536) : EReal :=
  if h : r.val = 255 then (if (i 1).val < 15 then x2 (ix3 0 0 k) else 0) else x0 (ix3 0 ⟨r.val + 1, by omega⟩ k)

theorem coord (i : grid0.Coords) : (i 1).val < 16 := (i 1).isLt

theorem select_if (p : Prop) [Decidable p] (a b : EReal) : Scalar.select (BitVec.ofBool (decide p)) a b = if p then a else b := by
  by_cases h : p <;> simp [h, Scalar.select]

theorem left_at (i : grid0.Coords) (x0 : Vec Ideal S1x256x1536 .f32) (x1 x2 : Vec Ideal S1x8x1536 .f32) (x3 : Vec Ideal S3x1536 .f32) (x4 : Vec Ideal S1x1536 .f32) (r : Fin 256) (k : Fin 1536) :
    @Eq EReal (k0_pay11 i x0 x1 x2 x3 x4 (ix2 r k)) (x4 (ix2 0 k) + left i x0 x1 r k * x3 (ix2 0 k)) := by
  have hi := coord i
  have e : @Eq EReal (k0_pay11 i x0 x1 x2 x3 x4 (ix2 r k)) (x4 (ix2 0 k) +
      Scalar.select (IntOp.cmpi CmpIPredicate.eq (BitVec.ofNat 32 r.val) 0#32)
          (Scalar.select (IntOp.cmpi CmpIPredicate.sgt (BitVec.ofNat 32 (i 1).val) 0#32) (x1 (ix3 0 7 k)) 0)
          (x0 (ix3 0 ⟨(r.val + 256 - 1) % 256, by omega⟩ k)) * x3 (ix2 0 k)) := by
    pointwise [k0_pay11, k0_pay8, k0_pay6]
    rfl
  refine e.trans ?_
  unfold left
  rw [show (0#32 : BitVec 32) = BitVec.ofNat 32 0 from rfl, WordCmp.cmpi_eq_ofNat (by omega) (by omega), WordCmp.cmpi_sgt_ofNat (by omega) (by omega), select_if, select_if]
  by_cases h : r.val = 0
  · simp only [h, if_true]
  · simp only [h, if_false]
    exact congrArg (fun l => x4 (ix2 0 k) + x0 (ix3 0 l k) * x3 (ix2 0 k)) (Fin.ext (by show (r.val + 256 - 1) % 256 = r.val - 1; omega))

theorem right_at (i : grid0.Coords) (x0 : Vec Ideal S1x256x1536 .f32) (x1 x2 : Vec Ideal S1x8x1536 .f32) (x3 : Vec Ideal S3x1536 .f32) (x4 : Vec Ideal S1x1536 .f32) (r : Fin 256) (k : Fin 1536) :
    @Eq EReal (k0_pay10 i x0 x1 x2 x3 x4 (ix2 r k)) (right i x0 x2 r k) := by
  have hi := coord i
  have e : @Eq EReal (k0_pay10 i x0 x1 x2 x3 x4 (ix2 r k)) (
      Scalar.select (IntOp.cmpi CmpIPredicate.eq (BitVec.ofNat 32 r.val) 255#32)
          (Scalar.select (IntOp.cmpi CmpIPredicate.slt (BitVec.ofNat 32 (i 1).val) 15#32) (x2 (ix3 0 0 k)) 0)
          (x0 (ix3 0 ⟨(r.val + 256 - 255) % 256, by omega⟩ k))) := by
    pointwise [k0_pay10, k0_pay7, k0_pay6]
    rfl
  refine e.trans ?_
  unfold right
  rw [show (255#32 : BitVec 32) = BitVec.ofNat 32 255 from rfl, show (15#32 : BitVec 32) = BitVec.ofNat 32 15 from rfl, WordCmp.cmpi_eq_ofNat (by omega) (by omega), WordCmp.cmpi_slt_ofNat (by omega) (by omega), select_if, select_if]
  by_cases h : r.val = 255
  · simp only [h, if_true, dif_pos]
  · simp only [h, if_false, dif_neg, not_false_eq_true]
    exact congrArg (fun l => x0 (ix3 0 l k)) (Fin.ext (by show (r.val + 256 - 255) % 256 = r.val + 1; omega))

/-- The convolution of a tile. -/
def tileAt (i : grid0.Coords) (x0 : Vec Ideal S1x256x1536 .f32) (x1 x2 : Vec Ideal S1x8x1536 .f32) (x3 : Vec Ideal S3x1536 .f32) (x4 : Vec Ideal S1x1536 .f32) (r : Fin 256) (k : Fin 1536) : EReal :=
  taps (left i x0 x1 r k) (x0 (ix3 0 r k)) (right i x0 x2 r k) (x3 (ix2 0 k)) (x3 (ix2 1 k)) (x3 (ix2 2 k)) (x4 (ix2 0 k))

theorem tile_at (i : grid0.Coords) (x0 : Vec Ideal S1x256x1536 .f32) (x1 x2 : Vec Ideal S1x8x1536 .f32) (x3 : Vec Ideal S3x1536 .f32) (x4 : Vec Ideal S1x1536 .f32) (r : Fin 256) (k : Fin 1536) :
    @Eq EReal (k0_pay1 (k0_pay10 i x0 x1 x2 x3 x4) (k0_pay11 i x0 x1 x2 x3 x4) (k0_pay12 i x0 x1 x2 x3 x4) (View.ld x3 r0_6) (ix2 r k)) (tileAt i x0 x1 x2 x3 x4 r k) := by
  have e : ∀ (u v : FVec Ideal S256x1536 .f32), @Eq EReal (k0_pay1 u v (k0_pay12 i x0 x1 x2 x3 x4) (View.ld x3 r0_6) (ix2 r k))
      (v (ix2 r k) + x0 (ix3 0 r k) * x3 (ix2 1 k) + u (ix2 r k) * x3 (ix2 2 k)) := by
    intro u v
    pointwise [k0_pay1, k0_pay12, k0_pay9, k0_pay6]
  refine (e _ _).trans ?_
  rw [left_at, right_at]
  rfl

/-- What a grid step stores. -/
theorem block_x (i : grid0.Coords) (x0 : Vec Ideal S1x256x1536 .f32) (x1 x2 : Vec Ideal S1x8x1536 .f32) (x3 : Vec Ideal S3x1536 .f32) (x4 : Vec Ideal S1x1536 .f32) (r : Fin 256) (k : Fin 512) :
    @Eq EReal (out0_5 i x0 x1 x2 x3 x4 (ix3 0 r k)) (tileAt i x0 x1 x2 x3 x4 r (first k)) := by
  unfold out0_5
  frame_out
  refine Eq.trans ?_ (tile_at i x0 x1 x2 x3 x4 r (first k))
  unfold k0_pay2
  generalize k0_pay1 (F := Ideal) _ _ _ _ = q
  pointwise [first]

theorem product_at (i : grid0.Coords) (x0 : Vec Ideal S1x256x1536 .f32) (x1 x2 : Vec Ideal S1x8x1536 .f32) (x3 : Vec Ideal S3x1536 .f32) (x4 : Vec Ideal S1x1536 .f32) (r : Fin 256) (k : Fin 512) :
    @Eq EReal (k0_pay3 (k0_pay10 i x0 x1 x2 x3 x4) (k0_pay11 i x0 x1 x2 x3 x4) (k0_pay12 i x0 x1 x2 x3 x4) (View.ld x3 r0_6) (ix2 r k)) (tileAt i x0 x1 x2 x3 x4 r (third k) * tileAt i x0 x1 x2 x3 x4 r (second k)) := by
  refine Eq.trans ?_ (congr (congrArg HMul.hMul (tile_at i x0 x1 x2 x3 x4 r (third k))) (tile_at i x0 x1 x2 x3 x4 r (second k)))
  unfold k0_pay3
  generalize k0_pay1 (F := Ideal) _ _ _ _ = q
  pointwise [second, third]

theorem block_v (i : grid0.Coords) (x0 : Vec Ideal S1x256x1536 .f32) (x1 x2 : Vec Ideal S1x8x1536 .f32) (x3 : Vec Ideal S3x1536 .f32) (x4 : Vec Ideal S1x1536 .f32) (r : Fin 256) (k : Fin 512) :
    @Eq EReal (out0_6 i x0 x1 x2 x3 x4 (ix3 0 r k)) (tileAt i x0 x1 x2 x3 x4 r (third k) * tileAt i x0 x1 x2 x3 x4 r (second k)) := by
  unfold out0_6
  frame_out
  refine Eq.trans ?_ (product_at i x0 x1 x2 x3 x4 r k)
  unfold k0_pay4
  generalize k0_pay3 (F := Ideal) _ _ _ _ = q
  pointwise []

theorem block_b (i : grid0.Coords) (x0 : Vec Ideal S1x256x1536 .f32) (x1 x2 : Vec Ideal S1x8x1536 .f32) (x3 : Vec Ideal S3x1536 .f32) (x4 : Vec Ideal S1x1536 .f32) (r : Fin 256) (k : Fin 512) :
    @Eq EReal (out0_7 i x0 x1 x2 x3 x4 (ix3 0 r k)) (tileAt i x0 x1 x2 x3 x4 r (third k) * tileAt i x0 x1 x2 x3 x4 r (second k)) := by
  unfold out0_7
  frame_out
  refine Eq.trans ?_ (product_at i x0 x1 x2 x3 x4 r k)
  unfold k0_pay5
  generalize k0_pay3 (F := Ideal) _ _ _ _ = q
  pointwise []

variable (m : (ℓ : Loc nD τ sig) → Buf (Elt Ideal) ℓ) (c : Dev nD)

theorem z_at (t : Fin cfg0.N) (z : Vec Ideal S4x4096x1536 .f32) (hz : m ((c : Thread nD τ).loc main_arg0) = z) (r : Fin 256) (k : Fin 1536) :
    @Eq EReal (iblk m c 0 t (ix3 0 r k)) (z (ix3 (batch t) (position t r) k)) := by
  have e1 : iblk m c 0 t (ix3 0 r k) = Gen.V m c main_arg0 (ix3 (batch t) (position t r) k) := by blk_ext [iblk, idx t, batch, position]
  subst hz
  exact e1.trans (congrFun (V_main_arg0 m c) _)

/-- The last of the eight rows before the tile, and the first of the eight after it. -/
theorem prev_at (t : Fin cfg0.N) (z : Vec Ideal S4x4096x1536 .f32) (hz : m ((c : Thread nD τ).loc main_arg0) = z) (h : 0 < t.val % 16) (k : Fin 1536) :
    @Eq EReal (iblk m c 1 t (ix3 0 7 k)) (z (ix3 (batch t) ⟨t.val % 16 * 256 - 1, by omega⟩ k)) := by
  have hp : (t.val % 16 * 32 - 1) * 8 + 7 = t.val % 16 * 256 - 1 := by omega
  have e1 : iblk m c 1 t (ix3 0 7 k) = Gen.V m c main_arg0 (ix3 (batch t) ⟨t.val % 16 * 256 - 1, by omega⟩ k) := by blk_ext [iblk, idx t, batch, hp]
  subst hz
  exact e1.trans (congrFun (V_main_arg0 m c) _)

theorem next_at (t : Fin cfg0.N) (z : Vec Ideal S4x4096x1536 .f32) (hz : m ((c : Thread nD τ).loc main_arg0) = z) (h : t.val % 16 < 15) (k : Fin 1536) :
    @Eq EReal (iblk m c 2 t (ix3 0 0 k)) (z (ix3 (batch t) ⟨(t.val % 16 + 1) * 256, by omega⟩ k)) := by
  have hp : min ((t.val % 16 + 1) * 32) 511 * 8 = (t.val % 16 + 1) * 256 := by omega
  have e1 : iblk m c 2 t (ix3 0 0 k) = Gen.V m c main_arg0 (ix3 (batch t) ⟨(t.val % 16 + 1) * 256, by omega⟩ k) := by blk_ext [iblk, idx t, batch, hp]
  subst hz
  exact e1.trans (congrFun (V_main_arg0 m c) _)

theorem w_at (t : Fin cfg0.N) (w : Vec Ideal S3x1536 .f32) (hw : m ((c : Thread nD τ).loc main_arg1) = w) (j : Fin 3) (k : Fin 1536) :
    @Eq EReal (iblk m c 3 t (ix2 j k)) (w (ix2 j k)) := by
  have e1 : iblk m c 3 t (ix2 j k) = Gen.V m c main_arg1 (ix2 j k) := by blk_ext [iblk, idx t]
  subst hw
  exact e1.trans (congrFun (V_main_arg1 m c) _)

theorem b_at (t : Fin cfg0.N) (b : Vec Ideal S1536 .f32) (hb : m ((c : Thread nD τ).loc main_arg2) = b) (k : Fin 1536) :
    @Eq EReal (iblk m c 4 t (ix2 0 k)) (b (ix1 k)) := by
  have e1 : iblk m c 4 t (ix2 0 k) = Gen.V m c main_v0 (ix2 0 k) := by blk_ext [iblk, idx t]
  refine Eq.trans e1 ?_
  subst hb
  simp only [Gen.V, hostOps0]
  entry_read
  pointwise []

theorem step (t : Fin cfg0.N) : (grid0.coords t 1).val = t.val % 16 := (idx t).2.2.2.2.2.2.2.2

theorem left_read (t : Fin cfg0.N) (z : Vec Ideal S4x4096x1536 .f32) (hz : m ((c : Thread nD τ).loc main_arg0) = z) (r : Fin 256) (k : Fin 1536) :
    left (grid0.coords t) (iblk m c 0 t) (iblk m c 1 t) r k = before (fun l => z (ix3 (batch t) l k)) (position t r) := by
  have hs := step t
  unfold left before
  by_cases hr : r.val = 0
  · rw [if_pos hr]
    by_cases ht : 0 < t.val % 16
    · rw [if_pos (by omega), if_neg (by unfold position; show ¬ (t.val % 16 * 256 + r.val = 0); omega)]
      refine (prev_at m c t z hz ht k).trans (congrArg (fun l => z (ix3 (batch t) l k)) (Fin.ext ?_))
      show t.val % 16 * 256 - 1 = t.val % 16 * 256 + r.val - 1
      omega
    · rw [if_neg (by omega), if_pos (by unfold position; show t.val % 16 * 256 + r.val = 0; omega)]
  · rw [if_neg hr, if_neg (by unfold position; show ¬ (t.val % 16 * 256 + r.val = 0); omega)]
    refine (z_at m c t z hz _ k).trans (congrArg (fun l => z (ix3 (batch t) l k)) (Fin.ext ?_))
    show t.val % 16 * 256 + (r.val - 1) = t.val % 16 * 256 + r.val - 1
    omega

theorem right_read (t : Fin cfg0.N) (z : Vec Ideal S4x4096x1536 .f32) (hz : m ((c : Thread nD τ).loc main_arg0) = z) (r : Fin 256) (k : Fin 1536) :
    right (grid0.coords t) (iblk m c 0 t) (iblk m c 2 t) r k = after (fun l => z (ix3 (batch t) l k)) (position t r) := by
  have hs := step t
  unfold right after
  by_cases hr : r.val = 255
  · rw [dif_pos hr]
    by_cases ht : t.val % 16 < 15
    · rw [if_pos (by omega), dif_neg (by unfold position; show ¬ (t.val % 16 * 256 + r.val = 4095); omega)]
      refine (next_at m c t z hz ht k).trans (congrArg (fun l => z (ix3 (batch t) l k)) (Fin.ext ?_))
      show (t.val % 16 + 1) * 256 = t.val % 16 * 256 + r.val + 1
      omega
    · rw [if_neg (by omega), dif_pos (by unfold position; show t.val % 16 * 256 + r.val = 4095; omega)]
  · rw [dif_neg hr, dif_neg (by unfold position; show ¬ (t.val % 16 * 256 + r.val = 4095); omega)]
    refine (z_at m c t z hz _ k).trans (congrArg (fun l => z (ix3 (batch t) l k)) (Fin.ext ?_))
    show t.val % 16 * 256 + (r.val + 1) = t.val % 16 * 256 + r.val + 1
    omega

/-- A tile's convolution is the whole array's there. -/
theorem tile_read (t : Fin cfg0.N) (z : Vec Ideal S4x4096x1536 .f32) (w : Vec Ideal S3x1536 .f32) (b : Vec Ideal S1536 .f32)
    (h0 : m ((c : Thread nD τ).loc main_arg0) = z) (h1 : m ((c : Thread nD τ).loc main_arg1) = w) (h2 : m ((c : Thread nD τ).loc main_arg2) = b) (r : Fin 256) (k : Fin 1536) :
    tileAt (grid0.coords t) (iblk m c 0 t) (iblk m c 1 t) (iblk m c 2 t) (iblk m c 3 t) (iblk m c 4 t) r k = convAt z w b (batch t) (position t r) k := by
  unfold tileAt convAt
  rw [left_read m c t z h0 r k, right_read m c t z h0 r k]
  exact congr (congr (congr (congr (congr (congrArg (taps _) (z_at m c t z h0 r k)) rfl) (w_at m c t w h1 0 k)) (w_at m c t w h1 1 k)) (w_at m c t w h1 2 k)) (b_at m c t b h2 k)

/-- The results as arrays: the first third of the channels, and the product of the other two. -/
def gateEntries (z : Vec Ideal S4x4096x1536 .f32) (w : Vec Ideal S3x1536 .f32) (b : Vec Ideal S1536 .f32) (i : S4x4096x512.Idx) : EReal :=
  convAt z w b ⟨(i 0).val, (i 0).isLt⟩ ⟨(i 1).val, (i 1).isLt⟩ (first ⟨(i 2).val, (i 2).isLt⟩)
def productEntries (z : Vec Ideal S4x4096x1536 .f32) (w : Vec Ideal S3x1536 .f32) (b : Vec Ideal S1536 .f32) (i : S4x4096x512.Idx) : EReal :=
  convAt z w b ⟨(i 0).val, (i 0).isLt⟩ ⟨(i 1).val, (i 1).isLt⟩ (third ⟨(i 2).val, (i 2).isLt⟩) * convAt z w b ⟨(i 0).val, (i 0).isLt⟩ ⟨(i 1).val, (i 1).isLt⟩ (second ⟨(i 2).val, (i 2).isLt⟩)

theorem final_x (z : Vec Ideal S4x4096x1536 .f32) (w : Vec Ideal S3x1536 .f32) (b : Vec Ideal S1536 .f32)
    (h0 : m ((c : Thread nD τ).loc main_arg0) = z) (h1 : m ((c : Thread nD τ).loc main_arg1) = w) (h2 : m ((c : Thread nD τ).loc main_arg2) = b) :
    (dats m 0 c).arrAt 5 cfg0.N = (gateEntries z w b : Vec Ideal S4x4096x512 .f32) := by
  refine (dats m 0 c).arrAt_eq_of_covers 5 _ (by decide +kernel) fun t _ i => ?_
  blk_simp
  rw [after0_5]
  have hi0 : (i 0).val < 1 := (i 0).isLt
  have ei : i = ix3 0 ⟨(i 1).val, (i 1).isLt⟩ ⟨(i 2).val, (i 2).isLt⟩ := by
    funext d
    fin_cases d
    · exact Fin.ext (by show (i 0).val = 0; omega)
    · rfl
    · rfl
  rw [ei]
  refine (block_x _ _ _ _ _ _ _ _).trans ?_
  refine Eq.trans (tile_read m c t z w b h0 h1 h2 _ _) ?_
  have ht := points t
  have hi1 : (i 1).val < 256 := (i 1).isLt
  have hi2 : (i 2).val < 512 := (i 2).isLt
  unfold gateEntries
  blk_simp [idx t, batch, position]
  rfl

theorem final_v (z : Vec Ideal S4x4096x1536 .f32) (w : Vec Ideal S3x1536 .f32) (b : Vec Ideal S1536 .f32)
    (h0 : m ((c : Thread nD τ).loc main_arg0) = z) (h1 : m ((c : Thread nD τ).loc main_arg1) = w) (h2 : m ((c : Thread nD τ).loc main_arg2) = b) :
    (dats m 0 c).arrAt 6 cfg0.N = (productEntries z w b : Vec Ideal S4x4096x512 .f32) := by
  refine (dats m 0 c).arrAt_eq_of_covers 6 _ (by decide +kernel) fun t _ i => ?_
  blk_simp
  rw [after0_6]
  have hi0 : (i 0).val < 1 := (i 0).isLt
  have ei : i = ix3 0 ⟨(i 1).val, (i 1).isLt⟩ ⟨(i 2).val, (i 2).isLt⟩ := by
    funext d
    fin_cases d
    · exact Fin.ext (by show (i 0).val = 0; omega)
    · rfl
    · rfl
  rw [ei]
  refine (block_v _ _ _ _ _ _ _ _).trans ?_
  refine Eq.trans (congr (congrArg HMul.hMul (tile_read m c t z w b h0 h1 h2 _ _)) (tile_read m c t z w b h0 h1 h2 _ _)) ?_
  have ht := points t
  have hi1 : (i 1).val < 256 := (i 1).isLt
  have hi2 : (i 2).val < 512 := (i 2).isLt
  unfold productEntries
  blk_simp [idx t, batch, position]
  rfl

theorem final_b (z : Vec Ideal S4x4096x1536 .f32) (w : Vec Ideal S3x1536 .f32) (b : Vec Ideal S1536 .f32)
    (h0 : m ((c : Thread nD τ).loc main_arg0) = z) (h1 : m ((c : Thread nD τ).loc main_arg1) = w) (h2 : m ((c : Thread nD τ).loc main_arg2) = b) :
    (dats m 0 c).arrAt 7 cfg0.N = (productEntries z w b : Vec Ideal S4x4096x512 .bf16) := by
  refine (dats m 0 c).arrAt_eq_of_covers 7 _ (by decide +kernel) fun t _ i => ?_
  blk_simp
  rw [after0_7]
  have hi0 : (i 0).val < 1 := (i 0).isLt
  have ei : i = ix3 0 ⟨(i 1).val, (i 1).isLt⟩ ⟨(i 2).val, (i 2).isLt⟩ := by
    funext d
    fin_cases d
    · exact Fin.ext (by show (i 0).val = 0; omega)
    · rfl
    · rfl
  rw [ei]
  refine (block_b _ _ _ _ _ _ _ _).trans ?_
  refine Eq.trans (congr (congrArg HMul.hMul (tile_read m c t z w b h0 h1 h2 _ _)) (tile_read m c t z w b h0 h1 h2 _ _)) ?_
  have ht := points t
  have hi1 : (i 1).val < 256 := (i 1).isLt
  have hi2 : (i 2).val < 512 := (i 2).isLt
  unfold productEntries
  blk_simp [idx t, batch, position]
  rfl

/-- The reference's convolution of the padded array. -/
def conv (z : FVec Ideal S4x4096x1536 .f32) (w : FVec Ideal S3x1536 .f32) (b : FVec Ideal S1536 .f32) : FVec Ideal S4x4096x1536 .f32 :=
  addf (addf (addf (broadcastInDim Cert.Reference6Ideal.S4x4096x1536 ![0, 1, 2] Cert.Reference6Ideal.Facts₀.bcast_S1x1x1536_S4x4096x1536_0_1_2 (broadcastInDim Cert.Reference6Ideal.S1x1x1536 ![2] Cert.Reference6Ideal.Facts₀.bcast_S1536_S1x1x1536_2 b)) (mulf (extractStridedSlice Cert.Reference6Ideal.S4x4096x1536 ![0, 0, 0] (pad Cert.Reference6Ideal.S4x4098x1536 ![0, 1, 0] ![0, 1, 0] ![0, 0, 0] z (sitofp (F := Ideal) .f32 (constantI Cert.Reference6Ideal.S_ 32 0#32)) Cert.Reference6Ideal.Facts₀.pads_S4x4096x1536_S4x4098x1536_000_110_000 Cert.Reference6Ideal.Facts₀.h_S_) Cert.Reference6Ideal.Facts₀.slices_S4x4098x1536_S4x4096x1536_0_0_0) (broadcastInDim Cert.Reference6Ideal.S4x4096x1536 ![0, 1, 2] Cert.Reference6Ideal.Facts₀.bcast_S1x1x1536_S4x4096x1536_0_1_2 (broadcastInDim Cert.Reference6Ideal.S1x1x1536 ![2] Cert.Reference6Ideal.Facts₀.bcast_S1536_S1x1x1536_2 (shapeCast Cert.Reference6Ideal.S1536 (extractStridedSlice Cert.Reference6Ideal.S1x1536 ![0, 0] w Cert.Reference6Ideal.Facts₀.slices_S3x1536_S1x1536_0_0) Cert.Reference6Ideal.Facts₀.shapeCasts_S1x1536_S1536))))) (mulf (extractStridedSlice Cert.Reference6Ideal.S4x4096x1536 ![0, 1, 0] (pad Cert.Reference6Ideal.S4x4098x1536 ![0, 1, 0] ![0, 1, 0] ![0, 0, 0] z (sitofp (F := Ideal) .f32 (constantI Cert.Reference6Ideal.S_ 32 0#32)) Cert.Reference6Ideal.Facts₀.pads_S4x4096x1536_S4x4098x1536_000_110_000 Cert.Reference6Ideal.Facts₀.h_S_) Cert.Reference6Ideal.Facts₀.slices_S4x4098x1536_S4x4096x1536_0_1_0) (broadcastInDim Cert.Reference6Ideal.S4x4096x1536 ![0, 1, 2] Cert.Reference6Ideal.Facts₀.bcast_S1x1x1536_S4x4096x1536_0_1_2 (broadcastInDim Cert.Reference6Ideal.S1x1x1536 ![2] Cert.Reference6Ideal.Facts₀.bcast_S1536_S1x1x1536_2 (shapeCast Cert.Reference6Ideal.S1536 (extractStridedSlice Cert.Reference6Ideal.S1x1536 ![1, 0] w Cert.Reference6Ideal.Facts₀.slices_S3x1536_S1x1536_1_0) Cert.Reference6Ideal.Facts₀.shapeCasts_S1x1536_S1536))))) (mulf (extractStridedSlice Cert.Reference6Ideal.S4x4096x1536 ![0, 2, 0] (pad Cert.Reference6Ideal.S4x4098x1536 ![0, 1, 0] ![0, 1, 0] ![0, 0, 0] z (sitofp (F := Ideal) .f32 (constantI Cert.Reference6Ideal.S_ 32 0#32)) Cert.Reference6Ideal.Facts₀.pads_S4x4096x1536_S4x4098x1536_000_110_000 Cert.Reference6Ideal.Facts₀.h_S_) Cert.Reference6Ideal.Facts₀.slices_S4x4098x1536_S4x4096x1536_0_2_0) (broadcastInDim Cert.Reference6Ideal.S4x4096x1536 ![0, 1, 2] Cert.Reference6Ideal.Facts₀.bcast_S1x1x1536_S4x4096x1536_0_1_2 (broadcastInDim Cert.Reference6Ideal.S1x1x1536 ![2] Cert.Reference6Ideal.Facts₀.bcast_S1536_S1x1x1536_2 (shapeCast Cert.Reference6Ideal.S1536 (extractStridedSlice Cert.Reference6Ideal.S1x1536 ![2, 0] w Cert.Reference6Ideal.Facts₀.slices_S3x1536_S1x1536_2_0) Cert.Reference6Ideal.Facts₀.shapeCasts_S1x1536_S1536))))

theorem conv_entry (z : Vec Ideal S4x4096x1536 .f32) (w : Vec Ideal S3x1536 .f32) (b : Vec Ideal S1536 .f32) (p : Fin 4) (l : Fin 4096) (k : Fin 1536) :
    @Eq EReal (conv z w b (ix3 p l k)) (convAt z w b p l k) := by
  have hz : (FloatOps.sitofp FTy.f32 0#32 : Ideal .f32) = (0 : EReal) := Idealize.ShloMosaic.sitofp_zero (φ := .f32)
  have e : @Eq EReal (conv z w b (ix3 p l k)) (taps (if h : 1 ≤ l.val ∧ l.val - 1 < 4096 then z (ix3 p ⟨l.val - 1, by omega⟩ k) else (FloatOps.sitofp FTy.f32 0#32 : Ideal .f32))
      (z (ix3 p l k)) (if h : 1 ≤ 2 + l.val ∧ 2 + l.val - 1 < 4096 then z (ix3 p ⟨2 + l.val - 1, by omega⟩ k) else (FloatOps.sitofp FTy.f32 0#32 : Ideal .f32)) (w (ix2 0 k)) (w (ix2 1 k)) (w (ix2 2 k)) (b (ix1 k))) := by
    unfold taps
    pointwise [conv]
  refine e.trans ?_
  rw [hz]
  unfold convAt before after
  congr 1
  · by_cases h : l.val = 0
    · rw [dif_neg (by omega), if_pos h]
    · rw [dif_pos (by omega), if_neg h]
  · by_cases h : l.val = 4095
    · rw [dif_neg (by omega), dif_pos h]
    · rw [dif_pos (by omega), dif_neg h]
      exact congrArg (fun l => z (ix3 p l k)) (Fin.ext (by show 2 + l.val - 1 = l.val + 1; omega))

def result_x (q : FVec Ideal S4x4096x1536 .f32) : FVec Ideal S4x4096x512 .f32 := extractStridedSlice Cert.Reference6Ideal.S4x4096x512 ![0, 0, 0] q Cert.Reference6Ideal.Facts₀.slices_S4x4096x1536_S4x4096x512_0_0_0

theorem reference_x (z : Vec Ideal S4x4096x1536 .f32) (w : Vec Ideal S3x1536 .f32) (b : Vec Ideal S1536 .f32) :
    result_x (conv z w b) = (gateEntries z w b : Vec Ideal S4x4096x512 .f32) := by
  have e : ∀ (q : FVec Ideal S4x4096x1536 .f32) (p : Fin 4) (l : Fin 4096) (k : Fin 512), @Eq EReal (result_x q (ix3 p l k)) (q (ix3 p l (first k))) := by
    intro q p l k
    pointwise [result_x, first]
  funext i
  have ei : i = ix3 ⟨(i 0).val, (i 0).isLt⟩ ⟨(i 1).val, (i 1).isLt⟩ ⟨(i 2).val, (i 2).isLt⟩ := by
    funext d
    fin_cases d <;> rfl
  rw [ei]
  exact (e _ _ _ _).trans (conv_entry _ _ _ _ _ _)

def result_v (q : FVec Ideal S4x4096x1536 .f32) : FVec Ideal S4x4096x512 .f32 := mulf (extractStridedSlice Cert.Reference6Ideal.S4x4096x512 ![0, 0, 1024] q Cert.Reference6Ideal.Facts₀.slices_S4x4096x1536_S4x4096x512_0_0_1024) (extractStridedSlice Cert.Reference6Ideal.S4x4096x512 ![0, 0, 512] q Cert.Reference6Ideal.Facts₀.slices_S4x4096x1536_S4x4096x512_0_0_512)

theorem reference_v (z : Vec Ideal S4x4096x1536 .f32) (w : Vec Ideal S3x1536 .f32) (b : Vec Ideal S1536 .f32) :
    result_v (conv z w b) = (productEntries z w b : Vec Ideal S4x4096x512 .f32) := by
  have e : ∀ (q : FVec Ideal S4x4096x1536 .f32) (p : Fin 4) (l : Fin 4096) (k : Fin 512), @Eq EReal (result_v q (ix3 p l k)) (q (ix3 p l (third k)) * q (ix3 p l (second k))) := by
    intro q p l k
    pointwise [result_v, second, third]
  funext i
  have ei : i = ix3 ⟨(i 0).val, (i 0).isLt⟩ ⟨(i 1).val, (i 1).isLt⟩ ⟨(i 2).val, (i 2).isLt⟩ := by
    funext d
    fin_cases d <;> rfl
  rw [ei]
  exact (e _ _ _ _).trans (congr (congrArg HMul.hMul (conv_entry _ _ _ _ _ _)) (conv_entry _ _ _ _ _ _))

def result_b (q : FVec Ideal S4x4096x1536 .f32) : FVec Ideal S4x4096x512 .bf16 := truncf .bf16 (mulf (extractStridedSlice Cert.Reference6Ideal.S4x4096x512 ![0, 0, 1024] q Cert.Reference6Ideal.Facts₀.slices_S4x4096x1536_S4x4096x512_0_0_1024) (extractStridedSlice Cert.Reference6Ideal.S4x4096x512 ![0, 0, 512] q Cert.Reference6Ideal.Facts₀.slices_S4x4096x1536_S4x4096x512_0_0_512)) Cert.Reference6Ideal.Facts₀.bitsLt_bf16_f32

theorem reference_b (z : Vec Ideal S4x4096x1536 .f32) (w : Vec Ideal S3x1536 .f32) (b : Vec Ideal S1536 .f32) :
    result_b (conv z w b) = (productEntries z w b : Vec Ideal S4x4096x512 .bf16) := by
  have e : ∀ (q : FVec Ideal S4x4096x1536 .f32) (p : Fin 4) (l : Fin 4096) (k : Fin 512), @Eq EReal (result_b q (ix3 p l k)) (q (ix3 p l (third k)) * q (ix3 p l (second k))) := by
    intro q p l k
    pointwise [result_b, second, third]
  funext i
  have ei : i = ix3 ⟨(i 0).val, (i 0).isLt⟩ ⟨(i 1).val, (i 1).isLt⟩ ⟨(i 2).val, (i 2).isLt⟩ := by
    funext d
    fin_cases d <;> rfl
  rw [ei]
  exact (e _ _ _ _).trans (congr (congrArg HMul.hMul (conv_entry _ _ _ _ _ _)) (conv_entry _ _ _ _ _ _))

theorem conv_value : Cert.algebraic_Kernel6Ideal_Reference6Ideal (hKernel6Ideal := Cert.Kernel6Ideal.Gen.facts) (hReference6Ideal := Cert.Reference6Ideal.Gen.facts) := by
  intro m g m' g' hpre hagree
  refine ⟨_, _, _, (θ_run Cert.Kernel6Ideal.defs _ _).mono (fun r h c => ⟨(h c).1.trans (final_x m c _ _ _ rfl rfl rfl), (h c).2.1.trans (final_v m c _ _ _ rfl rfl rfl),
      (h c).2.2.1.trans (final_b m c _ _ _ rfl rfl rfl), (h c).2.2.2⟩) (Cert.Kernel6Ideal.Value.run_blocks m g),
    (θ_run Cert.Reference6Ideal.defs _ _).mono (fun r h c => ⟨(h c).1.trans ?_, (h c).2.1.trans ?_, (h c).2.2.1.trans ?_, (h c).2.2.2⟩) (Cert.Reference6Ideal.Value.run m' g')⟩
  all_goals
    obtain ⟨h0, h1, h2⟩ := hagree c
    rw [h0, h1, h2]
  · exact reference_x _ _ _
  · exact reference_v _ _ _
  · exact reference_b _ _ _

end Cert.ShortConv

end
-- ==== Proof.HyenaGate.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.HyenaGate

open Cert.Kernel7Ideal Cert.Kernel7Ideal.Gen Idealize.ShloMosaic Idealize.ShloMosaic.TcCoe Idealize.SL.Sem

/-! The gate that closes the convolution branch. -/

/-- Which block of each operand a grid step sees: the rows' tile `t`, the bias whole. -/
theorem idx : ∀ t : Fin cfg0.N,
    win0_0.index t = ![t.val, 0]
    ∧ win0_1.index t = ![t.val, 0]
    ∧ win0_2.index t = ![t.val, 0]
    ∧ win0_3.index t = ![0, 0]
    ∧ win0_4.index t = ![t.val, 0] :=
  (by decide +kernel : ∀ t : Fin grid0.N, _)

theorem points (t : Fin cfg0.N) : t.val < 16 := t.isLt

/-- The batch and the position of a flattened row, and the row `r` of tile `t`. -/
def batch (p : Fin 16384) : Fin 4 := ⟨p.val / 4096, by omega⟩
def position (p : Fin 16384) : Fin 4096 := ⟨p.val % 4096, by omega⟩
def row (t : Fin cfg0.N) (r : Fin 1024) : Fin 16384 := ⟨t.val * 1024 + r.val, by have := points t; omega⟩

/-- One entry of the result. -/
def gateAt (y v x b : EReal) : EReal := (y + v * b) * x

variable (m : (ℓ : Loc nD τ sig) → Buf (Elt Ideal) ℓ) (c : Dev nD)

theorem y_at (t : Fin cfg0.N) (a : Vec Ideal S4x4096x512 .f32) (ha : m ((c : Thread nD τ).loc main_arg0) = a) (r : Fin 1024) (k : Fin 512) :
    @Eq EReal (iblk m c 0 t (ix2 r k)) (a (ix3 (batch (row t r)) (position (row t r)) k)) := by
  have e1 : iblk m c 0 t (ix2 r k) = Gen.V m c main_v0 (ix2 (row t r) k) := by blk_ext [iblk, idx t, row]
  refine Eq.trans e1 ?_
  generalize row t r = p
  subst ha
  simp only [Gen.V, hostOps0]
  entry_read
  pointwise [batch, position]

theorem v_at (t : Fin cfg0.N) (a : Vec Ideal S4x4096x512 .f32) (ha : m ((c : Thread nD τ).loc main_arg1) = a) (r : Fin 1024) (k : Fin 512) :
    @Eq EReal (iblk m c 1 t (ix2 r k)) (a (ix3 (batch (row t r)) (position (row t r)) k)) := by
  have e1 : iblk m c 1 t (ix2 r k) = Gen.V m c main_v1 (ix2 (row t r) k) := by blk_ext [iblk, idx t, row]
  refine Eq.trans e1 ?_
  generalize row t r = p
  subst ha
  simp only [Gen.V, hostOps0]
  entry_read
  pointwise [batch, position]

theorem x_at (t : Fin cfg0.N) (a : Vec Ideal S4x4096x512 .f32) (ha : m ((c : Thread nD τ).loc main_arg2) = a) (r : Fin 1024) (k : Fin 512) :
    @Eq EReal (iblk m c 2 t (ix2 r k)) (a (ix3 (batch (row t r)) (position (row t r)) k)) := by
  have e1 : iblk m c 2 t (ix2 r k) = Gen.V m c main_v2 (ix2 (row t r) k) := by blk_ext [iblk, idx t, row]
  refine Eq.trans e1 ?_
  generalize row t r = p
  subst ha
  simp only [Gen.V, hostOps0]
  entry_read
  pointwise [batch, position]

theorem b_at (t : Fin cfg0.N) (a : Vec Ideal S512 .f32) (ha : m ((c : Thread nD τ).loc main_arg3) = a) (k : Fin 512) :
    @Eq EReal (iblk m c 3 t (ix2 0 k)) (a (ix1 k)) := by
  have e1 : iblk m c 3 t (ix2 0 k) = Gen.V m c main_v3 (ix2 0 k) := by blk_ext [iblk, idx t]
  refine Eq.trans e1 ?_
  subst ha
  simp only [Gen.V, hostOps0]
  entry_read
  pointwise []

/-- What a grid step stores. -/
theorem block (x0 x1 x2 : Vec Ideal S1024x512 .f32) (x3 : Vec Ideal S1x512 .f32) (r : Fin 1024) (n : Fin 512) :
    @Eq EReal (out0_4 x0 x1 x2 x3 (ix2 r n)) (gateAt (x0 (ix2 r n)) (x1 (ix2 r n)) (x2 (ix2 r n)) (x3 (ix2 0 n))) := by
  unfold out0_4
  frame_out
  unfold gateAt
  pointwise [k0_pay1]

/-- The result as an array. -/
def entries (y v x : Vec Ideal S4x4096x512 .f32) (b : Vec Ideal S512 .f32) : Vec Ideal S16384x512 .bf16 :=
  fun i => gateAt (y (ix3 (batch ⟨(i 0).val, (i 0).isLt⟩) (position ⟨(i 0).val, (i 0).isLt⟩) ⟨(i 1).val, (i 1).isLt⟩))
    (v (ix3 (batch ⟨(i 0).val, (i 0).isLt⟩) (position ⟨(i 0).val, (i 0).isLt⟩) ⟨(i 1).val, (i 1).isLt⟩))
    (x (ix3 (batch ⟨(i 0).val, (i 0).isLt⟩) (position ⟨(i 0).val, (i 0).isLt⟩) ⟨(i 1).val, (i 1).isLt⟩)) (b (ix1 ⟨(i 1).val, (i 1).isLt⟩))

theorem final (y v x : Vec Ideal S4x4096x512 .f32) (b : Vec Ideal S512 .f32)
    (h0 : m ((c : Thread nD τ).loc main_arg0) = y) (h1 : m ((c : Thread nD τ).loc main_arg1) = v) (h2 : m ((c : Thread nD τ).loc main_arg2) = x)
    (h3 : m ((c : Thread nD τ).loc main_arg3) = b) :
    (dats m 0 c).arrAt 4 cfg0.N = entries y v x b := by
  refine (dats m 0 c).arrAt_eq_of_covers 4 _ (by decide +kernel) fun t _ i => ?_
  blk_simp
  rw [after0_4]
  have ei : i = ix2 ⟨(i 0).val, (i 0).isLt⟩ ⟨(i 1).val, (i 1).isLt⟩ := by
    funext d
    fin_cases d <;> rfl
  rw [ei]
  refine (block _ _ _ _ _ _).trans ?_
  unfold entries
  refine Eq.trans (congr (congr (congr (congrArg gateAt (y_at m c t y h0 _ _)) (v_at m c t v h1 _ _)) (x_at m c t x h2 _ _)) (b_at m c t b h3 _)) ?_
  have ht := points t
  have hi0 : (i 0).val < 1024 := (i 0).isLt
  have hi1 : (i 1).val < 512 := (i 1).isLt
  blk_simp [idx t, row, batch, position]
  rfl

/-- The reference's result. -/
def gated (y v x : FVec Ideal S4x4096x512 .f32) (b : FVec Ideal S512 .f32) : FVec Ideal S16384x512 .bf16 :=
  truncf .bf16 (shapeCast Cert.Reference7Ideal.S16384x512 (mulf (addf y (mulf v (broadcastInDim Cert.Reference7Ideal.S4x4096x512 ![0, 1, 2] Cert.Reference7Ideal.Facts₀.bcast_S1x1x512_S4x4096x512_0_1_2 (broadcastInDim Cert.Reference7Ideal.S1x1x512 ![2] Cert.Reference7Ideal.Facts₀.bcast_S512_S1x1x512_2 b)))) x) Cert.Reference7Ideal.Facts₀.shapeCasts_S4x4096x512_S16384x512) Cert.Reference7Ideal.Facts₀.bitsLt_bf16_f32

theorem gated_entry (y v x : Vec Ideal S4x4096x512 .f32) (b : Vec Ideal S512 .f32) (p : Fin 16384) (k : Fin 512) :
    @Eq EReal (gated y v x b (ix2 p k)) (gateAt (y (ix3 (batch p) (position p) k)) (v (ix3 (batch p) (position p) k)) (x (ix3 (batch p) (position p) k)) (b (ix1 k))) := by
  unfold gateAt
  pointwise [gated, batch, position]

theorem reference_entries (y v x : Vec Ideal S4x4096x512 .f32) (b : Vec Ideal S512 .f32) : gated y v x b = entries y v x b := by
  funext i
  have ei : i = ix2 ⟨(i 0).val, (i 0).isLt⟩ ⟨(i 1).val, (i 1).isLt⟩ := by
    funext d
    fin_cases d <;> rfl
  rw [ei]
  exact gated_entry _ _ _ _ _ _

theorem gate_value : Cert.algebraic_Kernel7Ideal_Reference7Ideal (hKernel7Ideal := Cert.Kernel7Ideal.Gen.facts) (hReference7Ideal := Cert.Reference7Ideal.Gen.facts) := by
  intro m g m' g' hpre hagree
  refine ⟨_, (θ_run Cert.Kernel7Ideal.defs _ _).mono (fun r h c => ⟨((h c).1.trans (final m c _ _ _ _ rfl rfl rfl rfl)), (h c).2⟩) (Cert.Kernel7Ideal.Value.run_blocks m g),
    (θ_run Cert.Reference7Ideal.defs _ _).mono (fun r h c => ⟨(h c).1.trans ?_, (h c).2⟩) (Cert.Reference7Ideal.Value.run m' g')⟩
  obtain ⟨h0, h1, h2, h3⟩ := hagree c
  rw [h0, h1, h2, h3]
  have e := reference_entries (m ((c : Thread nD τ).loc main_arg0)) (m ((c : Thread nD τ).loc main_arg1)) (m ((c : Thread nD τ).loc main_arg2)) (m ((c : Thread nD τ).loc main_arg3))
  unfold gated at e
  exact e

end Cert.HyenaGate

end
-- ==== Proof.Readout.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.Readout

open Cert.Kernel8Ideal Cert.Kernel8Ideal.Gen Idealize.ShloMosaic Idealize.ShloMosaic.TcCoe Idealize.SL.Sem

/-! The state-space branch's readout: the skip term, the smooth gate and the gated product. -/

/-- Which block of each operand a grid step sees: the rows' tile `t`, the weights and biases whole. -/
theorem idx : ∀ t : Fin cfg0.N,
    win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

theorem points (t : Fin cfg0.N) : t.val < 34 := t.isLt

/-- The batch and the position of a flattened row, and the row `r` of tile `t`. -/
def batch (p : Fin 17408) : Fin 4 := ⟨p.val / 4352, by omega⟩
def position (p : Fin 17408) : Fin 4352 := ⟨p.val % 4352, by omega⟩
def row (t : Fin cfg0.N) (r : Fin 512) : Fin 17408 := ⟨t.val * 512 + r.val, by have := points t; omega⟩

/-- The smooth gate in its tanh form, with the constants the two programs share. -/
def gelu (z : EReal) : EReal :=
  Ideal.ofBits .f32 0x3F000000#32 * z
    * (1 + Ideal.tanh (Ideal.ofBits .f32 0x3F4C422A#32 * (z + Ideal.ofBits .f32 0x3D372713#32 * (z * z * z))))

/-- The logistic function. -/
def gate (z : EReal) : EReal := Ideal.div 1 (1 + Ideal.exp (-z))

/-- One row of the readout. -/
def readRow (y u d : Fin 512 → EReal) (w : Fin 512 → Fin 512 → EReal) (b : Fin 512 → EReal) (n : Fin 512) : EReal :=
  gelu (y n + d n * u n) * gate ((∑ k : Fin 512, gelu (y k + d k * u k) * w k n) + b n)

variable (m : (ℓ : Loc nD τ sig) → Buf (Elt Ideal) ℓ) (c : Dev nD)

theorem y_read (x : Vec Ideal S4x4352x512 .f32) (hx : m ((c : Thread nD τ).loc main_arg0) = x) (p : Fin 17408) (k : Fin 512) :
    @Eq EReal (Gen.V m c main_v0 (ix2 p k)) (x (ix3 (batch p) (position p) k)) := by
  subst hx
  simp only [Gen.V, hostOps0]
  entry_read
  pointwise [batch, position]

theorem u_read (x : Vec Ideal S4x4352x512 .f32) (hx : m ((c : Thread nD τ).loc main_arg1) = x) (p : Fin 17408) (k : Fin 512) :
    @Eq EReal (Gen.V m c main_v1 (ix2 p k)) (x (ix3 (batch p) (position p) k)) := by
  subst hx
  simp only [Gen.V, hostOps0]
  entry_read
  pointwise [batch, position]

theorem y_at (t : Fin cfg0.N) (x : Vec Ideal S4x4352x512 .f32) (hx : m ((c : Thread nD τ).loc main_arg0) = x) (r k : Fin 512) :
    @Eq EReal (iblk m c 0 t (ix2 r k)) (x (ix3 (batch (row t r)) (position (row t r)) k)) := by
  have e1 : iblk m c 0 t (ix2 r k) = Gen.V m c main_v0 (ix2 (row t r) k) := by blk_ext [iblk, idx t, row]
  exact Eq.trans e1 (y_read m c x hx _ _)

theorem u_at (t : Fin cfg0.N) (x : Vec Ideal S4x4352x512 .f32) (hx : m ((c : Thread nD τ).loc main_arg1) = x) (r k : Fin 512) :
    @Eq EReal (iblk m c 1 t (ix2 r k)) (x (ix3 (batch (row t r)) (position (row t r)) k)) := by
  have e1 : iblk m c 1 t (ix2 r k) = Gen.V m c main_v1 (ix2 (row t r) k) := by blk_ext [iblk, idx t, row]
  exact Eq.trans e1 (u_read m c x hx _ _)

theorem d_at (t : Fin cfg0.N) (x : Vec Ideal S512 .f32) (hx : m ((c : Thread nD τ).loc main_arg2) = x) (k : Fin 512) :
    @Eq EReal (iblk m c 2 t (ix2 0 k)) (x (ix1 k)) := by
  have e1 : iblk m c 2 t (ix2 0 k) = Gen.V m c main_v3 (ix2 0 k) := by blk_ext [iblk, idx t]
  refine Eq.trans e1 ?_
  subst hx
  simp only [Gen.V, hostOps0]
  entry_read
  pointwise []

theorem w_at (t : Fin cfg0.N) (x : Vec Ideal S512x512 .f32) (hx : m ((c : Thread nD τ).loc main_arg3) = x) (e k : Fin 512) :
    @Eq EReal (iblk m c 3 t (ix2 e k)) (x (ix2 e k)) := by
  have e1 : iblk m c 3 t (ix2 e k) = Gen.V m c main_v2 (ix2 e k) := by blk_ext [iblk, idx t]
  refine Eq.trans e1 ?_
  subst hx
  simp only [Gen.V, hostOps0]
  entry_read
  pointwise []

theorem b_at (t : Fin cfg0.N) (x : Vec Ideal S512 .f32) (hx : m ((c : Thread nD τ).loc main_arg4) = x) (k : Fin 512) :
    @Eq EReal (iblk m c 4 t (ix2 0 k)) (x (ix1 k)) := by
  have e1 : iblk m c 4 t (ix2 0 k) = Gen.V m c main_v4 (ix2 0 k) := by blk_ext [iblk, idx t]
  refine Eq.trans e1 ?_
  subst hx
  simp only [Gen.V, hostOps0]
  entry_read
  pointwise []

/-- What a grid step stores, row by row. -/
theorem block (x0 x1 : Vec Ideal S512x512 .f32) (x2 : Vec Ideal S1x512 .f32) (x3 : Vec Ideal S512x512 .bf16) (x4 : Vec Ideal S1x512 .f32) (r n : Fin 512) :
    @Eq EReal (out0_5 x0 x1 x2 x3 x4 (ix2 r n))
      (readRow (fun k => x0 (ix2 r k)) (fun k => x1 (ix2 r k)) (fun k => x2 (ix2 0 k)) (fun e k => x3 (ix2 e k)) (fun k => x4 (ix2 0 k)) n) := by
  unfold out0_5
  frame_out
  unfold readRow gate gelu
  pointwise [k0_pay1]
  rfl

/-- The result as an array. -/
def entries (y u : Vec Ideal S4x4352x512 .f32) (d : Vec Ideal S512 .f32) (w : Vec Ideal S512x512 .f32) (b : Vec Ideal S512 .f32) : Vec Ideal S17408x512 .bf16 :=
  fun i => readRow (fun k => y (ix3 (batch ⟨(i 0).val, (i 0).isLt⟩) (position ⟨(i 0).val, (i 0).isLt⟩) k))
    (fun k => u (ix3 (batch ⟨(i 0).val, (i 0).isLt⟩) (position ⟨(i 0).val, (i 0).isLt⟩) k))
    (fun k => d (ix1 k)) (fun e k => w (ix2 e k)) (fun k => b (ix1 k)) ⟨(i 1).val, (i 1).isLt⟩

theorem final (y u : Vec Ideal S4x4352x512 .f32) (d : Vec Ideal S512 .f32) (w : Vec Ideal S512x512 .f32) (b : Vec Ideal S512 .f32)
    (h0 : m ((c : Thread nD τ).loc main_arg0) = y) (h1 : m ((c : Thread nD τ).loc main_arg1) = u) (h2 : m ((c : Thread nD τ).loc main_arg2) = d)
    (h3 : m ((c : Thread nD τ).loc main_arg3) = w) (h4 : m ((c : Thread nD τ).loc main_arg4) = b) :
    (dats m 0 c).arrAt 5 cfg0.N = entries y u d w b := by
  refine (dats m 0 c).arrAt_eq_of_covers 5 _ (by decide +kernel) fun t _ i => ?_
  blk_simp
  rw [after0_5]
  have ei : i = ix2 ⟨(i 0).val, (i 0).isLt⟩ ⟨(i 1).val, (i 1).isLt⟩ := by
    funext d
    fin_cases d <;> rfl
  rw [ei]
  refine (block _ _ _ _ _ _ _).trans ?_
  unfold entries
  refine Eq.trans (congrFun (congr (congr (congr (congr (congrArg readRow (funext fun k => y_at m c t y h0 _ k)) (funext fun k => u_at m c t u h1 _ k)) (funext fun k => d_at m c t d h2 k)) (funext fun e => funext fun k => w_at m c t w h3 e k)) (funext fun k => b_at m c t b h4 k)) _) ?_
  have ht := points t
  have hi0 : (i 0).val < 512 := (i 0).isLt
  have hi1 : (i 1).val < 512 := (i 1).isLt
  blk_simp [idx t, row, batch, position]
  rfl

/-- The reference's skip term and smooth gate, as arrays. -/
def skip (y u : FVec Ideal S4x4352x512 .f32) (d : FVec Ideal S512 .f32) : FVec Ideal S4x4352x512 .f32 :=
  addf y (mulf (broadcastInDim Cert.Reference8Ideal.S4x4352x512 ![0, 1, 2] Cert.Reference8Ideal.Facts₀.bcast_S1x1x512_S4x4352x512_0_1_2 (broadcastInDim Cert.Reference8Ideal.S1x1x512 ![2] Cert.Reference8Ideal.Facts₀.bcast_S512_S1x1x512_2 d)) u)

def smooth (z : FVec Ideal S4x4352x512 .f32) : FVec Ideal S4x4352x512 .f32 :=
  mulf z (mulf (broadcastInDim Cert.Reference8Ideal.S4x4352x512 ![] Cert.Reference8Ideal.Facts₀.bcast_S_S4x4352x512 (constant (F := Ideal) Cert.Reference8Ideal.S_ .f32 0x3F000000#32)) (addf (broadcastInDim Cert.Reference8Ideal.S4x4352x512 ![] Cert.Reference8Ideal.Facts₀.bcast_S_S4x4352x512 (constant (F := Ideal) Cert.Reference8Ideal.S_ .f32 0x3F800000#32)) (Host.tanh (mulf (broadcastInDim Cert.Reference8Ideal.S4x4352x512 ![] Cert.Reference8Ideal.Facts₀.bcast_S_S4x4352x512 (constant (F := Ideal) Cert.Reference8Ideal.S_ .f32 0x3F4C422A#32)) (addf z (mulf (broadcastInDim Cert.Reference8Ideal.S4x4352x512 ![] Cert.Reference8Ideal.Facts₀.bcast_S_S4x4352x512 (constant (F := Ideal) Cert.Reference8Ideal.S_ .f32 0x3D372713#32)) (mulf (mulf z z) z)))))))

def gated (a : FVec Ideal S4x4352x512 .f32) (w : FVec Ideal S512x512 .f32) (b : FVec Ideal S512 .f32) : FVec Ideal S17408x512 .bf16 :=
  truncf .bf16 (shapeCast S17408x512 (mulf a (Host.divf (broadcastInDim Cert.Reference8Ideal.S4x4352x512 ![] Cert.Reference8Ideal.Facts₀.bcast_S_S4x4352x512 (constant (F := Ideal) Cert.Reference8Ideal.S_ .f32 0x3F800000#32)) (addf (broadcastInDim Cert.Reference8Ideal.S4x4352x512 ![] Cert.Reference8Ideal.Facts₀.bcast_S_S4x4352x512 (constant (F := Ideal) Cert.Reference8Ideal.S_ .f32 0x3F800000#32)) (Host.exp (Host.negf (addf (Host.dotGeneral (F := Ideal) (φ₁ := .f32) (φ₂ := .f32) Cert.Reference8Ideal.dot_S4x4352x512_S512x512_S4x4352x512_2_0_01_1_n_n none a w) (broadcastInDim Cert.Reference8Ideal.S4x4352x512 ![0, 1, 2] Cert.Reference8Ideal.Facts₀.bcast_S1x1x512_S4x4352x512_0_1_2 (broadcastInDim Cert.Reference8Ideal.S1x1x512 ![2] Cert.Reference8Ideal.Facts₀.bcast_S512_S1x1x512_2 b)))))))) Cert.Reference8Ideal.Facts₀.shapeCasts_S4x4352x512_S17408x512) Cert.Reference8Ideal.Facts₀.bitsLt_bf16_f32

theorem skip_entry (y u : Vec Ideal S4x4352x512 .f32) (d : Vec Ideal S512 .f32) (p : Fin 4) (l : Fin 4352) (k : Fin 512) :
    @Eq EReal (skip y u d (ix3 p l k)) (y (ix3 p l k) + d (ix1 k) * u (ix3 p l k)) := by
  pointwise [skip]

theorem smooth_entry (z : Vec Ideal S4x4352x512 .f32) (p : Fin 4) (l : Fin 4352) (k : Fin 512) :
    @Eq EReal (smooth z (ix3 p l k)) (gelu (z (ix3 p l k))) := by
  have e : @Eq EReal (smooth z (ix3 p l k)) (z (ix3 p l k) * (Ideal.ofBits .f32 0x3F000000#32 * (1 + Ideal.tanh (Ideal.ofBits .f32 0x3F4C422A#32 * (z (ix3 p l k) + Ideal.ofBits .f32 0x3D372713#32 * (z (ix3 p l k) * z (ix3 p l k) * z (ix3 p l k))))))) := by
    pointwise [smooth]
  refine e.trans ?_
  unfold gelu
  rw [← mul_assoc, mul_comm (z (ix3 p l k)) (Ideal.ofBits .f32 0x3F000000#32)]

theorem gated_entry (a : Vec Ideal S4x4352x512 .f32) (w : Vec Ideal S512x512 .f32) (b : Vec Ideal S512 .f32) (p : Fin 17408) (n : Fin 512) :
    @Eq EReal (gated a w b (ix2 p n))
      (a (ix3 (batch p) (position p) n) * gate ((∑ k : Fin 512, a (ix3 (batch p) (position p) k) * w (ix2 k n)) + b (ix1 n))) := by
  unfold gate
  pointwise [gated, batch, position]

/-- The reference's result, entry by entry. -/
theorem reference_entries (y u : Vec Ideal S4x4352x512 .f32) (d : Vec Ideal S512 .f32) (w : Vec Ideal S512x512 .f32) (b : Vec Ideal S512 .f32) :
    gated (smooth (skip y u d)) w b = entries y u d w b := by
  funext i
  have ei : i = ix2 ⟨(i 0).val, (i 0).isLt⟩ ⟨(i 1).val, (i 1).isLt⟩ := by
    funext d
    fin_cases d <;> rfl
  rw [ei]
  refine (gated_entry _ _ _ _ _).trans ?_
  have hs : ∀ (p : Fin 4) (l : Fin 4352) (k : Fin 512), @Eq EReal (smooth (skip y u d) (ix3 p l k)) (gelu (y (ix3 p l k) + d (ix1 k) * u (ix3 p l k))) :=
    fun p l k => (smooth_entry _ p l k).trans (congrArg gelu (skip_entry y u d p l k))
  unfold entries readRow
  exact congr (congrArg HMul.hMul (hs _ _ _)) (congrArg (fun s : EReal => gate (s + b (ix1 ⟨(i 1).val, (i 1).isLt⟩)))
    (Finset.sum_congr rfl fun k _ => congrArg (fun a : EReal => a * w (ix2 k ⟨(i 1).val, (i 1).isLt⟩)) (hs _ _ k)))

theorem readout_value : Cert.algebraic_Kernel8Ideal_Reference8Ideal (hKernel8Ideal := Cert.Kernel8Ideal.Gen.facts) (hReference8Ideal := Cert.Reference8Ideal.Gen.facts) := by
  intro m g m' g' hpre hagree
  refine ⟨_, (θ_run Cert.Kernel8Ideal.defs _ _).mono (fun r h c => ⟨((h c).1.trans (final m c _ _ _ _ _ rfl rfl rfl rfl rfl)), (h c).2⟩) (Cert.Kernel8Ideal.Value.run_blocks m g),
    (θ_run Cert.Reference8Ideal.defs _ _).mono (fun r h c => ⟨(h c).1.trans ?_, (h c).2⟩) (Cert.Reference8Ideal.Value.run m' g')⟩
  obtain ⟨h0, h1, h2, h3, h4⟩ := hagree c
  unfold Cert.Reference8Ideal.Value.res_main_v29
  rw [h0, h1, h2, h3, h4]
  have e := reference_entries (m ((c : Thread nD τ).loc main_arg0)) (m ((c : Thread nD τ).loc main_arg1)) (m ((c : Thread nD τ).loc main_arg2)) (m ((c : Thread nD τ).loc main_arg3)) (m ((c : Thread nD τ).loc main_arg4))
  unfold gated smooth skip at e
  exact e

end Cert.Readout

end
-- ==== Proof.Modulation.lean ====
module

public import proofs.«01_k».proof.Defs
public import proofs.«01_k».proof.Proof.Gen.Kernel9Ideal.Value
public import proofs.«01_k».proof.Proof.Gen.Reference9Ideal.Run
public import Idealize.ShloMosaic.Lib.Routing.OpsSet
public import Idealize.ShloMosaic.Lib.KernelVsHost
public import Idealize.ShloMosaic.Lib.Pipeline.ValueKit
public import Idealize.ShloMosaic.Lib.Claim

@[expose] public section

set_option maxRecDepth 16384

noncomputable section

namespace Cert.Modulation

open Cert.Kernel9Ideal Cert.Kernel9Ideal.Gen Idealize.ShloMosaic Idealize.ShloMosaic.TcCoe Idealize.SL.Sem

/-! The modulation vectors: the smooth switch of each conditioning row, times the layer's matrix, plus its bias. -/

/-- Which block of each operand a grid step sees: the rows whole, the layer's block of columns of the weights and the bias. -/
theorem idx : ∀ t : Fin cfg0.N,
    win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, _)

theorem points (t : Fin cfg0.N) : t.val < 12 := t.isLt

/-- The layer of a grid step, and the column `k` of its block. -/
def layer (t : Fin cfg0.N) : Fin 2 := ⟨t.val / 6, by have := points t; omega⟩
def column (t : Fin cfg0.N) (k : Fin 1024) : Fin 6144 := ⟨t.val % 6 * 1024 + k.val, by omega⟩

/-- The switch `z · 1 / (1 + exp (−z))`. -/
def silu (z : EReal) : EReal := z * Ideal.div 1 (1 + Ideal.exp (-z))

/-- One entry of the modulation of one conditioning row. -/
def modRow (s : Fin 1024 → EReal) (w : Fin 1024 → EReal) (b : EReal) : EReal := (∑ k : Fin 1024, silu (s k) * w k) + b

/-- The conditioning rows: the latent sequences' four, the context's one, and three of zeros. -/
def rowAt (x : Vec Ideal S4x1024 .f32) (y : Vec Ideal S1024 .f32) (p : Fin 8) (k : Fin 1024) : EReal :=
  if h : p.val < 4 then x (ix2 ⟨p.val, h⟩ k) else if p.val = 4 then y (ix1 k) else 0

/-! The rows are set into zeros: where each update lands. -/

/-- Row `q` of the four rows lands at row `q`. -/
theorem lands_four (i : IVec S1 32) (hi : (i (ix1 0)).toInt = 0) (q : Fin 4) (l : Fin 1024) (p : Fin 8) (k : Fin 1024) :
    scatter_S8x1024_S1_S4x1024_01_n_0_0.resultIdx? (ix2 q l) i = some (ix2 p k) ↔ q.val = p.val ∧ l = k := by
  have w0 : scatter_S8x1024_S1_S4x1024_01_n_0_0.window (ix2 q l) 0 = q.val := rfl
  have w1 : scatter_S8x1024_S1_S4x1024_01_n_0_0.window (ix2 q l) 1 = l.val := rfl
  have s0 : scatter_S8x1024_S1_S4x1024_01_n_0_0.start (ix2 q l) i 0 = 0 := by
    refine Eq.trans ?_ hi
    refine congrArg (fun j => (i j).toInt) ?_
    funext b
    match b with
    | ⟨0, _⟩ => exact Subsingleton.elim (α := Fin 1) _ _
  have s1 : scatter_S8x1024_S1_S4x1024_01_n_0_0.start (ix2 q l) i 1 = 0 := rfl
  refine (Routing.resultIdx?_ix2 (R := 8) (C := 1024) scatter_S8x1024_S1_S4x1024_01_n_0_0 (ix2 q l) i p k).trans ?_
  rw [Fin.ext_iff, s0, w0, s1, w1]
  omega

/-- The one row of the context lands at row 4. -/
theorem lands_one (i : IVec S1 32) (hi : (i (ix1 0)).toInt = 4) (l : Fin 1024) (p : Fin 8) (k : Fin 1024) :
    scatter_S8x1024_S1_S1024_0_0_0_0.resultIdx? (ix1 l) i = some (ix2 p k) ↔ p.val = 4 ∧ l = k := by
  have w0 : scatter_S8x1024_S1_S1024_0_0_0_0.window (ix1 l) 0 = 0 := rfl
  have w1 : scatter_S8x1024_S1_S1024_0_0_0_0.window (ix1 l) 1 = l.val := rfl
  have s0 : scatter_S8x1024_S1_S1024_0_0_0_0.start (ix1 l) i 0 = 4 := by
    refine Eq.trans ?_ hi
    refine congrArg (fun j => (i j).toInt) ?_
    funext b
    match b with
    | ⟨0, _⟩ => exact Subsingleton.elim (α := Fin 1) _ _
  have s1 : scatter_S8x1024_S1_S1024_0_0_0_0.start (ix1 l) i 1 = 0 := rfl
  refine (Routing.resultIdx?_ix2 (R := 8) (C := 1024) scatter_S8x1024_S1_S1024_0_0_0_0 (ix1 l) i p k).trans ?_
  rw [Fin.ext_iff, s0, w0, s1, w1]
  omega

/-- The two settings together are the conditioning rows. -/
theorem rows_set (z : Vec Ideal S8x1024 .f32) (hz : ∀ j, @Eq EReal (z j) 0) (i i' : IVec S1 32) (hi : (i (ix1 0)).toInt = 0) (hi' : (i' (ix1 0)).toInt = 4)
    (x : Vec Ideal S4x1024 .f32) (y : Vec Ideal S1024 .f32) (p : Fin 8) (k : Fin 1024) :
    @Eq EReal (Host.scatter scatter_S8x1024_S1_S1024_0_0_0_0 (fun _ b => b) (Host.scatter scatter_S8x1024_S1_S4x1024_01_n_0_0 (fun _ b => b) z i x) i' y (ix2 p k)) (rowAt x y p k) := by
  have e1 : ∀ j : S1024.Idx, j = ix1 ⟨(j 0).val, (j 0).isLt⟩ := fun j => by
    funext d
    fin_cases d
    rfl
  have e2 : ∀ j : S4x1024.Idx, j = ix2 ⟨(j 0).val, (j 0).isLt⟩ ⟨(j 1).val, (j 1).isLt⟩ := fun j => by
    funext d
    fin_cases d <;> rfl
  unfold rowAt
  by_cases h4 : p.val = 4
  · rw [dif_neg (by omega), if_pos h4]
    refine Routing.scatter_set_hit _ _ _ _ _ _ (fun j hj => ?_) (ix1 k) ((lands_one i' hi' k p k).2 ⟨h4, rfl⟩)
    rw [e1 j] at hj ⊢
    exact congrArg (fun l => y (ix1 l)) ((lands_one i' hi' _ p k).1 hj).2
  · refine (Routing.scatter_set_miss _ _ _ _ _ (fun j hj => ?_)).trans ?_
    · rw [e1 j] at hj
      exact h4 ((lands_one i' hi' _ p k).1 hj).1
    · by_cases h : p.val < 4
      · rw [dif_pos h]
        refine Routing.scatter_set_hit _ _ _ _ _ _ (fun j hj => ?_) (ix2 ⟨p.val, h⟩ k) ((lands_four i hi ⟨p.val, h⟩ k p k).2 ⟨rfl, rfl⟩)
        rw [e2 j] at hj ⊢
        have hl := (lands_four i hi _ _ p k).1 hj
        exact congrArg₂ (fun q l => x (ix2 q l)) (Fin.ext hl.1) hl.2
      · rw [dif_neg h, if_neg h4]
        refine (Routing.scatter_set_miss _ _ _ _ _ (fun j hj => ?_)).trans (hz _)
        rw [e2 j] at hj
        have hl := ((lands_four i hi _ _ p k).1 hj).1
        exact h (hl ▸ (j 0).isLt)

variable (m : (ℓ : Loc nD τ sig) → Buf (Elt Ideal) ℓ) (c : Dev nD)

theorem s_at (t : Fin cfg0.N) (x : Vec Ideal S4x1024 .f32) (y : Vec Ideal S1024 .f32) (hx : m ((c : Thread nD τ).loc main_arg0) = x) (hy : m ((c : Thread nD τ).loc main_arg1) = y) (p : Fin 8) (k : Fin 1024) :
    @Eq EReal (iblk m c 0 t (ix2 p k)) (rowAt x y p k) := by
  have e1 : iblk m c 0 t (ix2 p k) = Gen.V m c main_v4 (ix2 p k) := by blk_ext [iblk, idx t]
  refine Eq.trans e1 ?_
  subst hx hy
  simp only [Gen.V, hostOps0]
  entry_read
  refine rows_set _ (fun j => ?_) _ _ ?_ ?_ _ _ p k
  · pointwise []
  · rfl
  · rfl

theorem w_at (t : Fin cfg0.N) (x : Vec Ideal S2x1024x6144 .f32) (hx : m ((c : Thread nD τ).loc main_arg2) = x) (k n : Fin 1024) :
    @Eq EReal (iblk m c 1 t (ix3 0 k n)) (x (ix3 (layer t) k (column t n))) := by
  subst hx
  have e1 : iblk m c 1 t (ix3 0 k n) = Gen.V m c main_arg2 (ix3 (layer t) k (column t n)) := by blk_ext [iblk, idx t, layer, column]
  exact Eq.trans e1 (congrFun (V_main_arg2 m c) _)

theorem b_at (t : Fin cfg0.N) (x : Vec Ideal S2x6144 .f32) (hx : m ((c : Thread nD τ).loc main_arg3) = x) (n : Fin 1024) :
    @Eq EReal (iblk m c 2 t (ix3 0 0 n)) (x (ix2 (layer t) (column t n))) := by
  have e1 : iblk m c 2 t (ix3 0 0 n) = Gen.V m c main_v5 (ix3 (layer t) 0 (column t n)) := by blk_ext [iblk, idx t, layer, column]
  refine Eq.trans e1 ?_
  generalize layer t = l
  generalize column t n = q
  subst hx
  simp only [Gen.V, hostOps0]
  entry_read
  pointwise []

/-- What a grid step stores. -/
theorem block (x0 : Vec Ideal S8x1024 .f32) (x1 : Vec Ideal S1x1024x1024 .f32) (x2 : Vec Ideal S1x1x1024 .f32) (p : Fin 8) (n : Fin 1024) :
    @Eq EReal (out0_3 x0 x1 x2 (ix3 0 p n)) (modRow (fun k => x0 (ix2 p k)) (fun k => x1 (ix3 0 k n)) (x2 (ix3 0 0 n))) := by
  unfold out0_3
  frame_out
  unfold modRow silu
  pointwise [k0_pay1]
  rfl

/-- The result as an array. -/
def entries (x : Vec Ideal S4x1024 .f32) (y : Vec Ideal S1024 .f32) (w : Vec Ideal S2x1024x6144 .f32) (b : Vec Ideal S2x6144 .f32) : Vec Ideal S2x8x6144 .f32 :=
  fun i => modRow (fun k => rowAt x y ⟨(i 1).val, (i 1).isLt⟩ k) (fun k => w (ix3 ⟨(i 0).val, (i 0).isLt⟩ k ⟨(i 2).val, (i 2).isLt⟩))
    (b (ix2 ⟨(i 0).val, (i 0).isLt⟩ ⟨(i 2).val, (i 2).isLt⟩))

theorem final (x : Vec Ideal S4x1024 .f32) (y : Vec Ideal S1024 .f32) (w : Vec Ideal S2x1024x6144 .f32) (b : Vec Ideal S2x6144 .f32)
    (h0 : m ((c : Thread nD τ).loc main_arg0) = x) (h1 : m ((c : Thread nD τ).loc main_arg1) = y) (h2 : m ((c : Thread nD τ).loc main_arg2) = w)
    (h3 : m ((c : Thread nD τ).loc main_arg3) = b) :
    (dats m 0 c).arrAt 3 cfg0.N = entries x y w b := by
  refine (dats m 0 c).arrAt_eq_of_covers 3 _ (by decide +kernel) fun t _ i => ?_
  blk_simp
  rw [after0_3]
  have ei : i = ix3 0 ⟨(i 1).val, (i 1).isLt⟩ ⟨(i 2).val, (i 2).isLt⟩ := by
    funext d
    fin_cases d
    · exact Subsingleton.elim (α := Fin 1) _ _
    · rfl
    · rfl
  rw [ei]
  refine (block _ _ _ _ _).trans ?_
  unfold entries
  refine Eq.trans (congr (congr (congrArg modRow (funext fun k => s_at m c t x y h0 h1 _ k)) (funext fun k => w_at m c t w h2 k _)) (b_at m c t b h3 _)) ?_
  have ht := points t
  blk_simp [idx t, layer, column]
  rfl

/-! The reference, one layer at a time: its matrix and its bias are cut out, the rows made, and the layers stacked. -/

/-- The rows of the latent sequences, and that of the context, under a layer's matrix and bias. -/
def latent (x : FVec Ideal S4x1024 .f32) (w : FVec Ideal Cert.Reference9Ideal.S1024x6144 .f32) (b : FVec Ideal Cert.Reference9Ideal.S6144 .f32) : FVec Ideal Cert.Reference9Ideal.S4x6144 .f32 :=
  addf (Host.dotGeneral (F := Ideal) (φ₁ := .f32) (φ₂ := .f32) Cert.Reference9Ideal.dot_S4x1024_S1024x6144_S4x6144_1_0_0_1_n_n none (mulf x (Host.divf (broadcastInDim Cert.Reference9Ideal.S4x1024 ![] Cert.Reference9Ideal.Facts₀.bcast_S_S4x1024 (constant (F := Ideal) Cert.Reference9Ideal.S_ .f32 0x3F800000#32)) (addf (broadcastInDim Cert.Reference9Ideal.S4x1024 ![] Cert.Reference9Ideal.Facts₀.bcast_S_S4x1024 (constant (F := Ideal) Cert.Reference9Ideal.S_ .f32 0x3F800000#32)) (Host.exp (Host.negf x))))) w) (broadcastInDim Cert.Reference9Ideal.S4x6144 ![0, 1] Cert.Reference9Ideal.Facts₀.bcast_S1x6144_S4x6144_0_1 (broadcastInDim Cert.Reference9Ideal.S1x6144 ![1] Cert.Reference9Ideal.Facts₀.bcast_S6144_S1x6144_1 b))

def context (y : FVec Ideal S1024 .f32) (w : FVec Ideal Cert.Reference9Ideal.S1024x6144 .f32) (b : FVec Ideal Cert.Reference9Ideal.S6144 .f32) : FVec Ideal Cert.Reference9Ideal.S6144 .f32 :=
  addf (Host.dotGeneral (F := Ideal) (φ₁ := .f32) (φ₂ := .f32) Cert.Reference9Ideal.dot_S1024_S1024x6144_S6144_0_0_n_1_n_n none (mulf y (Host.divf (broadcastInDim Cert.Reference9Ideal.S1024 ![] Cert.Reference9Ideal.Facts₀.bcast_S_S1024 (constant (F := Ideal) Cert.Reference9Ideal.S_ .f32 0x3F800000#32)) (addf (broadcastInDim Cert.Reference9Ideal.S1024 ![] Cert.Reference9Ideal.Facts₀.bcast_S_S1024 (constant (F := Ideal) Cert.Reference9Ideal.S_ .f32 0x3F800000#32)) (Host.exp (Host.negf y))))) w) b

/-- A layer's eight rows. -/
def rows (x : FVec Ideal S4x1024 .f32) (y : FVec Ideal S1024 .f32) (w : FVec Ideal Cert.Reference9Ideal.S1024x6144 .f32) (b : FVec Ideal Cert.Reference9Ideal.S6144 .f32) : FVec Ideal Cert.Reference9Ideal.S8x6144 .f32 :=
  concatenate Cert.Reference9Ideal.S8x6144 0 [⟨Cert.Reference9Ideal.S4x6144, latent x w b⟩, ⟨Cert.Reference9Ideal.S1x6144, broadcastInDim Cert.Reference9Ideal.S1x6144 ![1] Cert.Reference9Ideal.Facts₀.bcast_S6144_S1x6144_1 (context y w b)⟩, ⟨Cert.Reference9Ideal.S3x6144, broadcastInDim Cert.Reference9Ideal.S3x6144 ![1] Cert.Reference9Ideal.Facts₀.bcast_S6144_S3x6144_1 b⟩] Cert.Reference9Ideal.Facts₀.concatenates_S4x6144_S1x6144_S3x6144_S8x6144_d0

/-- The two layers' matrices and biases. -/
def matrix0 (w : FVec Ideal S2x1024x6144 .f32) : FVec Ideal Cert.Reference9Ideal.S1024x6144 .f32 :=
  shapeCast _ (extractStridedSlice Cert.Reference9Ideal.S1x1024x6144 ![0, 0, 0] w Cert.Reference9Ideal.Facts₀.slices_S2x1024x6144_S1x1024x6144_0_0_0) Cert.Reference9Ideal.Facts₀.shapeCasts_S1x1024x6144_S1024x6144
def matrix1 (w : FVec Ideal S2x1024x6144 .f32) : FVec Ideal Cert.Reference9Ideal.S1024x6144 .f32 :=
  shapeCast _ (extractStridedSlice Cert.Reference9Ideal.S1x1024x6144 ![1, 0, 0] w Cert.Reference9Ideal.Facts₀.slices_S2x1024x6144_S1x1024x6144_1_0_0) Cert.Reference9Ideal.Facts₀.shapeCasts_S1x1024x6144_S1024x6144
def bias0 (b : FVec Ideal S2x6144 .f32) : FVec Ideal Cert.Reference9Ideal.S6144 .f32 :=
  shapeCast _ (extractStridedSlice Cert.Reference9Ideal.S1x6144 ![0, 0] b Cert.Reference9Ideal.Facts₀.slices_S2x6144_S1x6144_0_0) Cert.Reference9Ideal.Facts₀.shapeCasts_S1x6144_S6144
def bias1 (b : FVec Ideal S2x6144 .f32) : FVec Ideal Cert.Reference9Ideal.S6144 .f32 :=
  shapeCast _ (extractStridedSlice Cert.Reference9Ideal.S1x6144 ![1, 0] b Cert.Reference9Ideal.Facts₀.slices_S2x6144_S1x6144_1_0) Cert.Reference9Ideal.Facts₀.shapeCasts_S1x6144_S6144

/-- The layers stacked. -/
def stacked (p q : FVec Ideal Cert.Reference9Ideal.S8x6144 .f32) : FVec Ideal S2x8x6144 .f32 :=
  concatenate Cert.Reference9Ideal.S2x8x6144 0 [⟨Cert.Reference9Ideal.S1x8x6144, broadcastInDim Cert.Reference9Ideal.S1x8x6144 ![1, 2] Cert.Reference9Ideal.Facts₀.bcast_S8x6144_S1x8x6144_1_2 p⟩, ⟨Cert.Reference9Ideal.S1x8x6144, broadcastInDim Cert.Reference9Ideal.S1x8x6144 ![1, 2] Cert.Reference9Ideal.Facts₀.bcast_S8x6144_S1x8x6144_1_2 q⟩] Cert.Reference9Ideal.Facts₀.concatenates_S1x8x6144_S1x8x6144_S2x8x6144_d0

theorem latent_entry (x : Vec Ideal S4x1024 .f32) (w : Vec Ideal Cert.Reference9Ideal.S1024x6144 .f32) (b : Vec Ideal Cert.Reference9Ideal.S6144 .f32) (p : Fin 4) (n : Fin 6144) :
    @Eq EReal (latent x w b (ix2 p n)) (modRow (fun k => x (ix2 p k)) (fun k => w (ix2 k n)) (b (ix1 n))) := by
  unfold modRow silu
  pointwise [latent]

theorem context_entry (y : Vec Ideal S1024 .f32) (w : Vec Ideal Cert.Reference9Ideal.S1024x6144 .f32) (b : Vec Ideal Cert.Reference9Ideal.S6144 .f32) (n : Fin 6144) :
    @Eq EReal (context y w b (ix1 n)) (modRow (fun k => y (ix1 k)) (fun k => w (ix2 k n)) (b (ix1 n))) := by
  unfold modRow silu
  pointwise [context]

/-- A row of zeros leaves the bias. -/
theorem modRow_zero (w : Fin 1024 → EReal) (b : EReal) : modRow (fun _ => 0) w b = b := by
  unfold modRow silu
  simp

theorem rows_entry (x : Vec Ideal S4x1024 .f32) (y : Vec Ideal S1024 .f32) (w : Vec Ideal Cert.Reference9Ideal.S1024x6144 .f32) (b : Vec Ideal Cert.Reference9Ideal.S6144 .f32) (p : Fin 8) (n : Fin 6144) :
    @Eq EReal (rows x y w b (ix2 p n)) (modRow (fun k => rowAt x y p k) (fun k => w (ix2 k n)) (b (ix1 n))) := by
  have hl := latent_entry x w b
  have hc := context_entry y w b
  unfold rows
  generalize latent x w b = u at hl ⊢
  generalize context y w b = v at hc ⊢
  unfold rowAt
  by_cases h : p.val < 4
  · simp only [h, dif_pos]
    refine Eq.trans ?_ (hl ⟨p.val, h⟩ n)
    pointwise [h]
  · by_cases h4 : p.val = 4
    · simp only [h, h4, dif_neg, if_true, not_false_eq_true]
      refine Eq.trans ?_ (hc n)
      pointwise [h, h4]
    · simp only [h, h4, dif_neg, if_false, not_false_eq_true]
      refine Eq.trans ?_ (modRow_zero _ _).symm
      pointwise [h, h4]
      rw [dif_neg (by omega)]

theorem matrix0_entry (w : Vec Ideal S2x1024x6144 .f32) (k : Fin 1024) (n : Fin 6144) : @Eq EReal (matrix0 w (ix2 k n)) (w (ix3 0 k n)) := by
  pointwise [matrix0]
theorem matrix1_entry (w : Vec Ideal S2x1024x6144 .f32) (k : Fin 1024) (n : Fin 6144) : @Eq EReal (matrix1 w (ix2 k n)) (w (ix3 1 k n)) := by
  pointwise [matrix1]
theorem bias0_entry (b : Vec Ideal S2x6144 .f32) (n : Fin 6144) : @Eq EReal (bias0 b (ix1 n)) (b (ix2 0 n)) := by
  pointwise [bias0]
theorem bias1_entry (b : Vec Ideal S2x6144 .f32) (n : Fin 6144) : @Eq EReal (bias1 b (ix1 n)) (b (ix2 1 n)) := by
  pointwise [bias1]

theorem stacked_entry (u v : FVec Ideal Cert.Reference9Ideal.S8x6144 .f32) (l : Fin 2) (p : Fin 8) (n : Fin 6144) :
    @Eq EReal (stacked u v (ix3 l p n)) (if l.val < 1 then u (ix2 p n) else v (ix2 p n)) := by
  pointwise [stacked]
  rfl

/-- The reference's result, entry by entry. -/
theorem reference_entries (x : Vec Ideal S4x1024 .f32) (y : Vec Ideal S1024 .f32) (w : Vec Ideal S2x1024x6144 .f32) (b : Vec Ideal S2x6144 .f32) :
    stacked (rows x y (matrix0 w) (bias0 b)) (rows x y (matrix1 w) (bias1 b)) = entries x y w b := by
  funext i
  have ei : i = ix3 ⟨(i 0).val, (i 0).isLt⟩ ⟨(i 1).val, (i 1).isLt⟩ ⟨(i 2).val, (i 2).isLt⟩ := by
    funext d
    fin_cases d <;> rfl
  have h2 : (i 0).val < 2 := (i 0).isLt
  rw [ei]
  refine (stacked_entry _ _ _ _ _).trans ?_
  unfold entries
  by_cases h : (i 0).val < 1
  · have hl : (⟨(i 0).val, (i 0).isLt⟩ : Fin 2) = 0 := Fin.ext (by show (i 0).val = 0; omega)
    refine (if_pos h).trans ((rows_entry _ _ _ _ _ _).trans ?_)
    refine Eq.trans (congr (congrArg (modRow _) (funext fun k => matrix0_entry w k _)) (bias0_entry b _)) ?_
    rw [← hl]
    rfl
  · have hl : (⟨(i 0).val, (i 0).isLt⟩ : Fin 2) = 1 := Fin.ext (by show (i 0).val = 1; omega)
    refine (if_neg h).trans ((rows_entry _ _ _ _ _ _).trans ?_)
    refine Eq.trans (congr (congrArg (modRow _) (funext fun k => matrix1_entry w k _)) (bias1_entry b _)) ?_
    rw [← hl]
    rfl

theorem modulation_value : Cert.algebraic_Kernel9Ideal_Reference9Ideal (hKernel9Ideal := Cert.Kernel9Ideal.Gen.facts) (hReference9Ideal := Cert.Reference9Ideal.Gen.facts) := by
  intro m g m' g' hpre hagree
  refine ⟨_, (θ_run Cert.Kernel9Ideal.defs _ _).mono (fun r h c => ⟨((h c).1.trans (final m c _ _ _ _ rfl rfl rfl rfl)), (h c).2⟩) (Cert.Kernel9Ideal.Value.run_blocks m g),
    (θ_run Cert.Reference9Ideal.defs _ _).mono (fun r h c => ⟨(h c).1.trans ?_, (h c).2⟩) (Cert.Reference9Ideal.Value.run m' g')⟩
  obtain ⟨h0, h1, h2, h3⟩ := hagree c
  unfold Cert.Reference9Ideal.Value.res_main_v42
  rw [h0, h1, h2, h3]
  have e := reference_entries (m ((c : Thread nD τ).loc main_arg0)) (m ((c : Thread nD τ).loc main_arg1)) (m ((c : Thread nD τ).loc main_arg2)) (m ((c : Thread nD τ).loc main_arg3))
  unfold stacked rows latent context matrix0 matrix1 bias0 bias1 at e
  exact e

end Cert.Modulation

end
-- ==== Proof.RotaryHeads.lean ====
module

public import proofs.«01_k».proof.Defs
public import proofs.«01_k».proof.Proof.Gen.Kernel10Ideal.Frame
public import proofs.«01_k».proof.Proof.Gen.Reference10Ideal.Run
public import Idealize.ShloMosaic.Lib.Pipeline.Value
public import Idealize.ShloMosaic.Lib.Pipeline.ValueKit
public import Idealize.ShloMosaic.Lib.Claim
public import Idealize.ShloMosaic.Lib.StableHlo.RunRead

@[expose] public section

set_option maxRecDepth 16384

noncomputable section

namespace Cert.RotaryHeads

open Cert.Kernel10Ideal Cert.Kernel10Ideal.Gen Idealize.ShloMosaic Idealize.ShloMosaic.TcCoe Idealize.SL.Sem

/-! The rotary embedding of the queries and keys, and the split of the projection into heads. -/

/-- Which block of each operand a grid step sees: of the batch `t / 16` the positions' tile `t % 16`. -/
theorem idx : ∀ t : Fin cfg0.N,
    win0_0.index t = ![t.val / 16, t.val % 16, 0]
    ∧ win0_1.index t = ![t.val % 16, 0]
    ∧ win0_2.index t = ![t.val % 16, 0]
    ∧ win0_3.index t = ![t.val / 16, 0, t.val % 16, 0]
    ∧ win0_4.index t = ![t.val / 16, 0, t.val % 16, 0]
    ∧ win0_5.index t = ![t.val / 16, 0, t.val % 16, 0] :=
  (by decide +kernel : ∀ t : Fin grid0.N, _)

theorem points (t : Fin cfg0.N) : t.val < 64 := t.isLt

def batch (t : Fin cfg0.N) : Fin 4 := ⟨t.val / 16, by have := points t; omega⟩
def position (t : Fin cfg0.N) (r : Fin 256) : Fin 4096 := ⟨t.val % 16 * 256 + r.val, by omega⟩

/-- The column of entry `d` of head `h`, its lane among a pair of heads, and the entry it is turned with. -/
def column (h : Fin 12) (d : Fin 64) : Fin 768 := ⟨64 * h.val + d.val, by omega⟩
def lane (h : Fin 12) (d : Fin 64) : Fin 128 := ⟨h.val % 2 * 64 + d.val, by omega⟩
def partner (d : Fin 64) : Fin 64 := ⟨(d.val + 32) % 64, by omega⟩
def angleOf (d : Fin 64) : Fin 32 := ⟨d.val % 32, by omega⟩

/-- A head's entry turned, over the tables of a pair of heads. -/
def laneTurn (x : Fin 768 → EReal) (co si : Fin 128 → EReal) (h : Fin 12) (d : Fin 64) : EReal :=
  x (column h d) * co (lane h d) + x (column h (partner d)) * si (lane h d)

/-- A head's entry turned by the angles of its position. -/
def turn (x : Fin 768 → EReal) (co si : Fin 32 → EReal) (h : Fin 12) (d : Fin 64) : EReal :=
  x (column h d) * co (angleOf d) + x (column h (partner d)) * (if d.val < 32 then -si (angleOf d) else si (angleOf d))

/-- The scores' scale. -/
def scale : EReal := Ideal.ofBits .f32 0x3E000000#32

/-! What a grid step computes, from its blocks. -/

theorem select_if (p : Prop) [Decidable p] (a b : EReal) : Scalar.select (BitVec.ofBool (decide p)) a b = if p then a else b := by
  by_cases h : p <;> simp [h, Scalar.select]

/-- The kernel's condition on a lane's number, and what it says. -/
def lowWord (w : BitVec 32) : BitVec 1 :=
  let n := Scalar.select (Scalar.cmpi .eq 64#32 0#32) 1#32 64#32
  let q := IntOp.remsi .vector w n
  IntOp.cmpi .slt (Scalar.select (IntOp.andi (IntOp.xori (IntOp.cmpi .slt q 0#32) (Scalar.cmpi .slt n 0#32)) (IntOp.cmpi .ne q 0#32)) (IntOp.addi q n) q) 32#32

theorem low_word : ∀ p : Fin 128, lowWord (BitVec.ofNat 32 p.val) = BitVec.ofBool (decide (p.val % 64 < 32)) := by
  decide +kernel

theorem low_at (r : Fin 256) (p : Fin 128) : k0_pay14 (ix2 r p) = BitVec.ofBool (decide (p.val % 64 < 32)) := by
  rw [← low_word p]
  unfold lowWord
  pointwise [k0_pay14]

/-- A pair of heads turned. -/
theorem pair_at (v : FVec Ideal S256x128 .f32) (x1 x2 : Vec Ideal S256x128 .f32) (r : Fin 256) (p : Fin 128) :
    @Eq EReal (k0_pay15 v (k0_pay12 x1) (k0_pay13 x2) k0_pay14 (ix2 r p))
      (v (ix2 r p) * x1 (ix2 r p) + (if p.val % 64 < 32 then v (ix2 r ⟨(p.val + 32) % 128, by omega⟩) else v (ix2 r ⟨(p.val + 96) % 128, by omega⟩)) * x2 (ix2 r p)) := by
  have e : ∀ w : IVec S256x128 1, @Eq EReal (k0_pay15 v (k0_pay12 x1) (k0_pay13 x2) w (ix2 r p))
      (v (ix2 r p) * x1 (ix2 r p) + Scalar.select (w (ix2 r p)) (v (ix2 r ⟨(p.val + 128 - 96) % 128, by omega⟩)) (v (ix2 r ⟨(p.val + 128 - 32) % 128, by omega⟩)) * x2 (ix2 r p)) := by
    intro w
    pointwise [k0_pay15, k0_pay12, k0_pay13]
  refine (e _).trans ?_
  rw [low_at, select_if]
  rfl

/-- A head of a pair, where the pair's columns are the projection's from `128 * j`. -/
theorem head_at (v : FVec Ideal S256x128 .f32) (x : Fin 768 → EReal) (x1 x2 : Vec Ideal S256x128 .f32) (r : Fin 256) (h : Fin 10) (d : Fin 64)
    (hv : ∀ p : Fin 128, @Eq EReal (v (ix2 r p)) (x ⟨128 * (h.val / 2) + p.val, by omega⟩)) :
    @Eq EReal (k0_pay15 v (k0_pay12 x1) (k0_pay13 x2) k0_pay14 (ix2 r (lane (h.castLE (by omega)) d)))
      (laneTurn x (fun p => x1 (ix2 r p)) (fun p => x2 (ix2 r p)) (h.castLE (by omega)) d) := by
  rw [pair_at, hv, hv, hv]
  unfold laneTurn
  refine congr (congrArg HAdd.hAdd (congrArg (· * _) (congrArg x (Fin.ext ?_)))) (congrArg (· * _) ?_)
  · show 128 * (h.val / 2) + (h.val % 2 * 64 + d.val) = 64 * h.val + d.val
    omega
  · split
    · rename_i hl
      refine congrArg x (Fin.ext ?_)
      have hl : (h.val % 2 * 64 + d.val) % 64 < 32 := hl
      show 128 * (h.val / 2) + (h.val % 2 * 64 + d.val + 32) % 128 = 64 * h.val + (d.val + 32) % 64
      omega
    · rename_i hl
      refine congrArg x (Fin.ext ?_)
      have hl : ¬(h.val % 2 * 64 + d.val) % 64 < 32 := hl
      show 128 * (h.val / 2) + (h.val % 2 * 64 + d.val + 96) % 128 = 64 * h.val + (d.val + 32) % 64
      omega

theorem piece_index (x : S1x1x256x64.Idx) : x = ix4 0 0 ⟨(x 2).val, (x 2).isLt⟩ ⟨(x 3).val, (x 3).isLt⟩ := by
  funext a
  fin_cases a
  · exact Subsingleton.elim (α := Fin 1) _ _
  · exact Subsingleton.elim (α := Fin 1) _ _
  · rfl
  · rfl

/-- The two heads of a pair, scaled for the scores or as they are. -/
theorem even_scaled (q : FVec Ideal S256x128 .f32) (x : S1x1x256x64.Idx) :
    @Eq EReal (k0_pay9 (extractStridedSlice S256x64 ![0, 0] q slices_S256x128_o0_0_S256x64) x) (q (ix2 ⟨(x 2).val, (x 2).isLt⟩ (lane 0 ⟨(x 3).val, (x 3).isLt⟩)) * scale) := by
  rw [piece_index x]
  pointwise [k0_pay9, lane, scale]

theorem odd_scaled (q : FVec Ideal S256x128 .f32) (x : S1x1x256x64.Idx) :
    @Eq EReal (k0_pay10 q x) (q (ix2 ⟨(x 2).val, (x 2).isLt⟩ (lane 1 ⟨(x 3).val, (x 3).isLt⟩)) * scale) := by
  rw [piece_index x]
  pointwise [k0_pay10, lane, scale]

theorem even_plain (q : FVec Ideal S256x128 .f32) (x : S1x1x256x64.Idx) :
    @Eq EReal (k0_pay1 (truncf .bf16 (extractStridedSlice S256x64 ![0, 0] q slices_S256x128_o0_0_S256x64) bitsLt_bf16_f32) x) (q (ix2 ⟨(x 2).val, (x 2).isLt⟩ (lane 0 ⟨(x 3).val, (x 3).isLt⟩))) := by
  rw [piece_index x]
  pointwise [k0_pay1, lane]

theorem odd_plain (q : FVec Ideal S256x128 .f32) (x : S1x1x256x64.Idx) :
    @Eq EReal (k0_pay1 (truncf .bf16 (extractStridedSlice S256x64 ![0, 64] q slices_S256x128_o0_64_S256x64) bitsLt_bf16_f32) x) (q (ix2 ⟨(x 2).val, (x 2).isLt⟩ (lane 1 ⟨(x 3).val, (x 3).isLt⟩))) := by
  rw [piece_index x]
  pointwise [k0_pay1, lane]

/-- What a grid step stores: the queries, the keys and the values, by head. -/
def queryBlock (x0 : Vec Ideal S1x256x768 .f32) (x1 x2 : Vec Ideal S256x128 .f32) : Vec Ideal S1x8x256x64 .bf16 := fun y =>
  (laneTurn (fun k => x0 (ix3 0 ⟨(y 2).val, (y 2).isLt⟩ k)) (fun p => x1 (ix2 ⟨(y 2).val, (y 2).isLt⟩ p)) (fun p => x2 (ix2 ⟨(y 2).val, (y 2).isLt⟩ p))
    ⟨(y 1).val, Nat.lt_of_lt_of_le (y 1).isLt (by decide)⟩ ⟨(y 3).val, (y 3).isLt⟩ * scale : EReal)
def keyBlock (x0 : Vec Ideal S1x256x768 .f32) (x1 x2 : Vec Ideal S256x128 .f32) : Vec Ideal S1x2x256x64 .bf16 := fun y =>
  laneTurn (fun k => x0 (ix3 0 ⟨(y 2).val, (y 2).isLt⟩ k)) (fun p => x1 (ix2 ⟨(y 2).val, (y 2).isLt⟩ p)) (fun p => x2 (ix2 ⟨(y 2).val, (y 2).isLt⟩ p))
    ⟨8 + (y 1).val, Nat.add_lt_add_left (y 1).isLt 8 |>.trans (by decide)⟩ ⟨(y 3).val, (y 3).isLt⟩
def valueBlock (x0 : Vec Ideal S1x256x768 .f32) : Vec Ideal S1x2x256x64 .bf16 := fun y =>
  x0 (ix3 0 ⟨(y 2).val, (y 2).isLt⟩ (column ⟨10 + (y 1).val, Nat.add_lt_add_left (y 1).isLt 10⟩ ⟨(y 3).val, (y 3).isLt⟩))

/-- A pair's columns of the projection's tile. -/
def pairOf (x0 : Vec Ideal S1x256x768 .f32) (x1 x2 : Vec Ideal S256x128 .f32) (o : Nat) (h : S256x768.Slices ![0, o] S256x128) : FVec Ideal S256x128 .f32 :=
  k0_pay15 (extractStridedSlice S256x128 ![0, o] (k0_pay2 x0) h) (k0_pay12 x1) (k0_pay13 x2) k0_pay14

theorem pairOf_at (x0 : Vec Ideal S1x256x768 .f32) (x1 x2 : Vec Ideal S256x128 .f32) (o : Nat) (ho : S256x768.Slices ![0, o] S256x128) (h : Fin 10) (e : o = 128 * (h.val / 2)) (r : Fin 256) (d : Fin 64) :
    @Eq EReal (pairOf x0 x1 x2 o ho (ix2 r (lane (h.castLE (by omega)) d)))
      (laneTurn (fun k => x0 (ix3 0 r k)) (fun p => x1 (ix2 r p)) (fun p => x2 (ix2 r p)) (h.castLE (by omega)) d) := by
  refine head_at _ (fun k => x0 (ix3 0 r k)) x1 x2 r h d fun p => ?_
  subst e
  pointwise [k0_pay2]

theorem query_piece (x0 : Vec Ideal S1x256x768 .f32) (x1 x2 : Vec Ideal S256x128 .f32) (o : Nat) (ho : S256x768.Slices ![0, o] S256x128) (h : Fin 10) (e : o = 128 * (h.val / 2))
    (a : Fin 12) (ea : a.val % 2 = h.val % 2) (x : S1x1x256x64.Idx) (y : S1x8x256x64.Idx) (e1 : (y 1).val = h.val) (e2 : (y 2).val = (x 2).val) (e3 : (y 3).val = (x 3).val) :
    @Eq EReal (pairOf x0 x1 x2 o ho (ix2 ⟨(x 2).val, (x 2).isLt⟩ (lane a ⟨(x 3).val, (x 3).isLt⟩)) * scale) (queryBlock x0 x1 x2 y) := by
  have el : lane a ⟨(x 3).val, (x 3).isLt⟩ = lane (h.castLE (by omega)) ⟨(x 3).val, (x 3).isLt⟩ := Fin.ext (congrArg (· * 64 + (x 3).val) ea)
  rw [el, pairOf_at x0 x1 x2 o ho h e]
  unfold queryBlock
  have a1 : (⟨(y 1).val, Nat.lt_of_lt_of_le (y 1).isLt (by decide)⟩ : Fin 12) = h.castLE (by omega) := Fin.ext e1
  have a2 : (⟨(y 2).val, (y 2).isLt⟩ : Fin 256) = ⟨(x 2).val, (x 2).isLt⟩ := Fin.ext e2
  have a3 : (⟨(y 3).val, (y 3).isLt⟩ : Fin 64) = ⟨(x 3).val, (x 3).isLt⟩ := Fin.ext e3
  rw [a1, a2, a3]

theorem key_piece (x0 : Vec Ideal S1x256x768 .f32) (x1 x2 : Vec Ideal S256x128 .f32) (o : Nat) (ho : S256x768.Slices ![0, o] S256x128) (h : Fin 10) (e : o = 128 * (h.val / 2))
    (a : Fin 12) (ea : a.val % 2 = h.val % 2) (x : S1x1x256x64.Idx) (y : S1x2x256x64.Idx) (e1 : 8 + (y 1).val = h.val) (e2 : (y 2).val = (x 2).val) (e3 : (y 3).val = (x 3).val) :
    @Eq EReal (pairOf x0 x1 x2 o ho (ix2 ⟨(x 2).val, (x 2).isLt⟩ (lane a ⟨(x 3).val, (x 3).isLt⟩))) (keyBlock x0 x1 x2 y) := by
  have el : lane a ⟨(x 3).val, (x 3).isLt⟩ = lane (h.castLE (by omega)) ⟨(x 3).val, (x 3).isLt⟩ := Fin.ext (congrArg (· * 64 + (x 3).val) ea)
  rw [el, pairOf_at x0 x1 x2 o ho h e]
  unfold keyBlock
  have a1 : (⟨8 + (y 1).val, Nat.add_lt_add_left (y 1).isLt 8 |>.trans (by decide)⟩ : Fin 12) = h.castLE (by omega) := Fin.ext e1
  have a2 : (⟨(y 2).val, (y 2).isLt⟩ : Fin 256) = ⟨(x 2).val, (x 2).isLt⟩ := Fin.ext e2
  have a3 : (⟨(y 3).val, (y 3).isLt⟩ : Fin 64) = ⟨(x 3).val, (x 3).isLt⟩ := Fin.ext e3
  rw [a1, a2, a3]

theorem ld_rows (x0 : Vec Ideal S1x256x768 .f32) : View.ld x0 r0_0 = x0 := by
  simp (disch := decide) only [View.ld_unit_lit']
theorem ld_table (x : Vec Ideal S256x128 .f32) : View.ld x r0_1 = x := by
  simp (disch := decide) only [View.ld_unit_lit']

theorem query_block (x0 : Vec Ideal S1x256x768 .f32) (x1 x2 : Vec Ideal S256x128 .f32) : out0_3 x0 x1 x2 = queryBlock x0 x1 x2 := by
  funext y
  unfold_out out0_3
  rw [ld_rows, ld_table, ld_table]
  refine View.canon_apply_of_pieces (queryBlock x0 x1 x2) _ ?_ y (cover0_3 _ _ _ _ _ _ _ _ y)
  intro pc hpc
  simp only [List.mem_cons, List.not_mem_nil, or_false] at hpc
  have hx : ∀ n : Nat, n = 0 + 1 * n := fun n => by omega
  rcases hpc with rfl | rfl | rfl | rfl | rfl | rfl | rfl | rfl
  · intro x
    change k0_pay10 (pairOf x0 x1 x2 384 slices_S256x768_o0_384_S256x128) x = _
    exact (odd_scaled _ x).trans (query_piece x0 x1 x2 384 _ 7 rfl 1 rfl x _ (by show 7 + 1 * (x 1).val = 7; have : (x 1).val < 1 := (x 1).isLt; omega) (hx _).symm (hx _).symm)
  · intro x
    change k0_pay9 (extractStridedSlice S256x64 ![0, 0] (pairOf x0 x1 x2 384 slices_S256x768_o0_384_S256x128) slices_S256x128_o0_0_S256x64) x = _
    exact (even_scaled _ x).trans (query_piece x0 x1 x2 384 _ 6 rfl 0 rfl x _ (by show 6 + 1 * (x 1).val = 6; have : (x 1).val < 1 := (x 1).isLt; omega) (hx _).symm (hx _).symm)
  · intro x
    change k0_pay10 (pairOf x0 x1 x2 256 slices_S256x768_o0_256_S256x128) x = _
    exact (odd_scaled _ x).trans (query_piece x0 x1 x2 256 _ 5 rfl 1 rfl x _ (by show 5 + 1 * (x 1).val = 5; have : (x 1).val < 1 := (x 1).isLt; omega) (hx _).symm (hx _).symm)
  · intro x
    change k0_pay9 (extractStridedSlice S256x64 ![0, 0] (pairOf x0 x1 x2 256 slices_S256x768_o0_256_S256x128) slices_S256x128_o0_0_S256x64) x = _
    exact (even_scaled _ x).trans (query_piece x0 x1 x2 256 _ 4 rfl 0 rfl x _ (by show 4 + 1 * (x 1).val = 4; have : (x 1).val < 1 := (x 1).isLt; omega) (hx _).symm (hx _).symm)
  · intro x
    change k0_pay10 (pairOf x0 x1 x2 128 slices_S256x768_o0_128_S256x128) x = _
    exact (odd_scaled _ x).trans (query_piece x0 x1 x2 128 _ 3 rfl 1 rfl x _ (by show 3 + 1 * (x 1).val = 3; have : (x 1).val < 1 := (x 1).isLt; omega) (hx _).symm (hx _).symm)
  · intro x
    change k0_pay9 (extractStridedSlice S256x64 ![0, 0] (pairOf x0 x1 x2 128 slices_S256x768_o0_128_S256x128) slices_S256x128_o0_0_S256x64) x = _
    exact (even_scaled _ x).trans (query_piece x0 x1 x2 128 _ 2 rfl 0 rfl x _ (by show 2 + 1 * (x 1).val = 2; have : (x 1).val < 1 := (x 1).isLt; omega) (hx _).symm (hx _).symm)
  · intro x
    change k0_pay10 (pairOf x0 x1 x2 0 slices_S256x768_o0_0_S256x128) x = _
    exact (odd_scaled _ x).trans (query_piece x0 x1 x2 0 _ 1 rfl 1 rfl x _ (by show 1 + 1 * (x 1).val = 1; have : (x 1).val < 1 := (x 1).isLt; omega) (hx _).symm (hx _).symm)
  · intro x
    change k0_pay9 (extractStridedSlice S256x64 ![0, 0] (pairOf x0 x1 x2 0 slices_S256x768_o0_0_S256x128) slices_S256x128_o0_0_S256x64) x = _
    exact (even_scaled _ x).trans (query_piece x0 x1 x2 0 _ 0 rfl 0 rfl x _ (by show 0 + 1 * (x 1).val = 0; have : (x 1).val < 1 := (x 1).isLt; omega) (hx _).symm (hx _).symm)

theorem key_block (x0 : Vec Ideal S1x256x768 .f32) (x1 x2 : Vec Ideal S256x128 .f32) : out0_4 x0 x1 x2 = keyBlock x0 x1 x2 := by
  funext y
  unfold_out out0_4
  rw [ld_rows, ld_table, ld_table]
  refine View.canon_apply_of_pieces (keyBlock x0 x1 x2) _ ?_ y (cover0_4 _ _ y)
  intro pc hpc
  simp only [List.mem_cons, List.not_mem_nil, or_false] at hpc
  have hx : ∀ n : Nat, n = 0 + 1 * n := fun n => by omega
  rcases hpc with rfl | rfl
  · intro x
    change k0_pay1 (truncf .bf16 (extractStridedSlice S256x64 ![0, 64] (pairOf x0 x1 x2 512 slices_S256x768_o0_512_S256x128) slices_S256x128_o0_64_S256x64) bitsLt_bf16_f32) x = _
    exact (odd_plain _ x).trans (key_piece x0 x1 x2 512 _ 9 rfl 1 rfl x _ (by show 8 + (1 + 1 * (x 1).val) = 9; have : (x 1).val < 1 := (x 1).isLt; omega) (hx _).symm (hx _).symm)
  · intro x
    change k0_pay1 (truncf .bf16 (extractStridedSlice S256x64 ![0, 0] (pairOf x0 x1 x2 512 slices_S256x768_o0_512_S256x128) slices_S256x128_o0_0_S256x64) bitsLt_bf16_f32) x = _
    exact (even_plain _ x).trans (key_piece x0 x1 x2 512 _ 8 rfl 0 rfl x _ (by show 8 + (0 + 1 * (x 1).val) = 8; have : (x 1).val < 1 := (x 1).isLt; omega) (hx _).symm (hx _).symm)

theorem value_at (x0 : Vec Ideal S1x256x768 .f32) (o : Nat) (ho : S256x768.Slices ![0, o] S256x64) (h : Fin 2) (e : o = 640 + 64 * h.val) (r : Fin 256) (d : Fin 64) :
    @Eq EReal (k0_pay1 (truncf .bf16 (extractStridedSlice S256x64 ![0, o] (k0_pay2 x0) ho) bitsLt_bf16_f32) (ix4 0 0 r d)) (x0 (ix3 0 r ⟨640 + 64 * h.val + d.val, by omega⟩)) := by
  subst e
  pointwise [k0_pay1, k0_pay2]

theorem value_piece (x0 : Vec Ideal S1x256x768 .f32) (o : Nat) (ho : S256x768.Slices ![0, o] S256x64) (h : Fin 2) (e : o = 640 + 64 * h.val) (x : S1x1x256x64.Idx)
    (y : S1x2x256x64.Idx) (e1 : (y 1).val = h.val) (e2 : (y 2).val = (x 2).val) (e3 : (y 3).val = (x 3).val) :
    @Eq EReal (k0_pay1 (truncf .bf16 (extractStridedSlice S256x64 ![0, o] (k0_pay2 x0) ho) bitsLt_bf16_f32) x) (valueBlock x0 y) := by
  have a2 : (⟨(y 2).val, (y 2).isLt⟩ : Fin 256) = ⟨(x 2).val, (x 2).isLt⟩ := Fin.ext e2
  have a3 : column ⟨10 + (y 1).val, Nat.add_lt_add_left (y 1).isLt 10⟩ ⟨(y 3).val, (y 3).isLt⟩ = ⟨640 + 64 * h.val + (x 3).val, by have : (x 3).val < 64 := (x 3).isLt; omega⟩ := by
    refine Fin.ext ?_
    show 64 * (10 + (y 1).val) + (y 3).val = 640 + 64 * h.val + (x 3).val
    omega
  unfold valueBlock
  rw [a2, a3]
  exact Eq.trans (congrArg _ (piece_index x)) (value_at x0 o ho h e _ _)

theorem value_block (x0 : Vec Ideal S1x256x768 .f32) (x1 x2 : Vec Ideal S256x128 .f32) : out0_5 x0 x1 x2 = valueBlock x0 := by
  funext y
  unfold_out out0_5
  rw [ld_rows]
  refine View.canon_apply_of_pieces (valueBlock x0) _ ?_ y (cover0_5 _ _ y)
  intro pc hpc
  simp only [List.mem_cons, List.not_mem_nil, or_false] at hpc
  have hx : ∀ n : Nat, n = 0 + 1 * n := fun n => by omega
  rcases hpc with rfl | rfl
  · exact fun x => value_piece x0 704 slices_S256x768_o0_704_S256x64 1 rfl x _ (by show 1 + 1 * (x 1).val = 1; have : (x 1).val < 1 := (x 1).isLt; omega) (hx _).symm (hx _).symm
  · exact fun x => value_piece x0 640 slices_S256x768_o0_640_S256x64 0 rfl x _ (by show 0 + 1 * (x 1).val = 0; have : (x 1).val < 1 := (x 1).isLt; omega) (hx _).symm (hx _).symm

/-- The angles of a position: 16 of its row, 16 of its column. -/
def angle : FVec Ideal Cert.Reference10Ideal.S4096x32 .f32 :=
  concatenate Cert.Reference10Ideal.S4096x32 1 [⟨Cert.Reference10Ideal.S4096x16, (mulf (broadcastInDim Cert.Reference10Ideal.S4096x16 ![0, 1] Cert.Reference10Ideal.Facts₀.bcast_S4096x1_S4096x16_0_1 (broadcastInDim Cert.Reference10Ideal.S4096x1 ![0] Cert.Reference10Ideal.Facts₀.bcast_S4096_S4096x1_0 (sitofp (F := Ideal) .f32 (shapeCast _ (broadcastInDim Cert.Reference10Ideal.S64x64 ![0] Cert.Reference10Ideal.Facts₀.bcast_S64_S64x64_0 (iotaInDim Cert.Reference10Ideal.S64 32 0)) Cert.Reference10Ideal.Facts₀.shapeCasts_S64x64_S4096)))) (broadcastInDim Cert.Reference10Ideal.S4096x16 ![0, 1] Cert.Reference10Ideal.Facts₀.bcast_S1x16_S4096x16_0_1 (broadcastInDim Cert.Reference10Ideal.S1x16 ![1] Cert.Reference10Ideal.Facts₀.bcast_S16_S1x16_1 (Host.powf (broadcastInDim Cert.Reference10Ideal.S16 ![] Cert.Reference10Ideal.Facts₀.bcast_S_S16 (constant (F := Ideal) Cert.Reference10Ideal.S_ .f32 0x461C4000#32)) (Host.divf (Host.negf (sitofp (F := Ideal) .f32 (iotaInDim Cert.Reference10Ideal.S16 32 0))) (broadcastInDim Cert.Reference10Ideal.S16 ![] Cert.Reference10Ideal.Facts₀.bcast_S_S16 (constant (F := Ideal) Cert.Reference10Ideal.S_ .f32 0x41800000#32)))))))⟩, ⟨Cert.Reference10Ideal.S4096x16, (mulf (broadcastInDim Cert.Reference10Ideal.S4096x16 ![0, 1] Cert.Reference10Ideal.Facts₀.bcast_S4096x1_S4096x16_0_1 (broadcastInDim Cert.Reference10Ideal.S4096x1 ![0] Cert.Reference10Ideal.Facts₀.bcast_S4096_S4096x1_0 (sitofp (F := Ideal) .f32 (shapeCast _ (broadcastInDim Cert.Reference10Ideal.S64x64 ![0, 1] Cert.Reference10Ideal.Facts₀.bcast_S1x64_S64x64_0_1 (shapeCast _ (iotaInDim Cert.Reference10Ideal.S64 32 0) Cert.Reference10Ideal.Facts₀.shapeCasts_S64_S1x64)) Cert.Reference10Ideal.Facts₀.shapeCasts_S64x64_S4096)))) (broadcastInDim Cert.Reference10Ideal.S4096x16 ![0, 1] Cert.Reference10Ideal.Facts₀.bcast_S1x16_S4096x16_0_1 (broadcastInDim Cert.Reference10Ideal.S1x16 ![1] Cert.Reference10Ideal.Facts₀.bcast_S16_S1x16_1 (Host.powf (broadcastInDim Cert.Reference10Ideal.S16 ![] Cert.Reference10Ideal.Facts₀.bcast_S_S16 (constant (F := Ideal) Cert.Reference10Ideal.S_ .f32 0x461C4000#32)) (Host.divf (Host.negf (sitofp (F := Ideal) .f32 (iotaInDim Cert.Reference10Ideal.S16 32 0))) (broadcastInDim Cert.Reference10Ideal.S16 ![] Cert.Reference10Ideal.Facts₀.bcast_S_S16 (constant (F := Ideal) Cert.Reference10Ideal.S_ .f32 0x41800000#32)))))))⟩] Cert.Reference10Ideal.Facts₀.concatenates_S4096x16_S4096x16_S4096x32_d1

def cosines : FVec Ideal Cert.Reference10Ideal.S4096x32 .f32 := Host.cos angle
def sines : FVec Ideal Cert.Reference10Ideal.S4096x32 .f32 := Host.sin angle

/-! The tables the host prepares: the cosines four times over, and the sines with the sign of the half of the head. -/

def tableCos (q : FVec Ideal S4096x32 .f32) : FVec Ideal S4096x128 .f32 :=
  concatenate S4096x128 1 [⟨S4096x32, q⟩, ⟨S4096x32, q⟩, ⟨S4096x32, q⟩, ⟨S4096x32, q⟩] concatenates_S4096x32_S4096x32_S4096x32_S4096x32_S4096x128_d1
def tablePairs (n q : FVec Ideal S4096x32 .f32) : FVec Ideal S4096x128 .f32 :=
  concatenate S4096x128 1 [⟨S4096x32, n⟩, ⟨S4096x32, q⟩, ⟨S4096x32, n⟩, ⟨S4096x32, q⟩] concatenates_S4096x32_S4096x32_S4096x32_S4096x32_S4096x128_d1

theorem tableCos_at (q : FVec Ideal S4096x32 .f32) (l : Fin 4096) (p : Fin 128) : @Eq EReal (tableCos q (ix2 l p)) (q (ix2 l ⟨p.val % 32, by omega⟩)) := by
  pointwise [tableCos]
  split
  · exact congrArg (fun k => q (ix2 l k)) (Fin.ext (by show p.val = p.val % 32; omega))
  · split
    · exact congrArg (fun k => q (ix2 l k)) (Fin.ext (by show p.val - 32 = p.val % 32; omega))
    · split
      · exact congrArg (fun k => q (ix2 l k)) (Fin.ext (by show p.val - 32 - 32 = p.val % 32; omega))
      · exact congrArg (fun k => q (ix2 l k)) (Fin.ext (by show p.val - 32 - 32 - 32 = p.val % 32; omega))

theorem pairs_at (n q : FVec Ideal S4096x32 .f32) (l : Fin 4096) (p : Fin 128) :
    @Eq EReal (tablePairs n q (ix2 l p)) (if p.val % 64 < 32 then n (ix2 l ⟨p.val % 32, by omega⟩) else q (ix2 l ⟨p.val % 32, by omega⟩)) := by
  have hp := p.isLt
  pointwise [tablePairs]
  split
  · rw [if_pos (show p.val % 64 < 32 by omega)]
    exact congrArg (fun k => n (ix2 l k)) (Fin.ext (by show p.val = p.val % 32; omega))
  · split
    · rw [if_neg (show ¬p.val % 64 < 32 by omega)]
      exact congrArg (fun k => q (ix2 l k)) (Fin.ext (by show p.val - 32 = p.val % 32; omega))
    · split
      · rw [if_pos (show p.val % 64 < 32 by omega)]
        exact congrArg (fun k => n (ix2 l k)) (Fin.ext (by show p.val - 32 - 32 = p.val % 32; omega))
      · rw [if_neg (show ¬p.val % 64 < 32 by omega)]
        exact congrArg (fun k => q (ix2 l k)) (Fin.ext (by show p.val - 32 - 32 - 32 = p.val % 32; omega))

variable (m : (ℓ : Loc nD τ sig) → Buf (Elt Ideal) ℓ) (c : Dev nD)

set_option maxHeartbeats 4000000 in
theorem cos_read : Gen.V m c main_v28 = tableCos cosines := by
  show StableHlo.after hostOps0 (fun b => m (c, b)) (Proc.devRef .tc main_v28) = _
  after_reads_simp
  rfl

set_option maxHeartbeats 4000000 in
theorem sin_read : Gen.V m c main_v31 = tablePairs (Host.negf sines) sines := by
  show StableHlo.after hostOps0 (fun b => m (c, b)) (Proc.devRef .tc main_v31) = _
  after_reads_simp
  rfl

theorem x_at (t : Fin cfg0.N) (x : Vec Ideal S4x4096x768 .f32) (hx : m ((c : Thread nD τ).loc main_arg0) = x) (r : Fin 256) (k : Fin 768) :
    @Eq EReal (iblk m c 0 t (ix3 0 r k)) (x (ix3 (batch t) (position t r) k)) := by
  have e1 : iblk m c 0 t (ix3 0 r k) = Gen.V m c main_arg0 (ix3 (batch t) (position t r) k) := by blk_ext [iblk, idx t, batch, position]
  subst hx
  exact e1.trans (congrFun (V_main_arg0 m c) _)

theorem cos_at (t : Fin cfg0.N) (r : Fin 256) (p : Fin 128) :
    @Eq EReal (iblk m c 1 t (ix2 r p)) (cosines (ix2 (position t r) ⟨p.val % 32, by omega⟩)) := by
  have e1 : iblk m c 1 t (ix2 r p) = Gen.V m c main_v28 (ix2 (position t r) p) := by blk_ext [iblk, idx t, position]
  exact e1.trans ((congrFun (cos_read m c) _).trans (tableCos_at cosines _ p))

theorem sin_at (t : Fin cfg0.N) (r : Fin 256) (p : Fin 128) :
    @Eq EReal (iblk m c 2 t (ix2 r p)) (if p.val % 64 < 32 then -sines (ix2 (position t r) ⟨p.val % 32, by omega⟩) else sines (ix2 (position t r) ⟨p.val % 32, by omega⟩)) := by
  have e1 : iblk m c 2 t (ix2 r p) = Gen.V m c main_v31 (ix2 (position t r) p) := by blk_ext [iblk, idx t, position]
  exact e1.trans ((congrFun (sin_read m c) _).trans (pairs_at (Host.negf sines) sines _ p))

/-- A tile's entry turned is the position's. -/
theorem laneTurn_eq (t : Fin cfg0.N) (x : Vec Ideal S4x4096x768 .f32) (hx : m ((c : Thread nD τ).loc main_arg0) = x) (r : Fin 256) (h : Fin 12) (d : Fin 64) :
    laneTurn (fun k => iblk m c 0 t (ix3 0 r k)) (fun p => iblk m c 1 t (ix2 r p)) (fun p => iblk m c 2 t (ix2 r p)) h d
      = turn (fun k => x (ix3 (batch t) (position t r) k)) (fun k => cosines (ix2 (position t r) k)) (fun k => sines (ix2 (position t r) k)) h d := by
  unfold laneTurn turn
  beta_reduce
  rw [x_at m c t x hx, x_at m c t x hx, cos_at, sin_at]
  have e : (⟨(lane h d).val % 32, by omega⟩ : Fin 32) = angleOf d := Fin.ext (by show (h.val % 2 * 64 + d.val) % 32 = d.val % 32; omega)
  have el : ((lane h d).val % 64 < 32) = (d.val < 32) := by
    show ((h.val % 2 * 64 + d.val) % 64 < 32) = (d.val < 32)
    rw [show (h.val % 2 * 64 + d.val) % 64 = d.val by omega]
  rw [e]
  simp only [el]

/-- The results as arrays: the queries, the keys and the values. -/
def queryEntries (x : Vec Ideal S4x4096x768 .f32) : Vec Ideal S4x8x4096x64 .bf16 := fun i =>
  (turn (fun k => x (ix3 ⟨(i 0).val, (i 0).isLt⟩ ⟨(i 2).val, (i 2).isLt⟩ k)) (fun k => cosines (ix2 ⟨(i 2).val, (i 2).isLt⟩ k)) (fun k => sines (ix2 ⟨(i 2).val, (i 2).isLt⟩ k))
    ⟨(i 1).val, Nat.lt_of_lt_of_le (i 1).isLt (by decide)⟩ ⟨(i 3).val, (i 3).isLt⟩ * scale : EReal)
def keyEntries (x : Vec Ideal S4x4096x768 .f32) : Vec Ideal S4x2x4096x64 .bf16 := fun i =>
  turn (fun k => x (ix3 ⟨(i 0).val, (i 0).isLt⟩ ⟨(i 2).val, (i 2).isLt⟩ k)) (fun k => cosines (ix2 ⟨(i 2).val, (i 2).isLt⟩ k)) (fun k => sines (ix2 ⟨(i 2).val, (i 2).isLt⟩ k))
    ⟨8 + (i 1).val, Nat.add_lt_add_left (i 1).isLt 8 |>.trans (by decide)⟩ ⟨(i 3).val, (i 3).isLt⟩
def valueEntries (x : Vec Ideal S4x4096x768 .f32) : Vec Ideal S4x2x4096x64 .bf16 := fun i =>
  x (ix3 ⟨(i 0).val, (i 0).isLt⟩ ⟨(i 2).val, (i 2).isLt⟩ (column ⟨10 + (i 1).val, Nat.add_lt_add_left (i 1).isLt 10⟩ ⟨(i 3).val, (i 3).isLt⟩))

theorem query_final (x : Vec Ideal S4x4096x768 .f32) (hx : m ((c : Thread nD τ).loc main_arg0) = x) :
    (dats m 0 c).arrAt 3 cfg0.N = queryEntries x := by
  refine (dats m 0 c).arrAt_eq_of_covers 3 _ (by decide +kernel) fun t _ i => ?_
  blk_simp
  rw [after0_3]
  refine (congrFun (query_block _ _ _) i).trans ?_
  unfold queryBlock queryEntries
  refine (congrArg (· * scale) (laneTurn_eq m c t x hx _ _ _)).trans ?_
  have ht := points t
  have hi0 : (i 0).val < 1 := (i 0).isLt
  have hi1 : (i 1).val < 8 := (i 1).isLt
  have hi2 : (i 2).val < 256 := (i 2).isLt
  have hi3 : (i 3).val < 64 := (i 3).isLt
  blk_simp [idx t, batch, position]

theorem key_final (x : Vec Ideal S4x4096x768 .f32) (hx : m ((c : Thread nD τ).loc main_arg0) = x) :
    (dats m 0 c).arrAt 4 cfg0.N = keyEntries x := by
  refine (dats m 0 c).arrAt_eq_of_covers 4 _ (by decide +kernel) fun t _ i => ?_
  blk_simp
  rw [after0_4]
  refine (congrFun (key_block _ _ _) i).trans ?_
  unfold keyBlock keyEntries
  refine (laneTurn_eq m c t x hx _ _ _).trans ?_
  have ht := points t
  have hi0 : (i 0).val < 1 := (i 0).isLt
  have hi1 : (i 1).val < 2 := (i 1).isLt
  have hi2 : (i 2).val < 256 := (i 2).isLt
  have hi3 : (i 3).val < 64 := (i 3).isLt
  blk_simp [idx t, batch, position]

theorem value_final (x : Vec Ideal S4x4096x768 .f32) (hx : m ((c : Thread nD τ).loc main_arg0) = x) :
    (dats m 0 c).arrAt 5 cfg0.N = valueEntries x := by
  refine (dats m 0 c).arrAt_eq_of_covers 5 _ (by decide +kernel) fun t _ i => ?_
  blk_simp
  rw [after0_5]
  refine (congrFun (value_block _ _ _) i).trans ?_
  unfold valueBlock valueEntries
  refine (x_at m c t x hx _ _).trans ?_
  have ht := points t
  have hi0 : (i 0).val < 1 := (i 0).isLt
  have hi1 : (i 1).val < 2 := (i 1).isLt
  have hi2 : (i 2).val < 256 := (i 2).isLt
  have hi3 : (i 3).val < 64 := (i 3).isLt
  blk_simp [idx t, batch, position]

/-- The reference's rotation of one head: the first half's `x c - y s`, then the second half's. -/
def rotated (x : Fin 64 → EReal) (co si : Fin 32 → EReal) (d : Fin 64) : EReal :=
  if h : d.val < 32 then x ⟨d.val, by omega⟩ * co ⟨d.val, h⟩ - x ⟨32 + d.val, by omega⟩ * si ⟨d.val, h⟩
  else x ⟨d.val - 32, by omega⟩ * si ⟨d.val - 32, by omega⟩ + x ⟨32 + (d.val - 32), by omega⟩ * co ⟨d.val - 32, by omega⟩

/-- The kernel's turn is the reference's rotation of the head's entries. -/
theorem turn_rotated (x : Fin 768 → EReal) (co si : Fin 32 → EReal) (h : Fin 12) (d : Fin 64) :
    rotated (fun e => x (column h e)) co si d = turn x co si h d := by
  unfold rotated turn
  by_cases hd : d.val < 32
  · rw [dif_pos hd, if_pos hd, mul_neg, sub_eq_add_neg]
    have ea : angleOf d = ⟨d.val, hd⟩ := Fin.ext (by show d.val % 32 = d.val; omega)
    have ep : partner d = ⟨32 + d.val, by omega⟩ := Fin.ext (by show (d.val + 32) % 64 = 32 + d.val; omega)
    rw [ea, ep]
  · rw [dif_neg hd, if_neg hd, add_comm]
    have ea : angleOf d = ⟨d.val - 32, by omega⟩ := Fin.ext (by show d.val % 32 = d.val - 32; omega)
    have ep : partner d = ⟨d.val - 32, by omega⟩ := Fin.ext (by show (d.val + 32) % 64 = d.val - 32; omega)
    have ed : (⟨32 + (d.val - 32), by omega⟩ : Fin 64) = d := Fin.ext (by show 32 + (d.val - 32) = d.val; omega)
    rw [ea, ep, ed]

/-- The reference's rotation of 8 heads. -/
def turned8 (t : FVec Ideal Cert.Reference10Ideal.S4x4096x8x64 .f32) (co si : FVec Ideal Cert.Reference10Ideal.S4096x32 .f32) : FVec Ideal Cert.Reference10Ideal.S4x4096x8x64 .f32 :=
  concatenate Cert.Reference10Ideal.S4x4096x8x64 3 [⟨Cert.Reference10Ideal.S4x4096x8x32, (subf (mulf (extractStridedSlice Cert.Reference10Ideal.S4x4096x8x32 ![0, 0, 0, 0] t Cert.Reference10Ideal.Facts₀.slices_S4x4096x8x64_S4x4096x8x32_0_0_0_0) (broadcastInDim Cert.Reference10Ideal.S4x4096x8x32 ![0, 1, 2, 3] Cert.Reference10Ideal.Facts₀.bcast_S1x4096x1x32_S4x4096x8x32_0_1_2_3 (broadcastInDim Cert.Reference10Ideal.S1x4096x1x32 ![1, 3] Cert.Reference10Ideal.Facts₀.bcast_S4096x32_S1x4096x1x32_1_3 co))) (mulf (extractStridedSlice Cert.Reference10Ideal.S4x4096x8x32 ![0, 0, 0, 32] t Cert.Reference10Ideal.Facts₀.slices_S4x4096x8x64_S4x4096x8x32_0_0_0_32) (broadcastInDim Cert.Reference10Ideal.S4x4096x8x32 ![0, 1, 2, 3] Cert.Reference10Ideal.Facts₀.bcast_S1x4096x1x32_S4x4096x8x32_0_1_2_3 (broadcastInDim Cert.Reference10Ideal.S1x4096x1x32 ![1, 3] Cert.Reference10Ideal.Facts₀.bcast_S4096x32_S1x4096x1x32_1_3 si))))⟩, ⟨Cert.Reference10Ideal.S4x4096x8x32, (addf (mulf (extractStridedSlice Cert.Reference10Ideal.S4x4096x8x32 ![0, 0, 0, 0] t Cert.Reference10Ideal.Facts₀.slices_S4x4096x8x64_S4x4096x8x32_0_0_0_0) (broadcastInDim Cert.Reference10Ideal.S4x4096x8x32 ![0, 1, 2, 3] Cert.Reference10Ideal.Facts₀.bcast_S1x4096x1x32_S4x4096x8x32_0_1_2_3 (broadcastInDim Cert.Reference10Ideal.S1x4096x1x32 ![1, 3] Cert.Reference10Ideal.Facts₀.bcast_S4096x32_S1x4096x1x32_1_3 si))) (mulf (extractStridedSlice Cert.Reference10Ideal.S4x4096x8x32 ![0, 0, 0, 32] t Cert.Reference10Ideal.Facts₀.slices_S4x4096x8x64_S4x4096x8x32_0_0_0_32) (broadcastInDim Cert.Reference10Ideal.S4x4096x8x32 ![0, 1, 2, 3] Cert.Reference10Ideal.Facts₀.bcast_S1x4096x1x32_S4x4096x8x32_0_1_2_3 (broadcastInDim Cert.Reference10Ideal.S1x4096x1x32 ![1, 3] Cert.Reference10Ideal.Facts₀.bcast_S4096x32_S1x4096x1x32_1_3 co))))⟩] Cert.Reference10Ideal.Facts₀.concatenates_S4x4096x8x32_S4x4096x8x32_S4x4096x8x64_d3

theorem turned8_entry (t : FVec Ideal Cert.Reference10Ideal.S4x4096x8x64 .f32) (co si : FVec Ideal Cert.Reference10Ideal.S4096x32 .f32) (b : Fin 4) (l : Fin 4096) (h : Fin 8) (d : Fin 64) :
    @Eq EReal (turned8 t co si (ix4 b l h d)) (rotated (fun e => t (ix4 b l h e)) (fun k => co (ix2 l k)) (fun k => si (ix2 l k)) d) := by
  unfold rotated
  pointwise [turned8]

/-- The reference's rotation of 2 heads. -/
def turned2 (t : FVec Ideal Cert.Reference10Ideal.S4x4096x2x64 .f32) (co si : FVec Ideal Cert.Reference10Ideal.S4096x32 .f32) : FVec Ideal Cert.Reference10Ideal.S4x4096x2x64 .f32 :=
  concatenate Cert.Reference10Ideal.S4x4096x2x64 3 [⟨Cert.Reference10Ideal.S4x4096x2x32, (subf (mulf (extractStridedSlice Cert.Reference10Ideal.S4x4096x2x32 ![0, 0, 0, 0] t Cert.Reference10Ideal.Facts₀.slices_S4x4096x2x64_S4x4096x2x32_0_0_0_0) (broadcastInDim Cert.Reference10Ideal.S4x4096x2x32 ![0, 1, 2, 3] Cert.Reference10Ideal.Facts₀.bcast_S1x4096x1x32_S4x4096x2x32_0_1_2_3 (broadcastInDim Cert.Reference10Ideal.S1x4096x1x32 ![1, 3] Cert.Reference10Ideal.Facts₀.bcast_S4096x32_S1x4096x1x32_1_3 co))) (mulf (extractStridedSlice Cert.Reference10Ideal.S4x4096x2x32 ![0, 0, 0, 32] t Cert.Reference10Ideal.Facts₀.slices_S4x4096x2x64_S4x4096x2x32_0_0_0_32) (broadcastInDim Cert.Reference10Ideal.S4x4096x2x32 ![0, 1, 2, 3] Cert.Reference10Ideal.Facts₀.bcast_S1x4096x1x32_S4x4096x2x32_0_1_2_3 (broadcastInDim Cert.Reference10Ideal.S1x4096x1x32 ![1, 3] Cert.Reference10Ideal.Facts₀.bcast_S4096x32_S1x4096x1x32_1_3 si))))⟩, ⟨Cert.Reference10Ideal.S4x4096x2x32, (addf (mulf (extractStridedSlice Cert.Reference10Ideal.S4x4096x2x32 ![0, 0, 0, 0] t Cert.Reference10Ideal.Facts₀.slices_S4x4096x2x64_S4x4096x2x32_0_0_0_0) (broadcastInDim Cert.Reference10Ideal.S4x4096x2x32 ![0, 1, 2, 3] Cert.Reference10Ideal.Facts₀.bcast_S1x4096x1x32_S4x4096x2x32_0_1_2_3 (broadcastInDim Cert.Reference10Ideal.S1x4096x1x32 ![1, 3] Cert.Reference10Ideal.Facts₀.bcast_S4096x32_S1x4096x1x32_1_3 si))) (mulf (extractStridedSlice Cert.Reference10Ideal.S4x4096x2x32 ![0, 0, 0, 32] t Cert.Reference10Ideal.Facts₀.slices_S4x4096x2x64_S4x4096x2x32_0_0_0_32) (broadcastInDim Cert.Reference10Ideal.S4x4096x2x32 ![0, 1, 2, 3] Cert.Reference10Ideal.Facts₀.bcast_S1x4096x1x32_S4x4096x2x32_0_1_2_3 (broadcastInDim Cert.Reference10Ideal.S1x4096x1x32 ![1, 3] Cert.Reference10Ideal.Facts₀.bcast_S4096x32_S1x4096x1x32_1_3 co))))⟩] Cert.Reference10Ideal.Facts₀.concatenates_S4x4096x2x32_S4x4096x2x32_S4x4096x2x64_d3

theorem turned2_entry (t : FVec Ideal Cert.Reference10Ideal.S4x4096x2x64 .f32) (co si : FVec Ideal Cert.Reference10Ideal.S4096x32 .f32) (b : Fin 4) (l : Fin 4096) (h : Fin 2) (d : Fin 64) :
    @Eq EReal (turned2 t co si (ix4 b l h d)) (rotated (fun e => t (ix4 b l h e)) (fun k => co (ix2 l k)) (fun k => si (ix2 l k)) d) := by
  unfold rotated
  pointwise [turned2]

/-! The three slices of the projection, split into heads, and the results: heads before positions, rounded. -/

def querySplit (x : FVec Ideal Cert.Reference10Ideal.S4x4096x768 .f32) : FVec Ideal Cert.Reference10Ideal.S4x4096x8x64 .f32 :=
  shapeCast _ (extractStridedSlice Cert.Reference10Ideal.S4x4096x512 ![0, 0, 0] x Cert.Reference10Ideal.Facts₀.slices_S4x4096x768_S4x4096x512_0_0_0) Cert.Reference10Ideal.Facts₀.shapeCasts_S4x4096x512_S4x4096x8x64
def keySplit (x : FVec Ideal Cert.Reference10Ideal.S4x4096x768 .f32) : FVec Ideal Cert.Reference10Ideal.S4x4096x2x64 .f32 :=
  shapeCast _ (extractStridedSlice Cert.Reference10Ideal.S4x4096x128 ![0, 0, 512] x Cert.Reference10Ideal.Facts₀.slices_S4x4096x768_S4x4096x128_0_0_512) Cert.Reference10Ideal.Facts₀.shapeCasts_S4x4096x128_S4x4096x2x64
def valueSplit (x : FVec Ideal Cert.Reference10Ideal.S4x4096x768 .f32) : FVec Ideal Cert.Reference10Ideal.S4x4096x2x64 .f32 :=
  shapeCast _ (extractStridedSlice Cert.Reference10Ideal.S4x4096x128 ![0, 0, 640] x Cert.Reference10Ideal.Facts₀.slices_S4x4096x768_S4x4096x128_0_0_640) Cert.Reference10Ideal.Facts₀.shapeCasts_S4x4096x128_S4x4096x2x64

theorem querySplit_entry (x : FVec Ideal Cert.Reference10Ideal.S4x4096x768 .f32) (b : Fin 4) (l : Fin 4096) (h : Fin 8) (d : Fin 64) :
    @Eq EReal (querySplit x (ix4 b l h d)) (x (ix3 b l (column ⟨h.val, by omega⟩ d))) := by
  pointwise [querySplit, column]
  exact congrArg (fun k => x (ix3 b l k)) (Fin.ext (by show h.val * 64 + d.val = 64 * h.val + d.val; omega))
theorem keySplit_entry (x : FVec Ideal Cert.Reference10Ideal.S4x4096x768 .f32) (b : Fin 4) (l : Fin 4096) (h : Fin 2) (d : Fin 64) :
    @Eq EReal (keySplit x (ix4 b l h d)) (x (ix3 b l (column ⟨8 + h.val, by omega⟩ d))) := by
  pointwise [keySplit, column]
  exact congrArg (fun k => x (ix3 b l k)) (Fin.ext (by show 512 + (h.val * 64 + d.val) = 64 * (8 + h.val) + d.val; omega))
theorem valueSplit_entry (x : FVec Ideal Cert.Reference10Ideal.S4x4096x768 .f32) (b : Fin 4) (l : Fin 4096) (h : Fin 2) (d : Fin 64) :
    @Eq EReal (valueSplit x (ix4 b l h d)) (x (ix3 b l (column ⟨10 + h.val, by omega⟩ d))) := by
  pointwise [valueSplit, column]
  exact congrArg (fun k => x (ix3 b l k)) (Fin.ext (by show 640 + (h.val * 64 + d.val) = 64 * (10 + h.val) + d.val; omega))

def queryResult (t : FVec Ideal Cert.Reference10Ideal.S4x4096x8x64 .f32) : FVec Ideal Cert.Reference10Ideal.S4x8x4096x64 .bf16 :=
  truncf .bf16 (transpose Cert.Reference10Ideal.S4x8x4096x64 [0, 2, 1, 3] (mulf t (broadcastInDim Cert.Reference10Ideal.S4x4096x8x64 ![] Cert.Reference10Ideal.Facts₀.bcast_S_S4x4096x8x64 (constant (F := Ideal) Cert.Reference10Ideal.S_ .f32 0x3E000000#32))) Cert.Reference10Ideal.Facts₀.transposes_S4x4096x8x64_S4x8x4096x64_0_2_1_3) Cert.Reference10Ideal.Facts₀.bitsLt_bf16_f32
def pairResult (t : FVec Ideal Cert.Reference10Ideal.S4x4096x2x64 .f32) : FVec Ideal Cert.Reference10Ideal.S4x2x4096x64 .bf16 :=
  truncf .bf16 (transpose Cert.Reference10Ideal.S4x2x4096x64 [0, 2, 1, 3] t Cert.Reference10Ideal.Facts₀.transposes_S4x4096x2x64_S4x2x4096x64_0_2_1_3) Cert.Reference10Ideal.Facts₀.bitsLt_bf16_f32

theorem queryResult_entry (t : FVec Ideal Cert.Reference10Ideal.S4x4096x8x64 .f32) (b : Fin 4) (h : Fin 8) (l : Fin 4096) (d : Fin 64) :
    @Eq EReal (queryResult t (ix4 b h l d)) (t (ix4 b l h d) * scale) := by
  pointwise [queryResult, scale]
theorem pairResult_entry (t : FVec Ideal Cert.Reference10Ideal.S4x4096x2x64 .f32) (b : Fin 4) (h : Fin 2) (l : Fin 4096) (d : Fin 64) :
    @Eq EReal (pairResult t (ix4 b h l d)) (t (ix4 b l h d)) := by
  pointwise [pairResult]

theorem index_eq (i : (Cert.Reference10Ideal.S4x8x4096x64).Idx) : i = ix4 ⟨(i 0).val, (i 0).isLt⟩ ⟨(i 1).val, (i 1).isLt⟩ ⟨(i 2).val, (i 2).isLt⟩ ⟨(i 3).val, (i 3).isLt⟩ := by
  funext a
  fin_cases a <;> rfl
theorem pair_index_eq (i : (Cert.Reference10Ideal.S4x2x4096x64).Idx) : i = ix4 ⟨(i 0).val, (i 0).isLt⟩ ⟨(i 1).val, (i 1).isLt⟩ ⟨(i 2).val, (i 2).isLt⟩ ⟨(i 3).val, (i 3).isLt⟩ := by
  funext a
  fin_cases a <;> rfl

theorem query_entries (x : Vec Ideal S4x4096x768 .f32) : queryResult (turned8 (querySplit x) cosines sines) = queryEntries x := by
  funext i
  refine (congrArg _ (index_eq i)).trans ((queryResult_entry _ _ _ _ _).trans ?_)
  unfold queryEntries
  refine congrArg (· * scale) ((turned8_entry _ _ _ _ _ _ _).trans ?_)
  rw [← turn_rotated]
  exact congrArg (fun f => rotated f _ _ _) (funext fun e => querySplit_entry x _ _ _ e)

theorem key_entries (x : Vec Ideal S4x4096x768 .f32) : pairResult (turned2 (keySplit x) cosines sines) = keyEntries x := by
  funext i
  refine (congrArg _ (pair_index_eq i)).trans ((pairResult_entry _ _ _ _ _).trans ?_)
  unfold keyEntries
  refine (turned2_entry _ _ _ _ _ _ _).trans ?_
  rw [← turn_rotated]
  exact congrArg (fun f => rotated f _ _ _) (funext fun e => keySplit_entry x _ _ _ e)

theorem value_entries (x : Vec Ideal S4x4096x768 .f32) : pairResult (valueSplit x) = valueEntries x := by
  funext i
  exact (congrArg _ (pair_index_eq i)).trans ((pairResult_entry _ _ _ _ _).trans (valueSplit_entry x _ _ _ _))

/-- The run of the call, its three results named. -/
theorem run_results (ρ : Dev nD → PrngReg) : θ_run defs (onTc (τ := τ) (main (F := Ideal))) ⟨m, fun _ => 0, ρ⟩ fun r => ∀ c : Dev nD,
      r.2.mem ((c : Thread nD τ).loc main_v32_0) = queryEntries (m ((c : Thread nD τ).loc main_arg0))
      ∧ r.2.mem ((c : Thread nD τ).loc main_v32_1) = keyEntries (m ((c : Thread nD τ).loc main_arg0))
      ∧ r.2.mem ((c : Thread nD τ).loc main_v32_2) = valueEntries (m ((c : Thread nD τ).loc main_arg0))
      ∧ r.2.mem ((c : Thread nD τ).loc main_arg0) = m ((c : Thread nD τ).loc main_arg0) :=
  (θ_run defs _ _).mono (fun r h c => ⟨((h c).1 3).trans (query_final m c _ rfl), ((h c).1 4).trans (key_final m c _ rfl), ((h c).1 5).trans (value_final m c _ rfl),
      ((h c).1 0).trans (((dats m 0 c).arrAt_in 0 rfl _).trans ((A_eq m c 0).trans (V_main_arg0 m c)))⟩)
    (run_main m ρ)

theorem rotary_value : Cert.algebraic_Kernel10Ideal_Reference10Ideal (hKernel10Ideal := Cert.Kernel10Ideal.Gen.facts) (hReference10Ideal := Cert.Reference10Ideal.Gen.facts) := by
  intro m g m' g' hpre hagree
  refine ⟨_, _, _, run_results m g,
    (θ_run Cert.Reference10Ideal.defs _ _).mono (fun r h c => ⟨(h c).1.trans ?_, (h c).2.1.trans ?_, (h c).2.2.1.trans ?_, (h c).2.2.2⟩) (Cert.Reference10Ideal.Value.run m' g')⟩
  · unfold Cert.Reference10Ideal.Value.res_main_v67
    rw [hagree c]
    have e := query_entries (m ((c : Thread nD τ).loc main_arg0))
    unfold queryResult turned8 querySplit cosines sines angle at e
    exact e
  · unfold Cert.Reference10Ideal.Value.res_main_v69
    rw [hagree c]
    have e := key_entries (m ((c : Thread nD τ).loc main_arg0))
    unfold pairResult turned2 keySplit cosines sines angle at e
    exact e
  · rw [hagree c]
    have e := value_entries (m ((c : Thread nD τ).loc main_arg0))
    unfold pairResult valueSplit at e
    exact e

end Cert.RotaryHeads

end
-- ==== Proof.ContextAttention.lean ====
module

public import proofs.«01_k».proof.Defs
public import proofs.«01_k».proof.Proof.Agree
public import proofs.«01_k».proof.Proof.Finite
public import proofs.«01_k».proof.Proof.Gen.Kernel11Ideal.Value
public import proofs.«01_k».proof.Proof.Gen.Reference11Ideal.Run
public import proofs.«01_k».proof.Proof.Gen.Pre_finite_context
public import Idealize.ShloMosaic.Lib.Pipeline.ValueKit
public import Idealize.ShloMosaic.Lib.Pointwise

@[expose] public section

set_option maxRecDepth 16384

noncomputable section

namespace Cert.ContextAttention

open Cert.Kernel11Ideal Cert.Kernel11Ideal.Gen Idealize.ShloMosaic Idealize.ShloMosaic.TcCoe Idealize.SL.Sem
open Cert.Attention (rowMax rowAttn refAttn rowAttn_eq select_heads eight negInf scaled_sum real_sum)

/-! The attention of the context tokens: the same kernel without local keys, so each query reads the 256 context keys and the sink.
First what one grid step stores. -/

theorem scores0 (q : Vec Ideal S1x4x128x64 .bf16) (k : Vec Ideal S1x1x256x64 .bf16) (t : Fin 4) (r : Fin 128) (j : Fin 256) :
    k0_pay3 (F := Ideal) q k (ix2 ⟨t.val * 128 + r.val, by omega⟩ j) = ∑ e : Fin 64, q (ix4 0 t r e) * k (ix4 0 0 j e) := by
  pointwise [k0_pay3]

theorem scores1 (q : Vec Ideal S1x4x128x64 .bf16) (k : Vec Ideal S1x1x256x64 .bf16) (t : Fin 4) (r : Fin 128) (j : Fin 256) :
    k0_pay17 (F := Ideal) q k (ix2 ⟨t.val * 128 + r.val, by omega⟩ j) = ∑ e : Fin 64, q (ix4 0 t r e) * k (ix4 0 0 j e) := by
  pointwise [k0_pay17]

theorem values0 (v : Vec Ideal S1x1x256x64 .bf16) (j : Fin 256) (d : Fin 64) : k0_pay2 (F := Ideal) v (ix2 j d) = v (ix4 0 0 j d) := by
  pointwise [k0_pay2]

theorem values1 (v : Vec Ideal S1x1x256x64 .bf16) (j : Fin 256) (d : Fin 64) : k0_pay16 (F := Ideal) v (ix2 j d) = v (ix4 0 0 j d) := by
  pointwise [k0_pay16]

/-- The sinks' column of the first group of heads. -/
theorem sink0 (z0 z1 z2 z3 : Elt Ideal .f32) (t : Fin 4) (r : Fin 128)
    (i : IVec S512x1 32) (hi : i = iota .tc S512x1 32 [0] iota_S512x1_d0_w32) :
    k0_pay9 (F := Ideal) i (k0_pay6 i k0_pay4 k0_pay5 z0 z1) 128#32 (k0_pay7 i) (k0_pay8 i) (Scalar.extui (Scalar.cmpi .sgt 128#32 0#32)) (Scalar.extui (Scalar.cmpi .slt 128#32 0#32)) z2 z3
      (ix2 ⟨t.val * 128 + r.val, by omega⟩ 0) = ![z0, z1, z2, z3] t := by
  subst hi
  pointwise [k0_pay9, k0_pay6, k0_pay4, k0_pay5, k0_pay7, k0_pay8]
  exact select_heads z0 z1 z2 z3 t r

/-- The last step of the second group's column, which the kernel takes together with the softmax. -/
def column (i : IVec S512x1 32) (x : FVec Ideal S512x1 .f32) (w : IVec S512x1 32) (d : IVec S512x1 1) (h : IVec S512x1 32) (z : Elt Ideal .f32) : FVec Ideal S512x1 .f32 :=
  select (cmpi .eq (select (andi d (cmpi .ne (remsi i h) (broadcast S512x1 0#32))) (subi w (broadcast S512x1 1#32)) w) (broadcast S512x1 3#32)) (broadcast S512x1 z) x

theorem sink1 (z0 z1 z2 z3 : Elt Ideal .f32) (t : Fin 4) (r : Fin 128)
    (i : IVec S512x1 32) (hi : i = iota .tc S512x1 32 [0] iota_S512x1_d0_w32) :
    column i (k0_pay22 i (k0_pay21 i k0_pay18 128#32 k0_pay19 k0_pay20 (Scalar.extui (Scalar.cmpi .sgt 128#32 0#32)) 0#32 z0 z1) z2) (k0_pay23 i) (k0_pay24 i) k0_pay25 z3
      (ix2 ⟨t.val * 128 + r.val, by omega⟩ 0) = ![z0, z1, z2, z3] t := by
  subst hi
  pointwise [column, k0_pay22, k0_pay21, k0_pay18, k0_pay19, k0_pay20, k0_pay23, k0_pay24, k0_pay25]
  exact select_heads z0 z1 z2 z3 t r

/-- A group's quotient. -/
theorem soft0 (V : FVec Ideal S256x64 .bf16) (S : FVec Ideal S512x256 .f32) (a : FVec Ideal S512x1 .f32) (r : Fin 512) (d : Fin 64) :
    k0_pay11 (F := Ideal) V S a (k0_pay10 S) (ix2 r d) = rowAttn (fun k => S (ix2 r k)) (a (ix2 r 0)) (fun k => V (ix2 k d)) := by
  pointwise [k0_pay11, k0_pay10]
  rw [negInf]
  rfl

/-- Two groups' quotients cut into heads and put side by side, in the result's layout. -/
def joined (A B : FVec Ideal S512x64 .f32) : FVec Ideal S1x128x512 .bf16 :=
  shapeCast S1x128x512 (truncf .bf16 (concatenate S128x512 1 [
    ⟨S128x64, extractStridedSlice S128x64 ![0, 0] A slices_S512x64_o0_0_S128x64⟩, ⟨S128x64, extractStridedSlice S128x64 ![128, 0] A slices_S512x64_o128_0_S128x64⟩,
    ⟨S128x64, extractStridedSlice S128x64 ![256, 0] A slices_S512x64_o256_0_S128x64⟩, ⟨S128x64, extractStridedSlice S128x64 ![384, 0] A slices_S512x64_o384_0_S128x64⟩,
    ⟨S128x64, extractStridedSlice S128x64 ![0, 0] B slices_S512x64_o0_0_S128x64⟩, ⟨S128x64, extractStridedSlice S128x64 ![128, 0] B slices_S512x64_o128_0_S128x64⟩,
    ⟨S128x64, extractStridedSlice S128x64 ![256, 0] B slices_S512x64_o256_0_S128x64⟩, ⟨S128x64, extractStridedSlice S128x64 ![384, 0] B slices_S512x64_o384_0_S128x64⟩]
    concatenates_S128x64_S128x64_S128x64_S128x64_S128x64_S128x64_S128x64_S128x64_S128x512_d1) bitsLt_bf16_f32) shapeCasts_S128x512_S1x128x512

theorem joined_at (A B : FVec Ideal S512x64 .f32) (r : Fin 128) (c : Fin 512) :
    @Eq EReal (joined A B (ix3 0 r c)) (if h : c.val < 256 then A (ix2 ⟨c.val / 64 * 128 + r.val, by omega⟩ ⟨c.val % 64, by omega⟩)
      else B (ix2 ⟨(c.val - 256) / 64 * 128 + r.val, by omega⟩ ⟨c.val % 64, by omega⟩)) := by
  pointwise [joined]
  exact eight (fun ρ d => A (ix2 ρ d)) (fun ρ d => B (ix2 ρ d)) r c

/-- What the kernel stores: the second group's quotient is the first group's text over its own operands. -/
theorem store (v6 : FVec Ideal S256x64 .bf16) (v7 : FVec Ideal S512x256 .f32) (a : FVec Ideal S512x1 .f32) (b : FVec Ideal S512 .f32)
    (V : FVec Ideal S256x64 .bf16) (S : FVec Ideal S512x256 .f32) (i : IVec S512x1 32) (x : FVec Ideal S512x1 .f32) (w : IVec S512x1 32) (d : IVec S512x1 1) (h : IVec S512x1 32) (z : Elt Ideal .f32) :
    k0_pay1 (F := Ideal) (k0_pay12 v6 v7 a b) (k0_pay13 v6 v7 a b) (k0_pay14 v6 v7 a b) (k0_pay15 v6 v7 a b) V S i x w d h z
      = joined (k0_pay11 v6 v7 a b) (k0_pay11 V S (column i x w d h z) (k0_pay10 S)) := rfl

/-- Four sinks loaded one by one, as an index into the array of eight. -/
theorem sinks_loaded (x0 : Vec Ideal S8 .f32) (t : Fin 4) :
    @Eq EReal ((![View.ld x0 (Rect.unit ![0] ![1] inb_S8_S1_0) (Shape.Idx.first (show 0 < S1.numel by decide)), View.ld x0 (Rect.unit ![1] ![1] inb_S8_S1_1) (Shape.Idx.first (show 0 < S1.numel by decide)), View.ld x0 (Rect.unit ![2] ![1] inb_S8_S1_2) (Shape.Idx.first (show 0 < S1.numel by decide)), View.ld x0 (Rect.unit ![3] ![1] inb_S8_S1_3) (Shape.Idx.first (show 0 < S1.numel by decide))] : Fin 4 → EReal) t) (x0 (ix1 ⟨t.val, by omega⟩))
    ∧ @Eq EReal ((![View.ld x0 (Rect.unit ![4] ![1] inb_S8_S1_4) (Shape.Idx.first (show 0 < S1.numel by decide)), View.ld x0 (Rect.unit ![5] ![1] inb_S8_S1_5) (Shape.Idx.first (show 0 < S1.numel by decide)), View.ld x0 (Rect.unit ![6] ![1] inb_S8_S1_6) (Shape.Idx.first (show 0 < S1.numel by decide)), View.ld x0 (Rect.unit ![7] ![1] inb_S8_S1_7) (Shape.Idx.first (show 0 < S1.numel by decide))] : Fin 4 → EReal) t) (x0 (ix1 ⟨4 + t.val, by omega⟩)) := by
  fin_cases t <;> constructor
  all_goals
    refine congrArg x0 (funext fun d => Fin.ext ?_)
    have hd : d = 0 := Subsingleton.elim (α := Fin 1) d 0
    subst hd
    first
    | rfl
    | decide
    | simp

/-- One entry of the stored tile: the attention row of its query against the context's keys and values. -/
theorem out_block (c : Dev nD) (i : grid0.Coords) (arg2 : Memref sig .tc .smem S8 .f32) (harg2 : arg2.IsWhole) (arg3 : Memref sig .tc .vmem S1x8x128x64 .bf16) (harg3 : arg3.IsWhole) (arg4 : Memref sig .tc .vmem S1x2x256x64 .bf16) (harg4 : arg4.IsWhole) (arg5 : Memref sig .tc .vmem S1x2x256x64 .bf16) (harg5 : arg5.IsWhole) (arg6 : Memref sig .tc .vmem S1x128x512 .bf16) (harg6 : arg6.IsWhole)
    (x0 : Vec Ideal S8 .f32) (x1 : Vec Ideal S1x8x128x64 .bf16) (x2 : Vec Ideal S1x2x256x64 .bf16) (x3 : Vec Ideal S1x2x256x64 .bf16) (r : Fin 128) (cc : Fin 512) :
    @Eq EReal (out0_A_4 c i arg2 harg2 arg3 harg3 arg4 harg4 arg5 harg5 arg6 harg6 x0 x1 x2 x3 (ix3 0 r cc))
      (rowAttn (fun k : Fin 256 => ∑ e : Fin 64, x1 (ix4 0 ⟨cc.val / 64, by omega⟩ r e) * x2 (ix4 0 ⟨cc.val / 256, by omega⟩ k e))
        (x0 (ix1 ⟨cc.val / 64, by omega⟩)) (fun k => x3 (ix4 0 ⟨cc.val / 256, by omega⟩ k ⟨cc.val % 64, by omega⟩))) := by
  unfold out0_A_4
  frame_out
  rw [store, joined_at]
  split_ifs with h
  · have eg : (⟨cc.val / 256, by omega⟩ : Fin 2) = 0 := Fin.ext (Nat.div_eq_of_lt h)
    rw [eg]
    refine (soft0 _ _ _ _ _).trans ?_
    refine congr (congr (congrArg rowAttn ?_) ?_) ?_
    · funext k
      refine (scores0 _ _ ⟨cc.val / 64, by omega⟩ r k).trans (Finset.sum_congr rfl fun e _ => ?_)
      pointwise []
    · exact (sink0 _ _ _ _ ⟨cc.val / 64, by omega⟩ r _ rfl).trans (sinks_loaded x0 _).1
    · funext k
      refine (values0 _ _ _).trans ?_
      pointwise []
  · have eg : (⟨cc.val / 256, by omega⟩ : Fin 2) = 1 := Fin.ext (by show cc.val / 256 = 1; omega)
    have et : (⟨4 + (cc.val - 256) / 64, by omega⟩ : Fin 8) = ⟨cc.val / 64, by omega⟩ := Fin.ext (by show 4 + (cc.val - 256) / 64 = cc.val / 64; omega)
    rw [eg, ← et]
    refine (soft0 _ _ _ _ _).trans ?_
    refine congr (congr (congrArg rowAttn ?_) ?_) ?_
    · funext k
      refine (scores1 _ _ ⟨(cc.val - 256) / 64, by omega⟩ r k).trans (Finset.sum_congr rfl fun e _ => ?_)
      pointwise []
    · exact (sink1 _ _ _ _ ⟨(cc.val - 256) / 64, by omega⟩ r _ rfl).trans (sinks_loaded x0 _).2
    · funext k
      refine (values1 _ _ _).trans ?_
      pointwise []

/-! Then the array after the whole grid. -/

/-- Which block of each operand a grid step sees: batch `t / 2`, tile `t % 2` of the queries and of the result. -/
theorem idx : ∀ t : Fin cfg0.N,
    win0_0.index t = ![0]
    ∧ win0_1.index t = ![t.val / 2, 0, t.val % 2, 0]
    ∧ win0_2.index t = ![t.val / 2, 0, 0, 0]
    ∧ win0_3.index t = ![t.val / 2, 0, 0, 0]
    ∧ win0_4.index t = ![t.val / 2, t.val % 2, 0] :=
  (by decide +kernel : ∀ t : Fin grid0.N, _)

theorem points (t : Fin cfg0.N) : t.val < 8 := t.isLt

/-- The batch of a grid step, and the position of row `r` of its tile. -/
def batch (t : Fin cfg0.N) : Fin 4 := ⟨t.val / 2, by have := points t; omega⟩
def position (t : Fin cfg0.N) (r : Fin 128) : Fin 256 := ⟨t.val % 2 * 128 + r.val, by omega⟩

variable (m : (ℓ : Loc nD τ sig) → Buf (Elt Ideal) ℓ) (c : Dev nD)

theorem queries_read (x : Vec Ideal S4x256x8x64 .f32) (hx : m ((c : Thread nD τ).loc main_arg0) = x) (b : Fin 4) (h : Fin 8) (l : Fin 256) (e : Fin 64) :
    @Eq EReal (Gen.V m c main_v3 (ix4 b h l e)) (x (ix4 b l h e) * Ideal.ofBits .f32 0x3E000000#32) := by
  subst hx
  simp only [Gen.V, hostOps0]
  entry_read
  pointwise []

theorem keys_read (x : Vec Ideal S4x256x2x64 .f32) (hx : m ((c : Thread nD τ).loc main_arg1) = x) (b : Fin 4) (g : Fin 2) (k : Fin 256) (e : Fin 64) :
    @Eq EReal (Gen.V m c main_v5 (ix4 b g k e)) (x (ix4 b k g e)) := by
  subst hx
  simp only [Gen.V, hostOps0]
  entry_read
  pointwise []

theorem values_read (x : Vec Ideal S4x256x2x64 .f32) (hx : m ((c : Thread nD τ).loc main_arg2) = x) (b : Fin 4) (g : Fin 2) (k : Fin 256) (e : Fin 64) :
    @Eq EReal (Gen.V m c main_v7 (ix4 b g k e)) (x (ix4 b k g e)) := by
  subst hx
  simp only [Gen.V, hostOps0]
  entry_read
  pointwise []

theorem sinks_at (t : Fin cfg0.N) (x : Vec Ideal S8 .f32) (hx : m ((c : Thread nD τ).loc main_arg3) = x) (h : Fin 8) :
    @Eq EReal (iblk m c 0 t (ix1 h)) (x (ix1 h)) := by
  subst hx
  have e : iblk m c 0 t (ix1 h) = Gen.V m c main_arg3 (ix1 h) := by blk_ext [iblk, idx t]
  exact e.trans (congrFun (V_main_arg3 m c) _)

theorem queries_at (t : Fin cfg0.N) (x : Vec Ideal S4x256x8x64 .f32) (hx : m ((c : Thread nD τ).loc main_arg0) = x) (h : Fin 8) (r : Fin 128) (e : Fin 64) :
    @Eq EReal (iblk m c 1 t (ix4 0 h r e)) (x (ix4 (batch t) (position t r) h e) * Ideal.ofBits .f32 0x3E000000#32) := by
  have e1 : iblk m c 1 t (ix4 0 h r e) = Gen.V m c main_v3 (ix4 (batch t) h (position t r) e) := by blk_ext [iblk, idx t, batch, position]
  exact Eq.trans e1 (queries_read m c x hx _ _ _ _)

theorem keys_at (t : Fin cfg0.N) (x : Vec Ideal S4x256x2x64 .f32) (hx : m ((c : Thread nD τ).loc main_arg1) = x) (g : Fin 2) (k : Fin 256) (e : Fin 64) :
    @Eq EReal (iblk m c 2 t (ix4 0 g k e)) (x (ix4 (batch t) k g e)) := by
  have e1 : iblk m c 2 t (ix4 0 g k e) = Gen.V m c main_v5 (ix4 (batch t) g k e) := by blk_ext [iblk, idx t, batch]
  exact Eq.trans e1 (keys_read m c x hx _ _ _ _)

theorem values_at (t : Fin cfg0.N) (x : Vec Ideal S4x256x2x64 .f32) (hx : m ((c : Thread nD τ).loc main_arg2) = x) (g : Fin 2) (k : Fin 256) (e : Fin 64) :
    @Eq EReal (iblk m c 3 t (ix4 0 g k e)) (x (ix4 (batch t) k g e)) := by
  have e1 : iblk m c 3 t (ix4 0 g k e) = Gen.V m c main_v7 (ix4 (batch t) g k e) := by blk_ext [iblk, idx t, batch]
  exact Eq.trans e1 (values_read m c x hx _ _ _ _)

/-- The entry at batch `b`, position `l` and channel `cc`, over the arguments. -/
def entry (q : Vec Ideal S4x256x8x64 .f32) (k v : Vec Ideal S4x256x2x64 .f32) (z : Vec Ideal S8 .f32) (b : Fin 4) (l : Fin 256) (cc : Fin 512) : EReal :=
  rowAttn (fun i : Fin 256 => ∑ e : Fin 64, q (ix4 b l ⟨cc.val / 64, by omega⟩ e) * Ideal.ofBits .f32 0x3E000000#32 * k (ix4 b i ⟨cc.val / 256, by omega⟩ e))
    (z (ix1 ⟨cc.val / 64, by omega⟩)) (fun i => v (ix4 b i ⟨cc.val / 256, by omega⟩ ⟨cc.val % 64, by omega⟩))

theorem stored (t : Fin cfg0.N) (q : Vec Ideal S4x256x8x64 .f32) (k v : Vec Ideal S4x256x2x64 .f32) (z : Vec Ideal S8 .f32)
    (hq : m ((c : Thread nD τ).loc main_arg0) = q) (hk : m ((c : Thread nD τ).loc main_arg1) = k) (hv : m ((c : Thread nD τ).loc main_arg2) = v)
    (hz : m ((c : Thread nD τ).loc main_arg3) = z) (r : Fin 128) (cc : Fin 512) :
    @Eq EReal (outsAt0 m c t (ix3 0 r cc)) (entry q k v z (batch t) (position t r) cc) := by
  unfold outsAt0
  refine (out_block _ _ _ _ _ _ _ _ _ _ _ _ _ _ _ _ r cc).trans ?_
  unfold entry
  refine congr (congr (congrArg rowAttn (funext fun i => ?_)) ?_) (funext fun i => ?_)
  · refine Finset.sum_congr rfl fun e _ => congr (congrArg HMul.hMul ?_) ?_
    · exact queries_at m c t q hq _ _ _
    · exact keys_at m c t k hk _ _ _
  · exact sinks_at m c t z hz _
  · exact values_at m c t v hv _ _ _

/-- `entry` as an array of the result's shape. -/
def entries3 (q : Vec Ideal S4x256x8x64 .f32) (k v : Vec Ideal S4x256x2x64 .f32) (z : Vec Ideal S8 .f32) : Vec Ideal S4x256x512 .bf16 :=
  fun y => entry q k v z ⟨(y 0).val, (y 0).isLt⟩ ⟨(y 1).val, (y 1).isLt⟩ ⟨(y 2).val, (y 2).isLt⟩

theorem final (q : Vec Ideal S4x256x8x64 .f32) (k v : Vec Ideal S4x256x2x64 .f32) (z : Vec Ideal S8 .f32)
    (hq : m ((c : Thread nD τ).loc main_arg0) = q) (hk : m ((c : Thread nD τ).loc main_arg1) = k) (hv : m ((c : Thread nD τ).loc main_arg2) = v)
    (hz : m ((c : Thread nD τ).loc main_arg3) = z) :
    (dats m 0 c).arrAt 4 cfg0.N = entries3 q k v z := by
  refine (dats m 0 c).arrAt_eq_of_covers 4 _ (by decide +kernel) fun t _ y => ?_
  blk_simp
  rw [after0_4]
  have e1 : outsAt0 m c t y = outsAt0 m c t (ix3 0 ⟨(y 1).val, (y 1).isLt⟩ ⟨(y 2).val, (y 2).isLt⟩) := by blk_ext []
  refine e1.trans ((stored m c t q k v z hq hk hv hz _ _).trans ?_)
  unfold entries3
  have ht := points t
  have hy : (y 1).val < 128 := (y 1).isLt
  have hy0 : (y 0).val < 1 := (y 0).isLt
  refine congr (congr (congrArg (entry q k v z) (Fin.ext ?_)) (Fin.ext ?_)) (Fin.ext ?_)
  all_goals
    show _ = _
    blk_simp [idx t, batch, position]
    try dsimp only
    try omega

end Cert.ContextAttention

namespace Cert.ContextAttention.Ref

open Cert.Reference11Ideal Idealize.ShloMosaic Idealize.ShloMosaic.TcCoe Idealize.SL.Sem
open Cert.Reference11Ideal.Gen
open Cert.Attention (negInf)

/-! The reference's text in stages, each read at one position. -/

/-- The scaled scores of the context's keys. -/
def scaled (q : Vec Ideal S4x256x8x64 .f32) (k : Vec Ideal S4x256x2x64 .f32) : Vec Ideal S4x2x4x256x256 .f32 :=
  mulf (F := Ideal) (φ := .f32) (transpose S4x2x4x256x256 [0, 1, 4, 3, 2] (Host.dotGeneral (F := Ideal) (φ₁ := .f32) (φ₂ := .f32) dot_S4x256x2x64_S4x256x2x4x64_S4x2x256x256x4_3_4_1_13_02_02 none k (shapeCast _ q shapeCasts_S4x256x8x64_S4x256x2x4x64)) transposes_S4x2x256x256x4_S4x2x4x256x256_0_1_4_3_2)
    (broadcastInDim S4x2x4x256x256 ![] bcast_S_S4x2x4x256x256 (constant (F := Ideal) S_ .f32 0x3E000000#32))

/-- All the scores of a query: the sink's, then the context's. -/
def scores (q : Vec Ideal S4x256x8x64 .f32) (k : Vec Ideal S4x256x2x64 .f32) (sink : Vec Ideal S8 .f32) : Vec Ideal S4x2x4x256x257 .f32 :=
  concatenate S4x2x4x256x257 4 [
    ⟨S4x2x4x256x1, (broadcastInDim S4x2x4x256x1 ![0, 1, 2, 3, 4] bcast_S1x2x4x1x1_S4x2x4x256x1_0_1_2_3_4 (shapeCast _ sink shapeCasts_S8_S1x2x4x1x1) : Vec Ideal S4x2x4x256x1 .f32)⟩,
    ⟨S4x2x4x256x256, scaled q k⟩]
    concatenates_S4x2x4x256x1_S4x2x4x256x256_S4x2x4x256x257_d4

/-- The greatest score of each query. -/
def top (s : Vec Ideal S4x2x4x256x257 .f32) : Vec Ideal S4x2x4x256 .f32 :=
  maximumf (F := Ideal) (φ := .f32) (broadcastInDim S4x2x4x256 ![] bcast_S_S4x2x4x256 (constant (F := Ideal) S_ .f32 0xFF800000#32)) (Host.reduce (FloatOps.maximumf (F := Ideal) (φ := .f32)) s (constant (F := Ideal) S_ .f32 0xFF800000#32) reducesTo_S4x2x4x256x257_S4x2x4x256_d4 h_S_)

/-- A number for each query, repeated over its keys. -/
def spread (u : Vec Ideal S4x2x4x256 .f32) : Vec Ideal S4x2x4x256x257 .f32 :=
  broadcastInDim S4x2x4x256x257 ![0, 1, 2, 3, 4] bcast_S4x2x4x256x1_S4x2x4x256x257_0_1_2_3_4 (broadcastInDim S4x2x4x256x1 ![0, 1, 2, 3] bcast_S4x2x4x256_S4x2x4x256x1_0_1_2_3 u)

/-- The exponentials of the scores less a given greatest one. -/
def expo (s : Vec Ideal S4x2x4x256x257 .f32) (u : Vec Ideal S4x2x4x256 .f32) : Vec Ideal S4x2x4x256x257 .f32 :=
  Host.exp (F := Ideal) (φ := .f32) (subf (F := Ideal) (φ := .f32) s (spread u))

/-- The sum of a query's exponentials. -/
def total (e : Vec Ideal S4x2x4x256x257 .f32) : Vec Ideal S4x2x4x256 .f32 :=
  Host.reduceAdd (F := Ideal) (φ := .f32) e (constant (F := Ideal) S_ .f32 0x00000000#32) reducesTo_S4x2x4x256x257_S4x2x4x256_d4 h_S_

/-- The exponentials over a given sum. -/
def weights (e : Vec Ideal S4x2x4x256x257 .f32) (u : Vec Ideal S4x2x4x256 .f32) : Vec Ideal S4x2x4x256x257 .f32 :=
  Host.divf (F := Ideal) (φ := .f32) e (spread u)

/-- The weighted values, summed, in the result's layout. -/
def mix (w : Vec Ideal S4x2x4x256x257 .f32) (v : Vec Ideal S4x256x2x64 .f32) : Vec Ideal S4x256x512 .bf16 :=
  truncf (F := Ideal) (φ := .f32) .bf16 (shapeCast _
    (transpose S4x256x2x4x64 [0, 4, 1, 3, 2] (Host.dotGeneral (F := Ideal) (φ₁ := .f32) (φ₂ := .f32) dot_S4x256x2x64_S4x2x4x256x256_S4x2x64x4x256_1_4_3_23_02_01 none v (extractStridedSlice S4x2x4x256x256 ![0, 0, 0, 0, 1] w slices_S4x2x4x256x257_S4x2x4x256x256_0_0_0_0_1)) transposes_S4x2x64x4x256_S4x256x2x4x64_0_4_1_3_2)
    shapeCasts_S4x256x2x4x64_S4x256x512) bitsLt_bf16_f32

/-- The reference's result. -/
def result (q : Vec Ideal S4x256x8x64 .f32) (k v : Vec Ideal S4x256x2x64 .f32) (sink : Vec Ideal S8 .f32) : Vec Ideal S4x256x512 .bf16 :=
  mix (weights (expo (scores q k sink) (top (scores q k sink))) (total (expo (scores q k sink) (top (scores q k sink))))) v

theorem scaled_apply (q : Vec Ideal S4x256x8x64 .f32) (k : Vec Ideal S4x256x2x64 .f32) (b : Fin 4) (g : Fin 2) (t : Fin 4) (l : Fin 256) (j : Fin 256) :
    scaled q k (ix5 b g t l j) = (∑ x : Fin 64, k (ix4 b j g x) * q (ix4 b l ⟨g.val * 4 + t.val, by omega⟩ x)) * Ideal.ofBits .f32 0x3E000000#32 := by
  pointwise [scaled]

theorem scores_apply (q : Vec Ideal S4x256x8x64 .f32) (k : Vec Ideal S4x256x2x64 .f32) (sink : Vec Ideal S8 .f32) (b : Fin 4) (g : Fin 2) (t : Fin 4) (l : Fin 256) (j : Fin 257) :
    scores q k sink (ix5 b g t l j) = if h : j.val < 1 then sink (ix1 ⟨g.val * 4 + t.val, by omega⟩) else scaled q k (ix5 b g t l ⟨j.val - 1, by omega⟩) := by
  pointwise [scores]

theorem reduces257 : Shape.Reduces S4x2x4x256x257 [4] S4x2x4x256 := by decide

theorem lift257 (b : Fin 4) (g : Fin 2) (t : Fin 4) (l : Fin 256) (k : Fin 257) : reduces257.lift (ix4 b g t l) k = ix5 b g t l k := by
  funext d
  fin_cases d <;> exact Fin.ext rfl

theorem fold257 (f : EReal → EReal → EReal) [Std.Commutative f] [Std.Associative f] (s : S4x2x4x256x257.Idx → EReal) (init : S_.Idx → EReal) (b : Fin 4) (g : Fin 2) (t : Fin 4) (l : Fin 256) :
    Host.reduce f s init reducesTo_S4x2x4x256x257_S4x2x4x256_d4 h_S_ (ix4 b g t l)
      = Finset.univ.fold f (init (Shape.Idx.first h_S_)) fun k : Fin 257 => s (ix5 b g t l k) := by
  rw [Host.reduce_eq_fold_single f s init _ reduces257 _ _]
  have e : s ∘ reduces257.lift (ix4 b g t l) = fun k : Fin 257 => s (ix5 b g t l k) := funext fun k => congrArg s (lift257 b g t l k)
  rw [e]
  rfl

theorem fold_max (f : Fin 257 → EReal) (x : EReal) : Finset.univ.fold (FloatOps.maximumf (F := Ideal) (φ := .f32)) x f = Finset.univ.fold max x f := rfl

theorem maximumf_at (a b : Vec Ideal S4x2x4x256 .f32) (i : S4x2x4x256.Idx) : maximumf (F := Ideal) (φ := .f32) a b i = max (a i) (b i) := rfl

theorem start_at (i : S4x2x4x256.Idx) : broadcastInDim S4x2x4x256 ![] bcast_S_S4x2x4x256 (constant (F := Ideal) S_ .f32 0xFF800000#32) i = (⊥ : EReal) := negInf

theorem init_at (i : S_.Idx) : (constant (F := Ideal) S_ .f32 0xFF800000#32) i = (⊥ : EReal) := negInf

theorem top_apply (s : Vec Ideal S4x2x4x256x257 .f32) (b : Fin 4) (g : Fin 2) (t : Fin 4) (l : Fin 256) :
    top s (ix4 b g t l) = Finset.univ.fold max ⊥ fun k : Fin 257 => s (ix5 b g t l k) := by
  unfold top
  refine (maximumf_at _ _ _).trans ?_
  rw [start_at, bot_sup_eq]
  refine (fold257 _ _ _ b g t l).trans ?_
  rw [init_at]
  exact fold_max _ _

theorem expo_apply (s : Vec Ideal S4x2x4x256x257 .f32) (u : Vec Ideal S4x2x4x256 .f32) (b : Fin 4) (g : Fin 2) (t : Fin 4) (l : Fin 256) (k : Fin 257) :
    expo s u (ix5 b g t l k) = Ideal.exp (s (ix5 b g t l k) - u (ix4 b g t l)) := by
  pointwise [expo, spread]

theorem total_apply (s : Vec Ideal S4x2x4x256x257 .f32) (b : Fin 4) (g : Fin 2) (t : Fin 4) (l : Fin 256) :
    total s (ix4 b g t l) = ∑ k : Fin 257, s (ix5 b g t l k) := by
  show Ideal.hostReduceAdd reducesTo_S4x2x4x256x257_S4x2x4x256_d4 s (Ideal.ofBits .f32 0#32) (ix4 b g t l) = _
  rw [Ideal.hostReduceAdd_single _ reduces257]
  have h : Ideal.ofBits .f32 0#32 = 0 := by simp [Ideal.ofBits, Ideal.ieee]
  rw [h, zero_add]
  exact Finset.sum_congr rfl fun k _ => congrArg s (lift257 b g t l k)

theorem weights_apply (s : Vec Ideal S4x2x4x256x257 .f32) (u : Vec Ideal S4x2x4x256 .f32) (b : Fin 4) (g : Fin 2) (t : Fin 4) (l : Fin 256) (k : Fin 257) :
    weights s u (ix5 b g t l k) = Ideal.div (s (ix5 b g t l k)) (u (ix4 b g t l)) := by
  pointwise [weights, spread]

theorem mix_apply (w : Vec Ideal S4x2x4x256x257 .f32) (v : Vec Ideal S4x256x2x64 .f32) (b : Fin 4) (l : Fin 256) (c : Fin 512) :
    mix w v (ix3 b l c) =
      ∑ x : Fin 256, v (ix4 b x ⟨c.val / 256, by omega⟩ ⟨c.val % 64, by omega⟩) * w (ix5 b ⟨c.val / 256, by omega⟩ ⟨c.val / 64 % 4, by omega⟩ l ⟨1 + x.val, by omega⟩) := by
  pointwise [mix]

end Cert.ContextAttention.Ref

namespace Cert.ContextAttention

open Cert.Kernel11Ideal Idealize.ShloMosaic Idealize.ShloMosaic.TcCoe Idealize.SL.Sem
open Cert.Attention (rowMax rowAttn refAttn rowAttn_eq scaled_sum real_sum top_split total_split)

/-! The kernel's entry is the reference's. -/

/-- The reference's sum over the sink and the context, as one row over the 256 keys. -/
theorem gather (f : Fin 257 → EReal) (z : EReal) (s w : Fin 256 → EReal) (h0 : f 0 = z) (hs : ∀ k : Fin 256, f k.succ = s k) :
    (∑ x : Fin 256, w x * Ideal.div (Ideal.exp (f ⟨1 + x.val, by omega⟩ - Finset.univ.fold max ⊥ f)) (∑ k, Ideal.exp (f k - Finset.univ.fold max ⊥ f)))
      = refAttn s z w := by
  rw [top_split f z s h0 hs, total_split f z s h0 hs]
  unfold refAttn
  refine Finset.sum_congr rfl fun x _ => ?_
  rw [← hs]
  have e : (⟨1 + x.val, by omega⟩ : Fin 257) = Fin.succ x := Fin.ext (by show 1 + x.val = x.val + 1; omega)
  rw [e]

/-- The kernel's entry is the reference's, for real queries, keys and sinks. -/
theorem entry_eq (q : Vec Ideal S4x256x8x64 .f32) (k v : Vec Ideal S4x256x2x64 .f32) (z : Vec Ideal S8 .f32)
    (hq : ∀ i, ∃ r : ℝ, (q i : EReal) = r) (hk : ∀ i, ∃ r : ℝ, (k i : EReal) = r) (hz : ∀ i, ∃ r : ℝ, (z i : EReal) = r)
    (b : Fin 4) (l : Fin 256) (cc : Fin 512) :
    @Eq EReal (entry q k v z b l cc) (Ref.result q k v z (ix3 b l cc)) := by
  unfold Ref.result
  rw [Ref.mix_apply]
  simp only [Ref.weights_apply, Ref.expo_apply, Ref.total_apply, Ref.top_apply]
  have hh : (⟨cc.val / 256 * 4 + cc.val / 64 % 4, by omega⟩ : Fin 8) = ⟨cc.val / 64, by omega⟩ := Fin.ext (by show cc.val / 256 * 4 + cc.val / 64 % 4 = cc.val / 64; omega)
  unfold entry
  refine (rowAttn_eq _ _ _ _ ?_ (hz _) fun i => Or.inr rfl).trans (gather _ _ _ _ ?_ ?_).symm
  · exact fun i => Or.inr (real_sum _ _ (fun e => hq _) fun e => hk _)
  · rw [Ref.scores_apply, dif_pos (by decide), hh]
  · intro i
    rw [Ref.scores_apply, dif_neg (by show ¬ i.val + 1 < 1; omega), scaled_sum, Ref.scaled_apply, hh]
    rfl

/-- Under the precondition the queries, keys and sinks are real. -/
theorem finite_entries (q : Vec Ideal S4x256x8x64 .f32) (k v : Vec Ideal S4x256x2x64 .f32) (z : Vec Ideal S8 .f32)
    (h : ∀ j, Cert.Pre_finite_context.fn (F := Ideal) q k v z j = 1#1) :
    (∀ i, ∃ r : ℝ, (q i : EReal) = r) ∧ (∀ i, ∃ r : ℝ, (k i : EReal) = r) ∧ (∀ i, ∃ r : ℝ, (z i : EReal) = r) := by
  have h0 := h ix0
  unfold Cert.Pre_finite_context.fn at h0
  obtain ⟨h1, hz⟩ := Cert.Attention.and_one h0
  obtain ⟨hq, hk⟩ := Cert.Attention.and_one h1
  exact ⟨Cert.Attention.entries q _ (fun _ => Cert.Attention.infBits) _ _ hq, Cert.Attention.entries k _ (fun _ => Cert.Attention.infBits) _ _ hk, Cert.Attention.entries z _ (fun _ => Cert.Attention.infBits) _ _ hz⟩

theorem array_eq (q : Vec Ideal S4x256x8x64 .f32) (k v : Vec Ideal S4x256x2x64 .f32) (z : Vec Ideal S8 .f32)
    (h : ∀ i, Cert.Pre_finite_context.fn (F := Ideal) q k v z i = 1#1) : entries3 q k v z = Ref.result q k v z := by
  obtain ⟨hq, hk, hz⟩ := finite_entries q k v z h
  funext y
  refine Eq.trans (entry_eq q k v z hq hk hz ⟨(y 0).val, (y 0).isLt⟩ ⟨(y 1).val, (y 1).isLt⟩ ⟨(y 2).val, (y 2).isLt⟩) (congrArg _ (funext fun d => ?_))
  fin_cases d <;> rfl

/-- The reference's run leaves the staged reference. -/
theorem reference_result (m : (ℓ : Loc Cert.Reference11Ideal.nD Cert.Reference11Ideal.τ Cert.Reference11Ideal.sig) → Buf (Elt Ideal) ℓ) (c : Dev Cert.Reference11Ideal.nD) :
    Cert.Reference11Ideal.Value.res_main_v23 m c = Ref.result (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) := by
  unfold Cert.Reference11Ideal.Value.res_main_v23
  rfl

theorem context_value : Cert.algebraic_Kernel11Ideal_Reference11Ideal_pre_finite_context (hKernel11Ideal := Cert.Kernel11Ideal.Gen.facts) (hReference11Ideal := Cert.Reference11Ideal.Gen.facts) (hPre_finite_context := Cert.Pre_finite_context.Gen.facts) := by
  intro m g m' g' hpre hagree
  refine ⟨_, (θ_run Cert.Kernel11Ideal.defs _ _).mono (fun r h c => ⟨((h c).1.trans (final m c _ _ _ _ rfl rfl rfl rfl)), (h c).2⟩) (Cert.Kernel11Ideal.Value.run_blocks m g),
    (θ_run Cert.Reference11Ideal.defs _ _).mono (fun r h c => ⟨(h c).1.trans ?_, (h c).2⟩) (Cert.Reference11Ideal.Value.run m' g')⟩
  obtain ⟨h0, h1, h2, h3⟩ := hagree c
  rw [reference_result, h0, h1, h2, h3]
  exact (array_eq _ _ _ _ fun i => congrFun (hpre c) i).symm

end Cert.ContextAttention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_context
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Reference11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Attention
public import proofs.«01_k».proof.Proof.Projection
public import proofs.«01_k».proof.Proof.Merge
public import proofs.«01_k».proof.Proof.Norm
public import proofs.«01_k».proof.Proof.NormColumns
public import proofs.«01_k».proof.Proof.ShortConv
public import proofs.«01_k».proof.Proof.HyenaGate
public import proofs.«01_k».proof.Proof.Readout
public import proofs.«01_k».proof.Proof.Modulation
public import proofs.«01_k».proof.Proof.RotaryHeads
public import proofs.«01_k».proof.Proof.ContextAttention
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.Pre_finite_context.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => (θ_run Cert.ReferenceIdeal.defs _ _).mono (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2.2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2.2.2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2.2.2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => Cert.Kernel11Ideal.Gen.frame m ρ,
  fun m ρ _ => (θ_run Cert.Reference11Ideal.defs _ _).mono (fun r h => ⟨fun c => (h c).2, sem_eq_zero_of_no_sems (by decide) r.2⟩) (Cert.Reference11Ideal.Value.run m ρ),
  fun m ρ _ => (θ_run Cert.Reference11Ideal.defs _ _).mono (fun r h => ⟨fun c => (h c).2, sem_eq_zero_of_no_sems (by decide) r.2⟩) (Cert.Reference11Ideal.Value.run m ρ),
  trivial,
  Cert.Attention.attention_value,
  trivial,
  Cert.Projection.projection_value,
  trivial,
  Cert.Merge.merge_value,
  trivial,
  Cert.Norm.norm_value,
  trivial,
  Cert.NormColumns.norm_value,
  trivial,
  Cert.ShortConv.conv_value,
  trivial,
  Cert.HyenaGate.gate_value,
  trivial,
  Cert.Readout.readout_value,
  trivial,
  Cert.Modulation.modulation_value,
  trivial,
  Cert.RotaryHeads.rotary_value,
  trivial,
  Cert.ContextAttention.context_value⟩

end Cert.Proof

end
